-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "score_log2" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v177_0) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_v177_1) = v4 c
          ∧ r.2.mem ((c.tc : Thread Cert.ReferenceIdeal.nD Cert.ReferenceIdeal.τ).loc Cert.ReferenceIdeal.main_v172) = v5 c
          ∧ r.2.mem ((c.tc : Thread Cert.ReferenceIdeal.nD Cert.ReferenceIdeal.τ).loc Cert.ReferenceIdeal.main_v43) = v6 c
          ∧ r.2.mem ((c.tc : Thread Cert.ReferenceIdeal.nD Cert.ReferenceIdeal.τ).loc Cert.ReferenceIdeal.main_v177_2) = v7 c
          ∧ r.2.mem ((c.tc : Thread Cert.ReferenceIdeal.nD Cert.ReferenceIdeal.τ).loc Cert.ReferenceIdeal.main_v173) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S8x2048x256 : Shape := ⟨3, ![8, 2048, 256]⟩
abbrev S8x8x2048 : Shape := ⟨3, ![8, 8, 2048]⟩
abbrev S8x8x16x128 : Shape := ⟨4, ![8, 8, 16, 128]⟩
abbrev S8x2x2048x128 : Shape := ⟨4, ![8, 2, 2048, 128]⟩
abbrev S8x2x32 : Shape := ⟨3, ![8, 2, 32]⟩
abbrev S8x2x128 : Shape := ⟨3, ![8, 2, 128]⟩
abbrev S1x2048x512 : Shape := ⟨3, ![1, 2048, 512]⟩
abbrev S1x2048x128 : Shape := ⟨3, ![1, 2048, 128]⟩
abbrev S1x8x2048 : Shape := ⟨3, ![1, 8, 2048]⟩
abbrev S1x4x16x128 : Shape := ⟨4, ![1, 4, 16, 128]⟩
abbrev S1x1x2048x128 : Shape := ⟨4, ![1, 1, 2048, 128]⟩
abbrev S1x2x32 : Shape := ⟨3, ![1, 2, 32]⟩
abbrev S1x2x128 : Shape := ⟨3, ![1, 2, 128]⟩
abbrev S2x2048x512 : Shape := ⟨3, ![2, 2048, 512]⟩
abbrev S2048x128 : Shape := ⟨2, ![2048, 128]⟩
abbrev S128x2048 : Shape := ⟨2, ![128, 2048]⟩
abbrev S32x8x128 : Shape := ⟨3, ![32, 8, 128]⟩
abbrev S2x512x128 : Shape := ⟨3, ![2, 512, 128]⟩
abbrev S2x8x512 : Shape := ⟨3, ![2, 8, 512]⟩
abbrev S128 : Shape := ⟨1, ![128]⟩
abbrev S1x128 : Shape := ⟨2, ![1, 128]⟩
abbrev S2x128 : Shape := ⟨2, ![2, 128]⟩
abbrev S1x32 : Shape := ⟨2, ![1, 32]⟩
abbrev S1x64x128 : Shape := ⟨3, ![1, 64, 128]⟩
abbrev S64x128 : Shape := ⟨2, ![64, 128]⟩
abbrev S1 : Shape := ⟨1, ![1]⟩
abbrev S1x1 : Shape := ⟨2, ![1, 1]⟩
abbrev S1x1x64x128 : Shape := ⟨4, ![1, 1, 64, 128]⟩
abbrev S8x128 : Shape := ⟨2, ![8, 128]⟩
abbrev S1x8x128 : Shape := ⟨3, ![1, 8, 128]⟩
abbrev S1x1x32 : Shape := ⟨3, ![1, 1, 32]⟩
abbrev S256x8x128 : Shape := ⟨3, ![256, 8, 128]⟩
abbrev S1x1x128 : Shape := ⟨3, ![1, 1, 128]⟩
abbrev S1x128x128 : Shape := ⟨3, ![1, 128, 128]⟩
abbrev S128x128 : Shape := ⟨2, ![128, 128]⟩
abbrev S1x1x128x128 : Shape := ⟨4, ![1, 1, 128, 128]⟩
abbrev S64x512 : Shape := ⟨2, ![64, 512]⟩
abbrev S1x1x1x128 : Shape := ⟨4, ![1, 1, 1, 128]⟩
abbrev S1x1x2x128 : Shape := ⟨4, ![1, 1, 2, 128]⟩
abbrev S128x1 : Shape := ⟨2, ![128, 1]⟩
abbrev S8x512 : Shape := ⟨2, ![8, 512]⟩
abbrev S1x512x128 : Shape := ⟨3, ![1, 512, 128]⟩
abbrev S512x128 : Shape := ⟨2, ![512, 128]⟩
abbrev S128x512 : Shape := ⟨2, ![128, 512]⟩
abbrev S1x8x512 : Shape := ⟨3, ![1, 8, 512]⟩
abbrev S8x8x512 : Shape := ⟨3, ![8, 8, 512]⟩
abbrev S1x64x512 : Shape := ⟨3, ![1, 64, 512]⟩
abbrev S512 : Shape := ⟨1, ![512]⟩
abbrev S1x512 : Shape := ⟨2, ![1, 512]⟩
abbrev S1x1x256x128 : Shape := ⟨4, ![1, 1, 256, 128]⟩
abbrev S256x128 : Shape := ⟨2, ![256, 128]⟩
abbrev S256x512 : Shape := ⟨2, ![256, 512]⟩
abbrev S128x256 : Shape := ⟨2, ![128, 256]⟩

abbrev nBuf : Space → Nat
  | .hbm => 12
  | .vmem => 31
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x256, .bf16⟩
  | .hbm, ⟨2, _⟩ => ⟨S8x2048x256, .bf16⟩
  | .hbm, ⟨3, _⟩ => ⟨S8x2048x1024, .bf16⟩
  | .hbm, ⟨4, _⟩ => ⟨S8x2048x1024, .fp8e4m3⟩
  | .hbm, ⟨5, _⟩ => ⟨S8x8x2048, .f32⟩
  | .hbm, ⟨6, _⟩ => ⟨S8x8x16x128, .bf16⟩
  | .hbm, ⟨7, _⟩ => ⟨S8x2x2048x128, .fp8e4m3⟩
  | .hbm, ⟨8, _⟩ => ⟨S8x2x32, .f32⟩
  | .hbm, ⟨9, _⟩ => ⟨S8x2x128, .bf16⟩
  | .hbm, ⟨10, _⟩ => ⟨S8x2x2048x128, .fp8e4m3⟩
  | .hbm, ⟨11, _⟩ => ⟨S8x2x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .fp8e4m3⟩
  | .local _ .vmem, ⟨9, _⟩ => ⟨S1x2048x512, .fp8e4m3⟩
  | .local _ .vmem, ⟨10, _⟩ => ⟨S1x8x2048, .f32⟩
  | .local _ .vmem, ⟨11, _⟩ => ⟨S1x8x2048, .f32⟩
  | .local _ .vmem, ⟨12, _⟩ => ⟨S1x4x16x128, .bf16⟩
  | .local _ .vmem, ⟨13, _⟩ => ⟨S1x4x16x128, .bf16⟩
  | .local _ .vmem, ⟨14, _⟩ => ⟨S1x1x2048x128, .fp8e4m3⟩
  | .local _ .vmem, ⟨15, _⟩ => ⟨S1x1x2048x128, .fp8e4m3⟩
  | .local _ .vmem, ⟨16, _⟩ => ⟨S1x2x32, .f32⟩
  | .local _ .vmem, ⟨17, _⟩ => ⟨S1x2x32, .f32⟩
  | .local _ .vmem, ⟨18, _⟩ => ⟨S1x2x128, .bf16⟩
  | .local _ .vmem, ⟨19, _⟩ => ⟨S1x2x128, .bf16⟩
  | .local _ .vmem, ⟨20, _⟩ => ⟨S1x1x2048x128, .fp8e4m3⟩
  | .local _ .vmem, ⟨21, _⟩ => ⟨S1x1x2048x128, .fp8e4m3⟩
  | .local _ .vmem, ⟨22, _⟩ => ⟨S1x2x128, .f32⟩
  | .local _ .vmem, ⟨23, _⟩ => ⟨S1x2x128, .f32⟩
  | .local _ .vmem, ⟨24, _⟩ => ⟨S2x2048x512, .f32⟩
  | .local _ .vmem, ⟨25, _⟩ => ⟨S2048x128, .bf16⟩
  | .local _ .vmem, ⟨26, _⟩ => ⟨S128x2048, .fp8e4m3⟩
  | .local _ .vmem, ⟨27, _⟩ => ⟨S32x8x128, .f32⟩
  | .local _ .vmem, ⟨28, _⟩ => ⟨S2x512x128, .fp8e4m3⟩
  | .local _ .vmem, ⟨29, _⟩ => ⟨S2x512x128, .bf16⟩
  | .local _ .vmem, ⟨30, _⟩ => ⟨S2x8x512, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 2], ![false, false]⟩

def k0_off1 (i : grid0.Coords) : Fin 3 → Nat :=
  let c0_997 : Index := 0#32
  let arg1 : BitVec 32 := BitVec.ofNat 32 (i 1).val
  let v2514 : Index := Scalar.indexCast arg1
  let c0_998 : Index := 0#32
  ![0, v2514.toNat, 0]
def k0_off2 (i : grid0.Coords) : Fin 3 → Nat :=
  let c0_1020 : Index := 0#32
  let arg1 : BitVec 32 := BitVec.ofNat 32 (i 1).val
  let v2567 : Index := Scalar.indexCast arg1
  let c0_1021 : Index := 0#32
  ![0, v2567.toNat, 0]
def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_3 : BitVec 32 := 0#32
  let v12 : BitVec 1 := Scalar.cmpi .ne v11 c0_i32_3
  v12

def k0_cond2 (i : grid0.Coords) : BitVec 1 :=
  let arg1 : BitVec 32 := BitVec.ofNat 32 (i 1).val
  let c0_i32_4 : BitVec 32 := 0#32
  let v13 : BitVec 1 := Scalar.cmpi .sgt arg1 c0_i32_4
  let v14 : BitVec 32 := Scalar.extui v13
  let c0_i32_5 : BitVec 32 := 0#32
  let v15 : BitVec 1 := Scalar.cmpi .ne v14 c0_i32_5
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x16x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2_e" => some (((Real.log 2)⁻¹ : ℝ) : EReal)
  | "score_log2" => some (((Real.sqrt 128)⁻¹ * (Real.log 2)⁻¹ : ℝ) : EReal)
  | _ => none
-- ==== ReferenceIdeal.lean ====
abbrev S8x2048x1024 : Shape := ⟨3, ![8, 2048, 1024]⟩
abbrev S8x2048x256 : Shape := ⟨3, ![8, 2048, 256]⟩
abbrev S8x16x128x8x128 : Shape := ⟨5, ![8, 16, 128, 8, 128]⟩
abbrev S_ : Shape := ⟨0, ![]⟩
abbrev S8x16x8x128 : Shape := ⟨4, ![8, 16, 8, 128]⟩
abbrev S8x16x1x8x128 : Shape := ⟨5, ![8, 16, 1, 8, 128]⟩
abbrev S8x16x128x8 : Shape := ⟨4, ![8, 16, 128, 8]⟩
abbrev S8x16x128x8x1 : Shape := ⟨5, ![8, 16, 128, 8, 1]⟩
abbrev S8x2048x2x128 : Shape := ⟨4, ![8, 2048, 2, 128]⟩
abbrev S8x2x128 : Shape := ⟨3, ![8, 2, 128]⟩
abbrev S8x1x2x128 : Shape := ⟨4, ![8, 1, 2, 128]⟩
abbrev S8x32x64x2x128 : Shape := ⟨5, ![8, 32, 64, 2, 128]⟩
abbrev S8x32x2 : Shape := ⟨3, ![8, 32, 2]⟩
abbrev S8x32x1x2x1 : Shape := ⟨5, ![8, 32, 1, 2, 1]⟩
abbrev S8x2048x2x4x128 : Shape := ⟨5, ![8, 2048, 2, 4, 128]⟩
abbrev S8x2048x2x4 : Shape := ⟨4, ![8, 2048, 2, 4]⟩
abbrev S8x2x2048x2048x4 : Shape := ⟨5, ![8, 2, 2048, 2048, 4]⟩
abbrev S8x2x4x2048x2048 : Shape := ⟨5, ![8, 2, 4, 2048, 2048]⟩
abbrev S8x16x2x4x128 : Shape := ⟨5, ![8, 16, 2, 4, 128]⟩
abbrev S8x2x2048x16x4 : Shape := ⟨5, ![8, 2, 2048, 16, 4]⟩
abbrev S8x2x4x16x2048 : Shape := ⟨5, ![8, 2, 4, 16, 2048]⟩
abbrev S8x2x4x2048 : Shape := ⟨4, ![8, 2, 4, 2048]⟩
abbrev S8x2x4x2048x1 : Shape := ⟨5, ![8, 2, 4, 2048, 1]⟩
abbrev S8x2x4x16x128x2048 : Shape := ⟨6, ![8, 2, 4, 16, 128, 2048]⟩
abbrev S8x2x4x16x1x2048 : Shape := ⟨6, ![8, 2, 4, 16, 1, 2048]⟩
abbrev S8x32x1x2 : Shape := ⟨4, ![8, 32, 1, 2]⟩
abbrev S8x32x64x2 : Shape := ⟨4, ![8, 32, 64, 2]⟩
abbrev S8x2048x2 : Shape := ⟨3, ![8, 2048, 2]⟩
abbrev S8x2x2048 : Shape := ⟨3, ![8, 2, 2048]⟩
abbrev S8x2x1x1x2048 : Shape := ⟨5, ![8, 2, 1, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2x128x4x2048 : Shape := ⟨5, ![8, 2, 128, 4, 2048]⟩
abbrev S8x1x2x1x128 : Shape := ⟨5, ![8, 1, 2, 1, 128]⟩
abbrev S8x2048x2x4x1 : Shape := ⟨5, ![8, 2048, 2, 4, 1]⟩
abbrev S8x2048x8 : Shape := ⟨3, ![8, 2048, 8]⟩
abbrev S8x8x2048 : Shape := ⟨3, ![8, 8, 2048]⟩
abbrev S8x8x16x128 : Shape := ⟨4, ![8, 8, 16, 128]⟩
abbrev S8x2x32 : Shape := ⟨3, ![8, 2, 32]⟩
abbrev S8x2x2048x128 : Shape := ⟨4, ![8, 2, 2048, 128]⟩

abbrev nBuf : Space → Nat
  | .hbm => 246
  | .vmem => 6
  | .smem => 0
  | _ => 0

abbrev hbmTy0_0 (i : Nat) : BufTy := match i % 128 with
  | 0 => ⟨S8x2048x1024, .bf16⟩
  | 1 => ⟨S8x2048x256, .bf16⟩
  | 2 => ⟨S8x2048x256, .bf16⟩
  | 3 => ⟨S8x2048x1024, .f32⟩
  | 4 => ⟨S8x16x128x8x128, .f32⟩
  | 5 => ⟨S_, .f32⟩
  | 6 => ⟨S8x16x8x128, .f32⟩
  | 7 => ⟨S_, .f32⟩
  | 8 => ⟨S8x16x8x128, .f32⟩
  | 9 => ⟨S8x16x8x128, .f32⟩
  | 10 => ⟨S8x16x8x128, .bf16⟩
  | 11 => ⟨S8x16x8x128, .f32⟩
  | 12 => ⟨S8x16x1x8x128, .f32⟩
  | 13 => ⟨S8x16x128x8x128, .f32⟩
  | 14 => ⟨S8x16x128x8x128, .f32⟩
  | 15 => ⟨S8x16x128x8x128, .f32⟩
  | 16 => ⟨S_, .f32⟩
  | 17 => ⟨S8x16x128x8, .f32⟩
  | 18 => ⟨S8x16x128x8x1, .f32⟩
  | 19 => ⟨S_, .f32⟩
  | 20 => ⟨S8x16x128x8x1, .f32⟩
  | 21 => ⟨S8x16x128x8x1, .f32⟩
  | 22 => ⟨S_, .f32⟩
  | 23 => ⟨S_, .f32⟩
  | 24 => ⟨S8x16x128x8x1, .f32⟩
  | 25 => ⟨S8x16x128x8x1, .f32⟩
  | 26 => ⟨S8x16x128x8x1, .f32⟩
  | 27 => ⟨S8x16x128x8x1, .f32⟩
  | 28 => ⟨S_, .f32⟩
  | 29 => ⟨S8x16x128x8x1, .f32⟩
  | 30 => ⟨S8x16x128x8x1, .f32⟩
  | 31 => ⟨S_, .f32⟩
  | 32 => ⟨S8x16x128x8x1, .f32⟩
  | 33 => ⟨S8x16x128x8x1, .i1⟩
  | 34 => ⟨S_, .f32⟩
  | 35 => ⟨S8x16x128x8x1, .f32⟩
  | 36 => ⟨S8x16x128x8x1, .i1⟩
  | 37 => ⟨S8x16x128x8x1, .i1⟩
  | 38 => ⟨S_, .f32⟩
  | 39 => ⟨S_, .f32⟩
  | 40 => ⟨S8x16x128x8x1, .f32⟩
  | 41 => ⟨S8x16x128x8x1, .f32⟩
  | 42 => ⟨S8x16x128x8x1, .f32⟩
  | 43 => ⟨S8x16x128x8x1, .f32⟩
  | 44 => ⟨S8x16x128x8x1, .f32⟩
  | 45 => ⟨S8x16x128x8x1, .f32⟩
  | 46 => ⟨S8x16x128x8x128, .f32⟩
  | 47 => ⟨S8x16x128x8x128, .f32⟩
  | 48 => ⟨S_, .f32⟩
  | 49 => ⟨S_, .f32⟩
  | 50 => ⟨S_, .f32⟩
  | 51 => ⟨S8x16x128x8x128, .f32⟩
  | 52 => ⟨S8x16x128x8x128, .f32⟩
  | 53 => ⟨S_, .f32⟩
  | 54 => ⟨S8x16x128x8x128, .f32⟩
  | 55 => ⟨S8x16x128x8x128, .f32⟩
  | 56 => ⟨S8x16x128x8x1, .f32⟩
  | 57 => ⟨S8x16x128x8x1, .f32⟩
  | 58 => ⟨S8x16x128x8x1, .f32⟩
  | 59 => ⟨S8x2048x256, .f32⟩
  | 60 => ⟨S8x2048x2x128, .f32⟩
  | 61 => ⟨S_, .f32⟩
  | 62 => ⟨S8x2x128, .f32⟩
  | 63 => ⟨S_, .f32⟩
  | 64 => ⟨S8x2x128, .f32⟩
  | 65 => ⟨S8x2x128, .f32⟩
  | 66 => ⟨S8x2x128, .bf16⟩
  | 67 => ⟨S8x2x128, .f32⟩
  | 68 => ⟨S8x1x2x128, .f32⟩
  | 69 => ⟨S8x2048x2x128, .f32⟩
  | 70 => ⟨S8x2048x2x128, .f32⟩
  | 71 => ⟨S8x32x64x2x128, .f32⟩
  | 72 => ⟨S8x32x64x2x128, .f32⟩
  | 73 => ⟨S_, .f32⟩
  | 74 => ⟨S8x32x2, .f32⟩
  | 75 => ⟨S8x32x1x2x1, .f32⟩
  | 76 => ⟨S_, .f32⟩
  | 77 => ⟨S8x32x1x2x1, .f32⟩
  | 78 => ⟨S8x32x1x2x1, .f32⟩
  | 79 => ⟨S_, .f32⟩
  | 80 => ⟨S_, .f32⟩
  | 81 => ⟨S8x32x1x2x1, .f32⟩
  | 82 => ⟨S8x32x1x2x1, .f32⟩
  | 83 => ⟨S8x32x1x2x1, .f32⟩
  | 84 => ⟨S8x32x1x2x1, .f32⟩
  | 85 => ⟨S_, .f32⟩
  | 86 => ⟨S8x32x1x2x1, .f32⟩
  | 87 => ⟨S8x32x1x2x1, .f32⟩
  | 88 => ⟨S_, .f32⟩
  | 89 => ⟨S8x32x1x2x1, .f32⟩
  | 90 => ⟨S8x32x1x2x1, .i1⟩
  | 91 => ⟨S_, .f32⟩
  | 92 => ⟨S8x32x1x2x1, .f32⟩
  | 93 => ⟨S8x32x1x2x1, .i1⟩
  | 94 => ⟨S8x32x1x2x1, .i1⟩
  | 95 => ⟨S_, .f32⟩
  | 96 => ⟨S_, .f32⟩
  | 97 => ⟨S8x32x1x2x1, .f32⟩
  | 98 => ⟨S8x32x1x2x1, .f32⟩
  | 99 => ⟨S8x32x1x2x1, .f32⟩
  | 100 => ⟨S8x32x1x2x1, .f32⟩
  | 101 => ⟨S8x32x1x2x1, .f32⟩
  | 102 => ⟨S8x32x1x2x1, .f32⟩
  | 103 => ⟨S8x32x64x2x128, .f32⟩
  | 104 => ⟨S8x32x64x2x128, .f32⟩
  | 105 => ⟨S_, .f32⟩
  | 106 => ⟨S_, .f32⟩
  | 107 => ⟨S_, .f32⟩
  | 108 => ⟨S8x32x64x2x128, .f32⟩
  | 109 => ⟨S8x32x64x2x128, .f32⟩
  | 110 => ⟨S_, .f32⟩
  | 111 => ⟨S8x32x64x2x128, .f32⟩
  | 112 => ⟨S8x32x64x2x128, .f32⟩
  | 113 => ⟨S8x32x1x2x1, .f32⟩
  | 114 => ⟨S8x32x1x2x1, .f32⟩
  | 115 => ⟨S8x32x1x2x1, .f32⟩
  | 116 => ⟨S8x2048x256, .f32⟩
  | 117 => ⟨S8x2048x2x128, .f32⟩
  | 118 => ⟨S8x2048x2x128, .f32⟩
  | 119 => ⟨S_, .f32⟩
  | 120 => ⟨S8x2x128, .f32⟩
  | 121 => ⟨S8x1x2x128, .f32⟩
  | 122 => ⟨S_, .f32⟩
  | 123 => ⟨S8x1x2x128, .f32⟩
  | 124 => ⟨S8x1x2x128, .f32⟩
  | 125 => ⟨S_, .f32⟩
  | 126 => ⟨S_, .f32⟩
  | 127 => ⟨S8x1x2x128, .f32⟩
  | _ => ⟨S8x2048x1024, .bf16⟩

abbrev hbmTy0_1 (i : Nat) : BufTy := match i % 128 with
  | 0 => ⟨S8x1x2x128, .f32⟩
  | 1 => ⟨S8x1x2x128, .f32⟩
  | 2 => ⟨S8x1x2x128, .f32⟩
  | 3 => ⟨S_, .f32⟩
  | 4 => ⟨S8x1x2x128, .f32⟩
  | 5 => ⟨S8x1x2x128, .f32⟩
  | 6 => ⟨S_, .f32⟩
  | 7 => ⟨S8x1x2x128, .f32⟩
  | 8 => ⟨S8x1x2x128, .i1⟩
  | 9 => ⟨S_, .f32⟩
  | 10 => ⟨S8x1x2x128, .f32⟩
  | 11 => ⟨S8x1x2x128, .i1⟩
  | 12 => ⟨S8x1x2x128, .i1⟩
  | 13 => ⟨S_, .f32⟩
  | 14 => ⟨S_, .f32⟩
  | 15 => ⟨S8x1x2x128, .f32⟩
  | 16 => ⟨S8x1x2x128, .f32⟩
  | 17 => ⟨S8x1x2x128, .f32⟩
  | 18 => ⟨S8x1x2x128, .f32⟩
  | 19 => ⟨S8x1x2x128, .f32⟩
  | 20 => ⟨S8x1x2x128, .f32⟩
  | 21 => ⟨S8x2048x2x128, .f32⟩
  | 22 => ⟨S8x2048x2x128, .f32⟩
  | 23 => ⟨S_, .f32⟩
  | 24 => ⟨S_, .f32⟩
  | 25 => ⟨S_, .f32⟩
  | 26 => ⟨S8x2048x2x128, .f32⟩
  | 27 => ⟨S8x2048x2x128, .f32⟩
  | 28 => ⟨S_, .f32⟩
  | 29 => ⟨S8x2048x2x128, .f32⟩
  | 30 => ⟨S8x2048x2x128, .f32⟩
  | 31 => ⟨S8x1x2x128, .f32⟩
  | 32 => ⟨S8x1x2x128, .f32⟩
  | 33 => ⟨S8x1x2x128, .f32⟩
  | 34 => ⟨S8x2048x2x4x128, .f32⟩
  | 35 => ⟨S8x2048x2x4, .f32⟩
  | 36 => ⟨S8x2048x2x128, .f32⟩
  | 37 => ⟨S8x2x2048x2048x4, .f32⟩
  | 38 => ⟨S8x2x4x2048x2048, .f32⟩
  | 39 => ⟨S8x16x8x128, .f32⟩
  | 40 => ⟨S8x16x2x4x128, .f32⟩
  | 41 => ⟨S8x2x2048x16x4, .f32⟩
  | 42 => ⟨S8x2x4x16x2048, .f32⟩
  | 43 => ⟨S8x2x4x2048, .f32⟩
  | 44 => ⟨S8x2x4x2048x1, .f32⟩
  | 45 => ⟨S8x2x4x2048x2048, .f32⟩
  | 46 => ⟨S8x2x4x2048x2048, .f32⟩
  | 47 => ⟨S8x2x4x16x128x2048, .f32⟩
  | 48 => ⟨S8x2x4x16x1x2048, .f32⟩
  | 49 => ⟨S8x2x4x16x128x2048, .f32⟩
  | 50 => ⟨S8x2x4x16x128x2048, .f32⟩
  | 51 => ⟨S8x32x1x2, .f32⟩
  | 52 => ⟨S8x32x64x2, .f32⟩
  | 53 => ⟨S8x2048x2, .f32⟩
  | 54 => ⟨S8x2x2048, .f32⟩
  | 55 => ⟨S8x2x1x1x2048, .f32⟩
  | 56 => ⟨S8x2x4x2048x2048, .f32⟩
  | 57 => ⟨S8x2x4x2048x2048, .f32⟩
  | 58 => ⟨S8x2x4x2048x2048, .f32⟩
  | 59 => ⟨S_, .f32⟩
  | 60 => ⟨S_, .f32⟩
  | 61 => ⟨S8x2x4x2048x2048, .f32⟩
  | 62 => ⟨S8x2x4x2048x2048, .f32⟩
  | 63 => ⟨S2048, .i32⟩
  | 64 => ⟨S1x2048, .i32⟩
  | 65 => ⟨S2048, .i32⟩
  | 66 => ⟨S2048x1, .i32⟩
  | 67 => ⟨S2048x2048, .i32⟩
  | 68 => ⟨S2048x2048, .i32⟩
  | 69 => ⟨S2048x2048, .i1⟩
  | 70 => ⟨S_, .f32⟩
  | 71 => ⟨S_, .f32⟩
  | 72 => ⟨S8x2x4x2048x2048, .i1⟩
  | 73 => ⟨S8x2x4x2048x2048, .f32⟩
  | 74 => ⟨S8x2x4x2048x2048, .f32⟩
  | 75 => ⟨S_, .f32⟩
  | 76 => ⟨S8x2x4x2048, .f32⟩
  | 77 => ⟨S8x2x4x2048x1, .f32⟩
  | 78 => ⟨S8x2x4x2048x2048, .f32⟩
  | 79 => ⟨S8x2x4x2048x2048, .f32⟩
  | 80 => ⟨S8x2x4x2048x2048, .f32⟩
  | 81 => ⟨S_, .f32⟩
  | 82 => ⟨S8x2x4x2048, .f32⟩
  | 83 => ⟨S_, .f32⟩
  | 84 => ⟨S8x2x4x2048x2048, .f32⟩
  | 85 => ⟨S8x2x4x2048x2048, .f32⟩
  | 86 => ⟨S_, .f32⟩
  | 87 => ⟨S8x2x4x2048x2048, .f32⟩
  | 88 => ⟨S8x2x4x2048x2048, .f32⟩
  | 89 => ⟨S8x2x128x4x2048, .f32⟩
  | 90 => ⟨S8x2048x2x4x128, .f32⟩
  | 91 => ⟨S_, .f32⟩
  | 92 => ⟨S8x2048x2x4x128, .f32⟩
  | 93 => ⟨S8x2048x2x4x128, .f32⟩
  | 94 => ⟨S8x1x2x1x128, .f32⟩
  | 95 => ⟨S8x2048x2x4x128, .f32⟩
  | 96 => ⟨S8x2048x2x4x128, .f32⟩
  | 97 => ⟨S_, .f32⟩
  | 98 => ⟨S8x2x4x2048, .f32⟩
  | 99 => ⟨S8x2x4x2048, .f32⟩
  | 100 => ⟨S8x2048x2x4, .f32⟩
  | 101 => ⟨S8x2048x2x4x1, .f32⟩
  | 102 => ⟨S8x2048x2x4x128, .f32⟩
  | 103 => ⟨S8x2048x2x4x128, .f32⟩
  | 104 => ⟨S8x2048x1024, .f32⟩
  | 105 => ⟨S8x2048x1024, .bf16⟩
  | 106 => ⟨S8x2048x8, .f32⟩
  | 107 => ⟨S8x8x2048, .f32⟩
  | 108 => ⟨S8x8x16x128, .bf16⟩
  | 109 => ⟨S8x32x2, .f32⟩
  | 110 => ⟨S8x2x32, .f32⟩
  | 111 => ⟨S8x2x128, .f32⟩
  | 112 => ⟨S8x2048x1024, .f32⟩
  | 113 => ⟨S8x2x2048x128, .f32⟩
  | 114 => ⟨S8x2x2048x128, .f32⟩
  | 115 => ⟨S8x2048x1024, .fp8e4m3⟩
  | 116 => ⟨S8x2x2048x128, .fp8e4m3⟩
  | 117 => ⟨S8x2x2048x128, .fp8e4m3⟩
  | _ => ⟨S8x2048x1024, .bf16⟩

abbrev hbmTy (i : Nat) : BufTy := match i / 128 with
  | 0 => hbmTy0_0 i
  | 1 => hbmTy0_1 i
  | _ => ⟨S8x2048x1024, .bf16⟩

abbrev bufTy : (tb : Table) → Fin (tcTables nBuf tb) → BufTy
  | .hbm, ⟨i, _⟩ => hbmTy i
  | .local _ .vmem, ⟨0, _⟩ => ⟨S8x2048x1024, .f32⟩
  | .local _ .vmem, ⟨1, _⟩ => ⟨S8x2x2048x128, .f32⟩
  | .local _ .vmem, ⟨2, _⟩ => ⟨S8x2x2048x128, .f32⟩
  | .local _ .vmem, ⟨3, _⟩ => ⟨S8x2048x1024, .fp8e4m3⟩
  | .local _ .vmem, ⟨4, _⟩ => ⟨S8x2x2048x128, .fp8e4m3⟩
  | .local _ .vmem, ⟨5, _⟩ => ⟨S8x2x2048x128, .fp8e4m3⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_15 : Ref sig .tc := ⟨.hbm, 85, rfl⟩
abbrev main_v59 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩
abbrev main_v62 : Ref sig .tc := ⟨.hbm, 90, rfl⟩
abbrev main_cst_17 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_18 : Ref sig .tc := ⟨.hbm, 95, rfl⟩
abbrev main_call2_v0 : Ref sig .tc := ⟨.hbm, 96, rfl⟩
abbrev main_call2_v1 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_19 : Ref sig .tc := ⟨.hbm, 105, rfl⟩
abbrev main_cst_20 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_21 : Ref sig .tc := ⟨.hbm, 119, rfl⟩
abbrev main_v80 : Ref sig .tc := ⟨.hbm, 120, rfl⟩
abbrev main_v81 : Ref sig .tc := ⟨.hbm, 121, rfl⟩
abbrev main_cst_22 : Ref sig .tc := ⟨.hbm, 122, rfl⟩
abbrev main_v82 : Ref sig .tc := ⟨.hbm, 123, rfl⟩
abbrev main_v83 : Ref sig .tc := ⟨.hbm, 124, rfl⟩
abbrev main_cst_23 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_24 : Ref sig .tc := ⟨.hbm, 131, rfl⟩
abbrev main_v89 : Ref sig .tc := ⟨.hbm, 132, rfl⟩
abbrev main_v90 : Ref sig .tc := ⟨.hbm, 133, rfl⟩
abbrev main_cst_25 : Ref sig .tc := ⟨.hbm, 134, rfl⟩
abbrev main_v91 : Ref sig .tc := ⟨.hbm, 135, rfl⟩
abbrev main_v92 : Ref sig .tc := ⟨.hbm, 136, rfl⟩
abbrev main_cst_26 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_27 : Ref sig .tc := ⟨.hbm, 141, rfl⟩
abbrev main_call4_v0 : Ref sig .tc := ⟨.hbm, 142, rfl⟩
abbrev main_call4_v1 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_28 : Ref sig .tc := ⟨.hbm, 151, rfl⟩
abbrev main_cst_29 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_30 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_31 : Ref sig .tc := ⟨.hbm, 198, rfl⟩
abbrev main_call6_v0 : Ref sig .tc := ⟨.hbm, 199, rfl⟩
abbrev main_call6_v1 : Ref sig .tc := ⟨.hbm, 200, rfl⟩
abbrev main_call6_v2 : Ref sig .tc := ⟨.hbm, 201, rfl⟩
abbrev main_v142 : Ref sig .tc := ⟨.hbm, 202, rfl⟩
abbrev main_cst_32 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_33 : Ref sig .tc := ⟨.hbm, 209, rfl⟩
abbrev main_v148 : Ref sig .tc := ⟨.hbm, 210, rfl⟩
abbrev main_cst_34 : Ref sig .tc := ⟨.hbm, 211, rfl⟩
abbrev main_v149 : Ref sig .tc := ⟨.hbm, 212, rfl⟩
abbrev main_v150 : Ref sig .tc := ⟨.hbm, 213, rfl⟩
abbrev main_cst_35 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_cst_36 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_37 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177_0 : Ref sig .tc := ⟨.hbm, 243, rfl⟩
abbrev main_v177_1 : Ref sig .tc := ⟨.hbm, 244, rfl⟩
abbrev main_v177_2 : Ref sig .tc := ⟨.hbm, 245, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x2048x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x2048x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import proofs.«01_k».proof.KernelIdeal

/-! # The kernel's body, written with its loops

The printed body is one straight line of some three thousand loads and stores. This module writes
the same program with the loops of the source: the key groups and value groups that are quantised,
the four heads of a query block, and for every block of 128 queries its chunks of 256 keys. The
arithmetic of each step is a function of its own. `Proof.Same` shows that the printed body is this
program. -/

@[expose] public section

noncomputable section

namespace Cert.Attn

open Idealize.ShloMosaic Idealize.SL.Sem
open Cert.KernelIdeal hiding sig Λ₀
open Cert.KernelIdeal.Facts₀ Cert.KernelIdeal.Facts

/-! ## The buffers -/

/-- The buffers of the body: the three inputs, the nine results and the seven scratch buffers. -/
inductive Bf
  | x | k | v | o | qc | qs | mq | kc | ks | mk | vc | vs | s | kb | vt | skc | qd | mqd | qsr
  deriving DecidableEq

namespace Bf

/-- A buffer's shape. -/
@[reducible] def shape : Bf → Shape
  | x => S1x2048x512 | k => S1x2048x128 | v => S1x2048x128 | o => S1x2048x512 | qc => S1x2048x512
  | qs => S1x8x2048 | mq => S1x4x16x128 | kc => S1x1x2048x128 | ks => S1x2x32 | mk => S1x2x128
  | vc => S1x1x2048x128 | vs => S1x2x128 | s => S2x2048x512 | kb => S2048x128 | vt => S128x2048
  | skc => S32x8x128 | qd => S2x512x128 | mqd => S2x512x128 | qsr => S2x8x512

/-- A buffer's element type. -/
@[reducible] def elt : Bf → EltTy
  | x => .bf16 | k => .bf16 | v => .bf16 | o => .bf16 | qc => .fp8e4m3 | qs => .f32 | mq => .bf16
  | kc => .fp8e4m3 | ks => .f32 | mk => .bf16 | vc => .fp8e4m3 | vs => .f32 | s => .f32 | kb => .bf16
  | vt => .fp8e4m3 | skc => .f32 | qd => .fp8e4m3 | mqd => .bf16 | qsr => .f32

end Bf

variable {F : FTy → Type} [FloatOps F] [Facts]

/-! ## Programs over the buffers -/

/-- What a program of this module does with a buffer: load a rectangle, store one, or store some elements of one. -/
inductive Eff (F : FTy → Type) : Type → Type
  | load (b : Bf) (off size : Fin b.shape.rank → Nat) (h : ∀ a, off a + size a ≤ b.shape.size a)
      (hp : 0 < (⟨b.shape.rank, size⟩ : Shape).numel) : Eff F (Vec F ⟨b.shape.rank, size⟩ b.elt)
  | store (b : Bf) (off size : Fin b.shape.rank → Nat) (h : ∀ a, off a + size a ≤ b.shape.size a)
      (hp : 0 < (⟨b.shape.rank, size⟩ : Shape).numel) (hr : (Rect.unit off size h).PackedRows b.elt.packing)
      (w : Vec F ⟨b.shape.rank, size⟩ b.elt) : Eff F PUnit
  | storeOn (b : Bf) (off size : Fin b.shape.rank → Nat) (h : ∀ a, off a + size a ≤ b.shape.size a)
      (hp : 0 < (⟨b.shape.rank, size⟩ : Shape).numel) (he : b.elt.bits = 32)
      (M : Finset (⟨b.shape.rank, size⟩ : Shape).Idx) (w : Vec F ⟨b.shape.rank, size⟩ b.elt) : Eff F PUnit

/-- The programs of this module. -/
abbrev Cmd (F : FTy → Type) (α : Type) : Type 1 := Prog (Eff F) α

/-- Where the buffers are: a whole buffer each. -/
structure Args (sig : RefSig) where
  m : ∀ b : Bf, Memref sig .tc .vmem b.shape b.elt
  w : ∀ b : Bf, (m b).IsWhole

section Machine

variable {nD : Nat} {τ : Topo} {sig : RefSig} {Λ : Labels}

/-- One step as the machine's. -/
def Eff.on (A : Args sig) {α : Type} : Eff F α → TpuEff nD τ sig (Elt F) Λ .tc α
  | .load b off size h hp => .load (A.m b) (Rect.unit off size h).toLoadRect (View.loadsAt_vmem hp)
  | .store b off size h hp hr w => .store (A.m b) (Rect.unit off size h) w Finset.univ
      (View.stores_vmem hp ((A.w b).storeExact_slice rfl _ hr) (fun _ => rfl)) (.inl rfl)
  | .storeOn b off size h hp he M w => .store (A.m b) (Rect.unit off size h) w M
      (View.stores_vmem_bits hp he (fun h => nomatch h)) (.inr (fun _ => rfl))

/-- A program as the machine's. -/
def on (A : Args sig) {α : Type} : Cmd F α → Prog (TpuEff nD τ sig (Elt F) Λ .tc) α
  | .ret a => .ret a
  | .op e k => .op (e.on A) fun x => on A (k x)

end Machine

/-- Load the rectangle of `b` at `off` of the given size. -/
def ld (b : Bf) (off size : Fin b.shape.rank → Nat) (h : ∀ a, off a + size a ≤ b.shape.size a)
    (hp : 0 < (⟨b.shape.rank, size⟩ : Shape).numel) : Cmd F (Vec F ⟨b.shape.rank, size⟩ b.elt) :=
  Prog.lift (.load b off size h hp)

/-- Store the rectangle of `b` at `off`. -/
def st (b : Bf) (off size : Fin b.shape.rank → Nat) (h : ∀ a, off a + size a ≤ b.shape.size a)
    (hp : 0 < (⟨b.shape.rank, size⟩ : Shape).numel) (hr : (Rect.unit off size h).PackedRows b.elt.packing)
    (w : Vec F ⟨b.shape.rank, size⟩ b.elt) : Cmd F PUnit :=
  Prog.lift (.store b off size h hp hr w)

/-- A loop of `n` trips, its trips told their index and that it is below `n`: the last `k` trips from trip `j` on. -/
def loopFrom {α : Type} (n : Nat) (f : (j : Nat) → j < n → α → Cmd F α) :
    (k j : Nat) → j + k = n → α → Cmd F α
  | 0, _, _, a => .ret a
  | k + 1, j, h, a => f j (by omega) a >>= loopFrom n f k (j + 1) (by omega)

/-- A loop of `n` trips. -/
def loop {α : Type} (n : Nat) (f : (j : Nat) → j < n → α → Cmd F α) (a : α) : Cmd F α :=
  loopFrom n f n 0 (Nat.zero_add n) a

/-- In bounds, axis by axis: two, three and four axes. -/
theorem inb2 {a b c d e f : Nat} (h0 : a + c ≤ e) (h1 : b + d ≤ f) : ∀ i : Fin 2, ![a, b] i + ![c, d] i ≤ ![e, f] i := by
  intro i; fin_cases i <;> assumption

theorem inb3 {a b c d e f a' b' c' : Nat} (h0 : a + d ≤ a') (h1 : b + e ≤ b') (h2 : c + f ≤ c') :
    ∀ i : Fin 3, ![a, b, c] i + ![d, e, f] i ≤ ![a', b', c'] i := by
  intro i; fin_cases i <;> assumption

theorem inb4 {a b c d e f g i a' b' c' d' : Nat} (h0 : a + e ≤ a') (h1 : b + f ≤ b') (h2 : c + g ≤ c') (h3 : d + i ≤ d') :
    ∀ j : Fin 4, ![a, b, c, d] j + ![e, f, g, i] j ≤ ![a', b', c', d'] j := by
  intro j; fin_cases j <;> assumption

/-- A rectangle of whole words: its rows start and end at a word's edge. Two, three and four axes. -/
theorem pk2 {a b c d : Nat} {m : Fin 2 → Nat} {h : ∀ i, ![a, b] i + ![c, d] i ≤ m i} {p : Nat} (d1 : p ∣ a) (d2 : p ∣ c) :
    (Rect.unit (s := ⟨2, m⟩) ![a, b] ![c, d] h).PackedRows p :=
  .inr ⟨Nat.le_refl 2, rfl, .inl ⟨d1, d2⟩⟩

theorem pk3 {a b c d e f : Nat} {m : Fin 3 → Nat} {h : ∀ i, ![a, b, c] i + ![d, e, f] i ≤ m i} {p : Nat} (d1 : p ∣ b) (d2 : p ∣ e) :
    (Rect.unit (s := ⟨3, m⟩) ![a, b, c] ![d, e, f] h).PackedRows p :=
  .inr ⟨Nat.le_add_left 2 1, rfl, .inl ⟨d1, d2⟩⟩

theorem pk4 {a b c d e f g i : Nat} {m : Fin 4 → Nat} {h : ∀ j, ![a, b, c, d] j + ![e, f, g, i] j ≤ m j} {p : Nat}
    (d1 : p ∣ c) (d2 : p ∣ g) : (Rect.unit (s := ⟨4, m⟩) ![a, b, c, d] ![e, f, g, i] h).PackedRows p :=
  .inr ⟨Nat.le_add_left 2 2, rfl, .inl ⟨d1, d2⟩⟩

/-! ## Arithmetic -/

section Arith

/-- The exponent field of the power of two below `t`: 0 below the normal range, all ones above it. -/
def field (S : Shape) (cl : F .f32) (t : FVec F S .f32) : IVec S 32 :=
  let e : IVec S 32 := shli (addi (fptosi 32 (floor (addf (mulf (log t) (broadcast S cl))
    (broadcast S (Scalar.ofBits .f32 0x3F000000#32))))) (broadcast S 127#32)) (broadcast S 23#32)
  select (cmpf .olt t (broadcast S (Scalar.ofBits .f32 0x00800000#32))) (broadcast S 0#32)
    (select (cmpf .olt t (broadcast S (Scalar.ofBits .f32 0x7E800000#32)))
      (select (cmpf .olt t (bitcastToFloat .f32 e)) (subi e (broadcast S 8388608#32)) e) (broadcast S 2139095040#32))

/-- Whether the field is 0 or all ones. -/
def special (S : Shape) (f : IVec S 32) : IVec S 1 :=
  ori (cmpi .eq f (broadcast S 0#32)) (cmpi .eq f (broadcast S 2139095040#32))

/-- The scale: twice the power of two, or 1. -/
def scaleOf (S : Shape) (cl : F .f32) (t : FVec F S .f32) : FVec F S .f32 :=
  bitcastToFloat .f32 (select (special S (field S cl t)) (broadcast S 1065353216#32)
    (addi (field S cl t) (broadcast S 8388608#32)))

/-- Its inverse. -/
def invOf (S : Shape) (cl : F .f32) (t : FVec F S .f32) : FVec F S .f32 :=
  bitcastToFloat .f32 (select (special S (field S cl t)) (broadcast S 1065353216#32)
    (subi (broadcast S 2122317824#32) (field S cl t)))

/-- The largest absolute value over 448. -/
def over448 (S : Shape) (t : FVec F S .f32) : FVec F S .f32 := mulf t (broadcast S (Scalar.ofBits .f32 0x3B124925#32))

/-- The clip to [-448, 448]. -/
def clip448 (S : Shape) (t : FVec F S .f32) : FVec F S .f32 :=
  minimumf (broadcast S (Scalar.ofBits .f32 0x43E00000#32)) (maximumf (broadcast S (Scalar.ofBits .f32 0xC3E00000#32)) t)

/-- The mean of the keys. -/
def meanK (x : FVec F S1x2048x128 .bf16) : FVec F S1x128 .bf16 :=
  truncf .bf16 (mulf (shapeCast S1x128 (multiReduction .add [0] S128
    (extf .f32 (shapeCast S2048x128 x shapeCasts_S1x2048x128_S2048x128) bitsLt_bf16_f32 : FVec F S2048x128 .f32) 0x00000000#32
    reduces_S2048x128_S128 (.inl rfl) rfl) shapeCasts_S128_S1x128) (broadcast S1x128 (Scalar.ofBits .f32 0x3A000000#32))) bitsLt_bf16_f32

/-- The mean of the keys on both rows. -/
def meanK2 (x : FVec F S1x2048x128 .bf16) : FVec F S2x128 .bf16 :=
  broadcastTo S2x128 (shapeCast S1x128 (meanK x) shapeCasts_S1x128_S1x128) broadcasts_S1x128_S2x128

/-- The mean written into row `kv` alone. -/
def meanRow (kv : BitVec 32) (x : FVec F S1x2048x128 .bf16) (old : FVec F S1x2x128 .bf16) : FVec F S1x2x128 .bf16 :=
  shapeCast S1x2x128 (truncf .bf16 (select (cmpi .eq (iota .tc S2x128 32 [0] iota_S2x128_d0_w32) (broadcast S2x128 kv))
    (extf .f32 (meanK2 x) bitsLt_bf16_f32)
    (extf .f32 (shapeCast S2x128 old shapeCasts_S1x2x128_S2x128 : FVec F S2x128 .bf16) bitsLt_bf16_f32 : FVec F S2x128 .f32)) bitsLt_bf16_f32
    : FVec F S2x128 .bf16) shapeCasts_S2x128_S1x2x128

/-- A group of keys without its mean. -/
def kDev (mean : FVec F S1x128 .bf16) (x : FVec F S1x64x128 .bf16) : FVec F S64x128 .f32 :=
  subf (extf .f32 (shapeCast S64x128 x shapeCasts_S1x64x128_S64x128) bitsLt_bf16_f32)
    (broadcastTo S64x128 (extf .f32 mean bitsLt_bf16_f32 : FVec F S1x128 .f32) broadcasts_S1x128_S64x128)

/-- The group's largest absolute value, over 448. -/
def kMax (d : FVec F S64x128 .f32) : FVec F S1x1 .f32 :=
  over448 S1x1 (shapeCast S1x1 (multiReduction .maximumf [1] S1 (shapeCast S1x128 (multiReduction .maximumf [0] S128 (absf d)
    0xFF800000#32 reduces_S64x128_S128 (.inl rfl) rfl) shapeCasts_S128_S1x128) 0xFF800000#32 reduces_S1x128_S1 (.inl rfl) rfl)
    shapeCasts_S1_S1x1)

/-- The group's codes. -/
def kCode (cl : F .f32) (d : FVec F S64x128 .f32) : FVec F S64x128 .fp8e4m3 :=
  truncf .fp8e4m3 (clip448 S64x128 (mulf d (broadcastTo S64x128 (invOf S1x1 cl (kMax d)) broadcasts_S1x1_S64x128))) bitsLt_fp8e4m3_f32

/-- The group's score scale, on a tile. -/
def kTile (cs : F .f32) (sc : FVec F S1x1 .f32) : FVec F S1x8x128 .f32 :=
  shapeCast S1x8x128 (broadcastTo S8x128 (shapeCast S1x1 (mulf sc (broadcast S1x1 cs)) shapeCasts_S1x1_S1x1) broadcasts_S1x1_S8x128)
    shapeCasts_S8x128_S1x8x128

/-- The row of scales with entry `j` set. -/
def kRow (j : Nat) (sc : FVec F S1x1 .f32) (row : FVec F S1x32 .f32) : FVec F S1x32 .f32 :=
  select (cmpi .eq (iota .tc S1x32 32 [1] iota_S1x32_d1_w32) (broadcast S1x32 (BitVec.ofNat 32 j)))
    (broadcastTo S1x32 (shapeCast S1x1 sc shapeCasts_S1x1_S1x1) broadcasts_S1x1_S1x32) row

/-- The values' largest absolute values by column, over 448. -/
def vMax (x : FVec F S1x2048x128 .bf16) : FVec F S1x128 .f32 :=
  over448 S1x128 (shapeCast S1x128 (multiReduction .maximumf [0] S128 (multiReduction .maximumf [0] S8x128
    (shapeCast S256x8x128 (absf (extf .f32 (shapeCast S2048x128 x shapeCasts_S1x2048x128_S2048x128) bitsLt_bf16_f32)
      : FVec F S2048x128 .f32) shapeCasts_S2048x128_S256x8x128)
    0xFF800000#32 reduces_S256x8x128_S8x128 (.inl rfl) rfl) 0xFF800000#32 reduces_S8x128_S128 (.inl rfl) rfl) shapeCasts_S128_S1x128)

/-- A group of value codes before the cast. -/
def vClip (inv : FVec F S1x128 .f32) (x : FVec F S1x128x128 .bf16) : FVec F S128x128 .f32 :=
  clip448 S128x128 (mulf (extf .f32 (shapeCast S128x128 x shapeCasts_S1x128x128_S128x128) bitsLt_bf16_f32)
    (broadcastTo S128x128 inv broadcasts_S1x128_S128x128))

/-- The value scales by row. -/
def vCol (sc : FVec F S1x128 .f32) : FVec F S128x128 .f32 :=
  transpose S128x128 [1, 0] (broadcastTo S128x128 (shapeCast S1x128 sc shapeCasts_S1x128_S1x128) broadcasts_S1x128_S128x128)
    transposes_S128x128_p1_0_S128x128

/-- The head of a row of eight. -/
def headRow : IVec S8x128 32 :=
  let r : IVec S8x128 32 := iota .tc S8x128 32 [0] iota_S8x128_d0_w32
  let n : BitVec 32 := Scalar.select (Scalar.cmpi .eq 4#32 0#32) 1#32 4#32
  let q : IVec S8x128 32 := remsi r (broadcast S8x128 n)
  select (andi (xori (cmpi .slt q (broadcast S8x128 0#32))
      (broadcastTo S8x128 (broadcast S8x128 (Scalar.cmpi .slt n 0#32)) broadcasts_S8x128_S8x128))
    (cmpi .ne q (broadcast S8x128 0#32))) (addi q (broadcast S8x128 n)) q

/-- The rows of eight that belong to `kv`. -/
def ownRows (kv : BitVec 32) : IVec S8x128 1 :=
  let r : IVec S8x128 32 := iota .tc S8x128 32 [0] iota_S8x128_d0_w32
  let q : IVec S8x128 32 := divsi r (broadcast S8x128 4#32)
  let sg : IVec S8x128 32 := subi (extui 32 (cmpi .sgt r (broadcast S8x128 0#32)) natLt_1_32)
    (extui 32 (cmpi .slt r (broadcast S8x128 0#32)) natLt_1_32)
  let c : BitVec 32 := Scalar.subi (Scalar.extui (Scalar.cmpi .sgt 4#32 0#32)) (Scalar.extui (Scalar.cmpi .slt 4#32 0#32))
  cmpi .eq (select (andi (cmpi .ne sg (broadcast S8x128 c))
    (cmpi .ne (remsi r (broadcast S8x128 4#32)) (broadcast S8x128 0#32))) (subi q (broadcast S8x128 1#32)) q) (broadcast S8x128 kv)

/-- A block of 128 queries of one head, in f32. -/
def qF (x : FVec F S1x128x128 .bf16) : FVec F S128x128 .f32 :=
  extf .f32 (shapeCast S128x128 x shapeCasts_S1x128x128_S128x128) bitsLt_bf16_f32

/-- Its mean. -/
def qMean (x : FVec F S1x128x128 .bf16) : FVec F S1x128 .bf16 :=
  truncf .bf16 (mulf (shapeCast S1x128 (multiReduction .add [0] S128 (qF x) 0x00000000#32 reduces_S128x128_S128 (.inl rfl) rfl)
    shapeCasts_S128_S1x128) (broadcast S1x128 (Scalar.ofBits .f32 0x3C000000#32))) bitsLt_bf16_f32

/-- The mean on every row. -/
def qMeanB (x : FVec F S1x128x128 .bf16) : FVec F S128x128 .f32 :=
  broadcastTo S128x128 (extf .f32 (qMean x) bitsLt_bf16_f32 : FVec F S1x128 .f32) broadcasts_S1x128_S128x128

/-- The block without its mean. -/
def qDev (x : FVec F S1x128x128 .bf16) : FVec F S128x128 .f32 := subf (qF x) (qMeanB x)

/-- Each query's largest absolute value, along its row. -/
def qMax (x : FVec F S1x128x128 .bf16) : FVec F S128x128 .f32 :=
  broadcastTo S128x128 (shapeCast S128x1 (shapeCast S128x1 (multiReduction .maximumf [1] S128 (absf (qDev x)) 0xFF800000#32
    reduces_S128x128_S128_2 (.inl rfl) rfl) shapeCasts_S128_S128x1) shapeCasts_S128x1_S128x1) broadcasts_S128x1_S128x128

/-- The inverse scales along the rows. -/
def qInv (cl : F .f32) (x : FVec F S1x128x128 .bf16) : FVec F S128x128 .f32 := invOf S128x128 cl (over448 S128x128 (qMax x))

/-- The scales along the columns, on eight rows. -/
def qScale (cl : F .f32) (x : FVec F S1x128x128 .bf16) : FVec F S8x128 .f32 :=
  scaleOf S8x128 cl (over448 S8x128 (extractStridedSlice S8x128 ![0, 0]
    (transpose S128x128 [1, 0] (qMax x) transposes_S128x128_p1_0_S128x128) slices_S128x128_o0_0_S8x128))

/-- The codes. -/
def qCode (cl : F .f32) (x : FVec F S1x128x128 .bf16) : FVec F S1x128x128 .fp8e4m3 :=
  shapeCast S1x128x128 (truncf .fp8e4m3 (clip448 S128x128 (mulf (qDev x) (qInv cl x))) bitsLt_fp8e4m3_f32) shapeCasts_S128x128_S1x128x128

/-- The mean over the scales. -/
def qMeanD (cl : F .f32) (x : FVec F S1x128x128 .bf16) : FVec F S1x128x128 .bf16 :=
  shapeCast S1x128x128 (truncf .bf16 (mulf (qMeanB x) (qInv cl x)) bitsLt_bf16_f32) shapeCasts_S128x128_S1x128x128

/-- The scores of a tile: codes with codes plus keys with means. -/
def score256 (a : FVec F S1x1x256x128 .fp8e4m3) (b : FVec F S1x512x128 .fp8e4m3) (c : FVec F S256x128 .bf16)
    (d : FVec F S1x512x128 .bf16) : FVec F S256x512 .f32 :=
  addf (matmul dot_S256x128_S512x128_S256x512_1_1_0_0_n_n none (shapeCast S256x128 a shapeCasts_S1x1x256x128_S256x128)
      (shapeCast S512x128 b shapeCasts_S1x512x128_S512x128) (constant S256x512 .f32 0x00000000#32))
    (matmul dot_S256x128_S512x128_S256x512_1_1_0_0_n_n none c
      (shapeCast S512x128 d shapeCasts_S1x512x128_S512x128) (constant S256x512 .f32 0x00000000#32))

/-- The scores of a tile of 128 keys. -/
def score128 (a : FVec F S1x1x128x128 .fp8e4m3) (b : FVec F S1x512x128 .fp8e4m3) (c : FVec F S128x128 .bf16)
    (d : FVec F S1x512x128 .bf16) : FVec F S128x512 .f32 :=
  addf (matmul dot_S128x128_S512x128_S128x512_1_1_0_0_n_n none (shapeCast S128x128 a shapeCasts_S1x1x128x128_S128x128)
      (shapeCast S512x128 b shapeCasts_S1x512x128_S512x128) (constant S128x512 .f32 0x00000000#32))
    (matmul dot_S128x128_S512x128_S128x512_1_1_0_0_n_n none c
      (shapeCast S512x128 d shapeCasts_S1x512x128_S512x128) (constant S128x512 .f32 0x00000000#32))

/-- The weight of a key group for each query. -/
def wgt (a : FVec F S1x8x128 .f32) (b : FVec F S1x8x512 .f32) : FVec F S8x512 .f32 :=
  let c : FVec F S8x128 .f32 := shapeCast S8x128 a shapeCasts_S1x8x128_S8x128
  mulf (shapeCast S8x512 b shapeCasts_S1x8x512_S8x512 : FVec F S8x512 .f32)
    (concatenate S8x512 1 [⟨S8x128, c⟩, ⟨S8x128, c⟩, ⟨S8x128, c⟩, ⟨S8x128, c⟩] concatenates_S8x128_S8x128_S8x128_S8x128_S8x512_d1)

/-- A row of eight on every eighth row. -/
def up8 (w : FVec F S8x512 .f32) : FVec F S8x8x512 .f32 :=
  broadcastTo S8x8x512 (shapeCast S1x8x512 w shapeCasts_S8x512_S1x8x512) broadcasts_S1x8x512_S8x8x512

/-- A key group as eight rows of eight. -/
def by8 (x : FVec F S64x512 .f32) : FVec F S8x8x512 .f32 := shapeCast S8x8x512 x shapeCasts_S64x512_S8x8x512

/-- The largest score so far, after a key group. -/
def maxFull (m w : FVec F S8x512 .f32) (sl : FVec F S64x512 .f32) : FVec F S8x512 .f32 :=
  maximumf m (mulf (multiReduction .maximumf [0] S8x512 (by8 sl) 0xFF800000#32 reduces_S8x8x512_S8x512 (.inl rfl) rfl) w)

/-- The masked scores of a key group that starts `off` keys into the query block. -/
def masked (off : BitVec 32) (w : FVec F S8x512 .f32) (sl : FVec F S64x512 .f32) : FVec F S64x512 .f32 :=
  select (cmpi .sle (addi (iota .tc S64x512 32 [0] iota_S64x512_d0_w32) (broadcast S64x512 off))
      (andi (iota .tc S64x512 32 [1] iota_S64x512_d1_w32) (broadcast S64x512 127#32)))
    (shapeCast S64x512 (mulf (by8 sl) (up8 w)) shapeCasts_S8x8x512_S64x512) (broadcast S64x512 (Scalar.ofBits .f32 0xFF800000#32))

/-- The largest score so far, after a masked key group. -/
def maxDiag (m : FVec F S8x512 .f32) (x : FVec F S64x512 .f32) : FVec F S8x512 .f32 :=
  maximumf m (multiReduction .maximumf [0] S8x512 (by8 x) 0xFF800000#32 reduces_S8x8x512_S8x512 (.inl rfl) rfl)

/-- What the exponents are taken from: the largest score of each query less 8. -/
def rowMax (m : FVec F S8x512 .f32) : FVec F S8x512 .f32 :=
  broadcastTo S8x512 (shapeCast S1x512 (subf (shapeCast S1x512 (multiReduction .maximumf [0] S512 m 0xFF800000#32
    reduces_S8x512_S512 (.inl rfl) rfl) shapeCasts_S512_S1x512) (broadcast S1x512 (Scalar.ofBits .f32 0x41000000#32)))
    shapeCasts_S1x512_S1x512) broadcasts_S1x512_S8x512

/-- The exponentials of a group of weighted scores. -/
def expo (mr : FVec F S8x512 .f32) (x : FVec F S8x8x512 .f32) : FVec F S8x8x512 .f32 := exp2 (subf x (up8 mr))

/-- Their sums, added. -/
def addL (l : FVec F S8x512 .f32) (p : FVec F S8x8x512 .f32) : FVec F S8x512 .f32 :=
  addf l (multiReduction .add [0] S8x512 p 0x00000000#32 reduces_S8x8x512_S8x512 (.inl rfl) rfl)

/-- Their codes. -/
def pCode (p : FVec F S8x8x512 .f32) : FVec F S64x512 .fp8e4m3 :=
  truncf .fp8e4m3 (minimumf (shapeCast S64x512 p shapeCasts_S8x8x512_S64x512) (broadcast S64x512 (Scalar.ofBits .f32 0x43E00000#32)))
    bitsLt_fp8e4m3_f32

/-- The product with the values added to what there is. -/
def accum (acc : Option (FVec F S128x512 .f32)) (o : FVec F S128x512 .f32) : FVec F S128x512 .f32 :=
  match acc with
  | none => o
  | some a => addf a o

def pv128 (vt : FVec F S128x128 .fp8e4m3) (p0 p1 : FVec F S64x512 .fp8e4m3) : FVec F S128x512 .f32 :=
  matmul dot_S128x128_S128x512_S128x512_1_0_0_1_n_n none vt
    (concatenate S128x512 0 [⟨S64x512, p0⟩, ⟨S64x512, p1⟩] concatenates_S64x512_S64x512_S128x512_d0) (constant S128x512 .f32 0x00000000#32)

def pv256 (vt : FVec F S128x256 .fp8e4m3) (p0 p1 p2 p3 : FVec F S64x512 .fp8e4m3) : FVec F S128x512 .f32 :=
  matmul dot_S128x256_S256x512_S128x512_1_0_0_1_n_n none vt
    (concatenate S256x512 0 [⟨S64x512, p0⟩, ⟨S64x512, p1⟩, ⟨S64x512, p2⟩, ⟨S64x512, p3⟩]
      concatenates_S64x512_S64x512_S64x512_S64x512_S256x512_d0) (constant S128x512 .f32 0x00000000#32)

/-- One over the sum of the exponentials. -/
def lInv (l : FVec F S8x512 .f32) : FVec F S1x512 .f32 :=
  divf (broadcast S1x512 (Scalar.ofBits .f32 0x3F800000#32)) (shapeCast S1x512 (multiReduction .add [0] S512 l 0x00000000#32
    reduces_S8x512_S512 (.inl rfl) rfl) shapeCasts_S512_S1x512)

/-- One head's result. -/
def outOf (vcol a : FVec F S128x128 .f32) (li : FVec F S1x128 .f32) : FVec F S1x128x128 .bf16 :=
  shapeCast S1x128x128 (truncf .bf16 (transpose S128x128 [1, 0] (mulf (mulf a vcol) (broadcastTo S128x128 li broadcasts_S1x128_S128x128))
    transposes_S128x128_p1_0_S128x128) bitsLt_bf16_f32) shapeCasts_S128x128_S1x128x128

end Arith

/-! ## The programs -/

section Programs

variable (cl cs : F .f32)

/-- One group of 64 keys: its codes, their copy, its score scale; the row of scales goes on. -/
def quantK (mean : FVec F S1x128 .bf16) (j : Nat) (hj : j < 32) (row : FVec F S1x32 .f32) : Cmd F (FVec F S1x32 .f32) := do
  let x : Vec F S1x64x128 .bf16 ← ld .k ![0, 64 * j, 0] S1x64x128.size (inb3 (by decide) (by omega) (by decide)) h_S1x64x128
  let d := kDev mean x
  let c := kCode cl d
  let sc := scaleOf S1x1 cl (kMax d)
  let _ : Vec F S1x1x64x128 .fp8e4m3 ← ld .kc ![0, 0, 64 * j, 0] S1x1x64x128.size
    (inb4 (by decide) (by decide) (by omega) (by decide)) h_S1x1x64x128
  st .kc ![0, 0, 64 * j, 0] S1x1x64x128.size (inb4 (by decide) (by decide) (by omega) (by decide)) h_S1x1x64x128
    (pk4 (show 4 ∣ 64 * j by omega) (show 4 ∣ 64 by decide)) (shapeCast S1x1x64x128 c shapeCasts_S64x128_S1x1x64x128)
  let _ : Vec F S64x128 .bf16 ← ld .kb ![64 * j, 0] S64x128.size (inb2 (by omega) (by decide)) h_S64x128
  st .kb ![64 * j, 0] S64x128.size (inb2 (by omega) (by decide)) h_S64x128
    (pk2 (show 2 ∣ 64 * j by omega) (show 2 ∣ 64 by decide))
    (shapeCast S64x128 (extf .bf16 c bitsLt_fp8e4m3_bf16) shapeCasts_S64x128_S64x128)
  let _ : Vec F S1x8x128 .f32 ← ld .skc ![j, 0, 0] S1x8x128.size (inb3 (by omega) (by decide) (by decide)) h_S1x8x128
  st .skc ![j, 0, 0] S1x8x128.size (inb3 (by omega) (by decide) (by decide)) h_S1x8x128
    (pk3 (show 1 ∣ 0 by decide) (show 1 ∣ 8 by decide)) (kTile cs sc)
  pure (kRow j sc row)

/-- One group of 128 values: its codes and their transpose. -/
def quantV (inv : FVec F S1x128 .f32) (j : Nat) (hj : j < 16) (_ : PUnit) : Cmd F PUnit := do
  let x : Vec F S1x128x128 .bf16 ← ld .v ![0, 128 * j, 0] S1x128x128.size (inb3 (by decide) (by omega) (by decide)) h_S1x128x128
  let c := vClip inv x
  let _ : Vec F S1x1x128x128 .fp8e4m3 ← ld .vc ![0, 0, 128 * j, 0] S1x1x128x128.size
    (inb4 (by decide) (by decide) (by omega) (by decide)) h_S1x1x128x128
  st .vc ![0, 0, 128 * j, 0] S1x1x128x128.size (inb4 (by decide) (by decide) (by omega) (by decide)) h_S1x1x128x128
    (pk4 (show 4 ∣ 128 * j by omega) (show 4 ∣ 128 by decide))
    (shapeCast S1x1x128x128 (truncf .fp8e4m3 c bitsLt_fp8e4m3_f32 : FVec F S128x128 .fp8e4m3) shapeCasts_S128x128_S1x1x128x128)
  let _ : Vec F S128x128 .fp8e4m3 ← ld .vt ![0, 128 * j] S128x128.size (inb2 (by decide) (by omega)) h_S128x128
  st .vt ![0, 128 * j] S128x128.size (inb2 (by decide) (by omega)) h_S128x128
    (pk2 (show 4 ∣ 0 by decide) (show 4 ∣ 128 by decide))
    (shapeCast S128x128 (truncf .fp8e4m3 (transpose S128x128 [1, 0] c transposes_S128x128_p1_0_S128x128) bitsLt_fp8e4m3_f32
      : FVec F S128x128 .fp8e4m3) shapeCasts_S128x128_S128x128)

/-- The mean of the keys into its row of the result. -/
def putMean (kv : BitVec 32) (x : FVec F S1x2048x128 .bf16) : Cmd F PUnit := do
  if _h : Scalar.cmpi .ne (Scalar.extui (Scalar.cmpi .eq kv 0#32)) 0#32 = 1#1 then do
    let _ : Vec F S1x2x128 .bf16 ← ld .mk ![0, 0, 0] S1x2x128.size (inb3 (by decide) (by decide) (by decide)) h_S1x2x128
    st .mk ![0, 0, 0] S1x2x128.size (inb3 (by decide) (by decide) (by decide)) h_S1x2x128
      (pk3 (show 2 ∣ 0 by decide) (show 2 ∣ 2 by decide)) (shapeCast S1x2x128 (meanK2 x) shapeCasts_S2x128_S1x2x128)
    pure ⟨⟩
  else do
    pure ⟨⟩
  if _h : Scalar.cmpi .ne (Scalar.extui (Scalar.cmpi .sgt kv 0#32)) 0#32 = 1#1 then do
    let old : Vec F S1x2x128 .bf16 ← ld .mk ![0, 0, 0] S1x2x128.size (inb3 (by decide) (by decide) (by decide)) h_S1x2x128
    let _ : Vec F S1x2x128 .bf16 ← ld .mk ![0, 0, 0] S1x2x128.size (inb3 (by decide) (by decide) (by decide)) h_S1x2x128
    st .mk ![0, 0, 0] S1x2x128.size (inb3 (by decide) (by decide) (by decide)) h_S1x2x128
      (pk3 (show 2 ∣ 0 by decide) (show 2 ∣ 2 by decide)) (meanRow kv x old)
    pure ⟨⟩
  else do
    pure ⟨⟩

/-- Everything that is done once for the keys and the values. -/
def prep (kv : BitVec 32) (hkv : (Scalar.indexCast kv).toNat < 2) : Cmd F (FVec F S128x128 .f32) := do
  let x : Vec F S1x2048x128 .bf16 ← ld .k ![0, 0, 0] S1x2048x128.size (inb3 (by decide) (by decide) (by decide)) h_S1x2048x128
  putMean kv x
  let row ← loop 32 (quantK cl cs (meanK x)) (broadcast S1x32 (Scalar.ofBits .f32 0x00000000#32))
  let _ : Vec F S1x1x32 .f32 ← ld .ks ![0, (Scalar.indexCast kv).toNat, 0] S1x1x32.size
    (inb3 (by decide) (by omega) (by decide)) h_S1x1x32
  st .ks ![0, (Scalar.indexCast kv).toNat, 0] S1x1x32.size (inb3 (by decide) (by omega) (by decide)) h_S1x1x32
    (pk3 (one_dvd _) (one_dvd _)) (shapeCast S1x1x32 row shapeCasts_S1x32_S1x1x32)
  let v : Vec F S1x2048x128 .bf16 ← ld .v ![0, 0, 0] S1x2048x128.size (inb3 (by decide) (by decide) (by decide)) h_S1x2048x128
  let sc := scaleOf S1x128 cl (vMax v)
  let _ : Vec F S1x1x128 .f32 ← ld .vs ![0, (Scalar.indexCast kv).toNat, 0] S1x1x128.size
    (inb3 (by decide) (by omega) (by decide)) h_S1x1x128
  st .vs ![0, (Scalar.indexCast kv).toNat, 0] S1x1x128.size (inb3 (by decide) (by omega) (by decide)) h_S1x1x128
    (pk3 (one_dvd _) (one_dvd _)) (shapeCast S1x1x128 sc shapeCasts_S1x128_S1x1x128)
  loop 16 (quantV (invOf S1x128 cl (vMax v))) ⟨⟩
  pure (vCol sc)

/-- One head of a block of 128 queries. -/
def quantHead (qb : Nat) (hq : qb < 16) (h : Nat) (hh : h < 4) (tok : FVec F S8x128 .f32) : Cmd F (FVec F S8x128 .f32) := do
  let x : Vec F S1x128x128 .bf16 ← ld .x ![0, 128 * qb, 128 * h] S1x128x128.size
    (inb3 (by decide) (by omega) (by omega)) h_S1x128x128
  let _ : Vec F S1x1x1x128 .bf16 ← ld .mq ![0, h, qb, 0] S1x1x1x128.size
    (inb4 (by decide) (by omega) (by omega) (by decide)) h_S1x1x1x128
  let old : Vec F S1x1x2x128 .bf16 ← ld .mq ![0, h, 2 * (qb / 2), 0] S1x1x2x128.size
    (inb4 (by decide) (by omega) (by omega) (by decide)) h_S1x1x2x128
  st .mq ![0, h, 2 * (qb / 2), 0] S1x1x2x128.size (inb4 (by decide) (by omega) (by omega) (by decide)) h_S1x1x2x128
    (pk4 (show 2 ∣ 2 * (qb / 2) by omega) (show 2 ∣ 2 by decide))
    (updateSlice old (shapeCast S1x1x1x128 (qMean x) shapeCasts_S1x128_S1x1x1x128) ![0, 0, qb % 2, 0]
      ⟨rfl, inb4 (by decide) (by decide) (by omega) (by decide)⟩)
  let _ : Vec F S1x128x128 .fp8e4m3 ← ld .qd ![qb % 2, 128 * h, 0] S1x128x128.size
    (inb3 (by omega) (by omega) (by decide)) h_S1x128x128
  st .qd ![qb % 2, 128 * h, 0] S1x128x128.size (inb3 (by omega) (by omega) (by decide)) h_S1x128x128
    (pk3 (show 4 ∣ 128 * h by omega) (show 4 ∣ 128 by decide)) (qCode cl x)
  let _ : Vec F S1x128x128 .bf16 ← ld .mqd ![qb % 2, 128 * h, 0] S1x128x128.size
    (inb3 (by omega) (by omega) (by decide)) h_S1x128x128
  st .mqd ![qb % 2, 128 * h, 0] S1x128x128.size (inb3 (by omega) (by omega) (by decide)) h_S1x128x128
    (pk3 (show 2 ∣ 128 * h by omega) (show 2 ∣ 128 by decide)) (qMeanD cl x)
  let sc := qScale cl x
  let _ : Vec F S1x8x128 .f32 ← ld .qsr ![qb % 2, 0, 128 * h] S1x8x128.size
    (inb3 (by omega) (by decide) (by omega)) h_S1x8x128
  st .qsr ![qb % 2, 0, 128 * h] S1x8x128.size (inb3 (by omega) (by decide) (by omega)) h_S1x8x128
    (pk3 (one_dvd _) (one_dvd _)) (shapeCast S1x8x128 sc shapeCasts_S8x128_S1x8x128)
  let _ : Vec F S1x128x128 .fp8e4m3 ← ld .qc ![0, 128 * qb, 128 * h] S1x128x128.size
    (inb3 (by decide) (by omega) (by omega)) h_S1x128x128
  st .qc ![0, 128 * qb, 128 * h] S1x128x128.size (inb3 (by decide) (by omega) (by omega)) h_S1x128x128
    (pk3 (show 4 ∣ 128 * qb by omega) (show 4 ∣ 128 by decide)) (qCode cl x)
  pure (select (cmpi .eq headRow (broadcast S8x128 (BitVec.ofNat 32 h))) sc tok)

/-- A block of 128 queries: its four heads, then its scales into the rows of this key head. -/
def quantQ (kv : BitVec 32) (qb : Nat) (hq : qb < 16) : Cmd F PUnit := do
  let tok ← loop 4 (quantHead cl qb hq) (broadcast S8x128 (Scalar.ofBits .f32 0x3F800000#32))
  let _ : Vec F S1x8x128 .f32 ← ld .qs ![0, 0, 128 * qb] S1x8x128.size
    (inb3 (by decide) (by decide) (by omega)) h_S1x8x128
  Prog.lift (.storeOn .qs ![0, 0, 128 * qb] S1x8x128.size (inb3 (by decide) (by decide) (by omega)) h_S1x8x128 rfl
    (IVec.on (shapeCast S1x8x128 (ownRows kv) shapeCasts_S8x128_S1x8x128))
    (shapeCast S1x8x128 tok shapeCasts_S8x128_S1x8x128))

/-- The weight of key group `g` for the queries in slot `qb % 2`. -/
def weight (qb g : Nat) (hg : g < 32) : Cmd F (FVec F S8x512 .f32) := do
  let a : Vec F S1x8x128 .f32 ← ld .skc ![g, 0, 0] S1x8x128.size (inb3 (by omega) (by decide) (by decide)) h_S1x8x128
  let b : Vec F S1x8x512 .f32 ← ld .qsr ![qb % 2, 0, 0] S1x8x512.size (inb3 (by omega) (by decide) (by decide)) h_S1x8x512
  pure (wgt a b)

/-- Keep the scores of key group `g`. -/
def putS (qb g : Nat) (hg : g < 32) (x : FVec F S64x512 .f32) : Cmd F PUnit := do
  let _ : Vec F S1x64x512 .f32 ← ld .s ![qb % 2, 64 * g, 0] S1x64x512.size (inb3 (by omega) (by omega) (by decide)) h_S1x64x512
  st .s ![qb % 2, 64 * g, 0] S1x64x512.size (inb3 (by omega) (by omega) (by decide)) h_S1x64x512
    (pk3 (one_dvd _) (one_dvd _)) (shapeCast S1x64x512 x shapeCasts_S64x512_S1x64x512)

/-- A key group before the query block: its scores are kept as they are. -/
def groupFull (qb g : Nat) (hg : g < 32) (sl : FVec F S64x512 .f32) (m : FVec F S8x512 .f32) : Cmd F (FVec F S8x512 .f32) := do
  let w ← weight qb g hg
  putS qb g hg sl
  pure (maxFull m w sl)

/-- A key group inside the query block: its scores are kept weighted and masked. -/
def groupDiag (off : BitVec 32) (qb g : Nat) (hg : g < 32) (sl : FVec F S64x512 .f32) (m : FVec F S8x512 .f32) : Cmd F (FVec F S8x512 .f32) := do
  let w ← weight qb g hg
  putS qb g hg (masked off w sl)
  pure (maxDiag m (masked off w sl))

/-- The scores of chunk `c` of 256 keys. -/
def tile256 (qb c : Nat) (hc : c < 8) : Cmd F (FVec F S256x512 .f32) := do
  let a : Vec F S1x1x256x128 .fp8e4m3 ← ld .kc ![0, 0, 256 * c, 0] S1x1x256x128.size
    (inb4 (by decide) (by decide) (by omega) (by decide)) h_S1x1x256x128
  let b : Vec F S1x512x128 .fp8e4m3 ← ld .qd ![qb % 2, 0, 0] S1x512x128.size (inb3 (by omega) (by decide) (by decide)) h_S1x512x128
  let k : Vec F S256x128 .bf16 ← ld .kb ![256 * c, 0] S256x128.size (inb2 (by omega) (by decide)) h_S256x128
  let d : Vec F S1x512x128 .bf16 ← ld .mqd ![qb % 2, 0, 0] S1x512x128.size (inb3 (by omega) (by decide) (by decide)) h_S1x512x128
  pure (score256 a b k d)

/-- The scores of the first 128 keys of chunk `c`. -/
def tile128 (qb c : Nat) (hc : c < 8) : Cmd F (FVec F S128x512 .f32) := do
  let a : Vec F S1x1x128x128 .fp8e4m3 ← ld .kc ![0, 0, 256 * c, 0] S1x1x128x128.size
    (inb4 (by decide) (by decide) (by omega) (by decide)) h_S1x1x128x128
  let b : Vec F S1x512x128 .fp8e4m3 ← ld .qd ![qb % 2, 0, 0] S1x512x128.size (inb3 (by omega) (by decide) (by decide)) h_S1x512x128
  let k : Vec F S128x128 .bf16 ← ld .kb ![256 * c, 0] S128x128.size (inb2 (by omega) (by decide)) h_S128x128
  let d : Vec F S1x512x128 .bf16 ← ld .mqd ![qb % 2, 0, 0] S1x512x128.size (inb3 (by omega) (by decide) (by decide)) h_S1x512x128
  pure (score128 a b k d)

/-- A chunk of 256 keys before the query block. -/
def scoreFull (qb c : Nat) (hc : c < 8) (m : FVec F S8x512 .f32) : Cmd F (FVec F S8x512 .f32) := do
  let t ← tile256 qb c hc
  let m ← groupFull qb (4 * c) (by omega) (extractStridedSlice S64x512 ![0, 0] t slices_S256x512_o0_0_S64x512) m
  let m ← groupFull qb (4 * c + 1) (by omega) (extractStridedSlice S64x512 ![64, 0] t slices_S256x512_o64_0_S64x512) m
  let m ← groupFull qb (4 * c + 2) (by omega) (extractStridedSlice S64x512 ![128, 0] t slices_S256x512_o128_0_S64x512) m
  groupFull qb (4 * c + 3) (by omega) (extractStridedSlice S64x512 ![192, 0] t slices_S256x512_o192_0_S64x512) m

/-- The chunk of an odd query block: 128 keys before it, then its own. -/
def scoreOdd (qb c : Nat) (hc : c < 8) (m : FVec F S8x512 .f32) : Cmd F (FVec F S8x512 .f32) := do
  let t ← tile256 qb c hc
  let m ← groupFull qb (4 * c) (by omega) (extractStridedSlice S64x512 ![0, 0] t slices_S256x512_o0_0_S64x512) m
  let m ← groupFull qb (4 * c + 1) (by omega) (extractStridedSlice S64x512 ![64, 0] t slices_S256x512_o64_0_S64x512) m
  let m ← groupDiag 0#32 qb (4 * c + 2) (by omega) (extractStridedSlice S64x512 ![128, 0] t slices_S256x512_o128_0_S64x512) m
  groupDiag 64#32 qb (4 * c + 3) (by omega) (extractStridedSlice S64x512 ![192, 0] t slices_S256x512_o192_0_S64x512) m

/-- The chunk of an even query block: its own 128 keys. -/
def scoreEven (qb c : Nat) (hc : c < 8) (m : FVec F S8x512 .f32) : Cmd F (FVec F S8x512 .f32) := do
  let t ← tile128 qb c hc
  let m ← groupDiag 0#32 qb (4 * c) (by omega) (extractStridedSlice S64x512 ![0, 0] t slices_S128x512_o0_0_S64x512) m
  groupDiag 64#32 qb (4 * c + 1) (by omega) (extractStridedSlice S64x512 ![64, 0] t slices_S128x512_o64_0_S64x512) m

/-- The kept scores of key group `g`. -/
def getS (qb g : Nat) (hg : g < 32) : Cmd F (FVec F S64x512 .f32) := do
  let x : Vec F S1x64x512 .f32 ← ld .s ![qb % 2, 64 * g, 0] S1x64x512.size (inb3 (by omega) (by omega) (by decide)) h_S1x64x512
  pure (shapeCast S64x512 x shapeCasts_S1x64x512_S64x512)

/-- The exponentials of a key group before the query block. -/
def expFull (mr : FVec F S8x512 .f32) (qb g : Nat) (hg : g < 32) : Cmd F (FVec F S8x8x512 .f32) := do
  let x ← getS qb g hg
  let w ← weight qb g hg
  pure (expo mr (mulf (by8 x) (up8 w)))

/-- The exponentials of a key group inside the query block. -/
def expDiag (mr : FVec F S8x512 .f32) (qb g : Nat) (hg : g < 32) : Cmd F (FVec F S8x8x512 .f32) := do
  let x ← getS qb g hg
  pure (expo mr (by8 x))

/-- The sums of the exponentials and the products with the values, so far. -/
abbrev Acc (F : FTy → Type) [FloatOps F] : Type := FVec F S8x512 .f32 × Option (FVec F S128x512 .f32)

/-- The product of four groups of exponentials with the values. -/
def mulV (c : Nat) (hc : c < 8) (p0 p1 p2 p3 : FVec F S8x8x512 .f32) (a : Acc F) : Cmd F (Acc F) := do
  let vt : Vec F S128x256 .fp8e4m3 ← ld .vt ![0, 256 * c] S128x256.size (inb2 (by decide) (by omega)) h_S128x256
  pure (addL (addL (addL (addL a.1 p0) p1) p2) p3, some (accum a.2 (pv256 vt (pCode p0) (pCode p1) (pCode p2) (pCode p3))))

/-- A chunk of 256 keys before the query block. -/
def probFull (mr : FVec F S8x512 .f32) (qb c : Nat) (hc : c < 8) (a : Acc F) : Cmd F (Acc F) := do
  let p0 ← expFull mr qb (4 * c) (by omega)
  let p1 ← expFull mr qb (4 * c + 1) (by omega)
  let p2 ← expFull mr qb (4 * c + 2) (by omega)
  let p3 ← expFull mr qb (4 * c + 3) (by omega)
  mulV c hc p0 p1 p2 p3 a

/-- The chunk of an odd query block. -/
def probOdd (mr : FVec F S8x512 .f32) (qb c : Nat) (hc : c < 8) (a : Acc F) : Cmd F (Acc F) := do
  let p0 ← expFull mr qb (4 * c) (by omega)
  let p1 ← expFull mr qb (4 * c + 1) (by omega)
  let p2 ← expDiag mr qb (4 * c + 2) (by omega)
  let p3 ← expDiag mr qb (4 * c + 3) (by omega)
  mulV c hc p0 p1 p2 p3 a

/-- The chunk of an even query block. -/
def probEven (mr : FVec F S8x512 .f32) (qb c : Nat) (hc : c < 8) (a : Acc F) : Cmd F (Acc F) := do
  let p0 ← expDiag mr qb (4 * c) (by omega)
  let p1 ← expDiag mr qb (4 * c + 1) (by omega)
  let vt : Vec F S128x128 .fp8e4m3 ← ld .vt ![0, 256 * c] S128x128.size (inb2 (by decide) (by omega)) h_S128x128
  pure (addL (addL a.1 p0) p1, some (accum a.2 (pv128 vt (pCode p0) (pCode p1))))

/-- One head of a query block's result. -/
def putOut (qb : Nat) (hq : qb < 16) (h : Nat) (hh : h < 4) (w : FVec F S1x128x128 .bf16) : Cmd F PUnit := do
  let _ : Vec F S1x128x128 .bf16 ← ld .o ![0, 128 * qb, 128 * h] S1x128x128.size
    (inb3 (by decide) (by omega) (by omega)) h_S1x128x128
  st .o ![0, 128 * qb, 128 * h] S1x128x128.size (inb3 (by decide) (by omega) (by omega)) h_S1x128x128
    (pk3 (show 2 ∣ 128 * qb by omega) (show 2 ∣ 128 by decide)) w

/-- A query block's result. -/
def finish (vcol : FVec F S128x128 .f32) (qb : Nat) (hq : qb < 16) (a : Acc F) : Cmd F PUnit := do
  let acc := a.2.getD (constant S128x512 .f32 0x00000000#32)
  let li := lInv a.1
  putOut qb hq 0 (by decide) (outOf vcol (extractStridedSlice S128x128 ![0, 0] acc slices_S128x512_o0_0_S128x128)
    (extractStridedSlice S1x128 ![0, 0] li slices_S1x512_o0_0_S1x128))
  putOut qb hq 1 (by decide) (outOf vcol (extractStridedSlice S128x128 ![0, 128] acc slices_S128x512_o0_128_S128x128)
    (extractStridedSlice S1x128 ![0, 128] li slices_S1x512_o0_128_S1x128))
  putOut qb hq 2 (by decide) (outOf vcol (extractStridedSlice S128x128 ![0, 256] acc slices_S128x512_o0_256_S128x128)
    (extractStridedSlice S1x128 ![0, 256] li slices_S1x512_o0_256_S1x128))
  putOut qb hq 3 (by decide) (outOf vcol (extractStridedSlice S128x128 ![0, 384] acc slices_S128x512_o0_384_S128x128)
    (extractStridedSlice S1x128 ![0, 384] li slices_S1x512_o0_384_S1x128))

/-- The key head's number is below 2. -/
theorem kv_lt (n : Fin 2) : (Scalar.indexCast (BitVec.ofNat 32 n.val)).toNat < 2 := by
  have : ∀ n, n < 2 → (Scalar.indexCast (BitVec.ofNat 32 n)).toNat < 2 := by decide
  exact this _ n.isLt

/-- No score yet. -/
def m0 : FVec F S8x512 .f32 := broadcast S8x512 (Scalar.ofBits .f32 0xFF800000#32)

/-- No exponential yet. -/
def l0 : FVec F S8x512 .f32 := broadcast S8x512 (Scalar.ofBits .f32 0x00000000#32)

/-- The even query block `2t`, with the scores of the odd one after it. -/
def evenBlock (kv : BitVec 32) (vcol : FVec F S128x128 .f32) (t : Nat) (ht : t < 8) (m : FVec F S8x512 .f32) : Cmd F (FVec F S8x512 .f32) := do
  quantQ cl kv (2 * t + 1) (by omega)
  let r : FVec F S8x512 .f32 × Acc F ← loop t (fun i hi (r : FVec F S8x512 .f32 × Acc F) => do
    let m' ← scoreFull (2 * t + 1) i (by omega) r.1
    let a' ← probFull (rowMax m) (2 * t) i (by omega) r.2
    pure (m', a')) (m0, l0, none)
  let m' ← scoreOdd (2 * t + 1) t ht r.1
  let a ← probEven (rowMax m) (2 * t) t ht r.2
  finish vcol (2 * t) (by omega) a
  pure m'

/-- The odd query block `2t + 1`, with the scores of the even one after it. -/
def oddBlock (kv : BitVec 32) (vcol : FVec F S128x128 .f32) (t : Nat) (ht : t < 7) (m : FVec F S8x512 .f32) : Cmd F (FVec F S8x512 .f32) := do
  quantQ cl kv (2 * t + 2) (by omega)
  let r : FVec F S8x512 .f32 × Acc F ← loop t (fun i hi (r : FVec F S8x512 .f32 × Acc F) => do
    let m' ← scoreFull (2 * t + 2) i (by omega) r.1
    let a' ← probFull (rowMax m) (2 * t + 1) i (by omega) r.2
    pure (m', a')) (m0, l0, none)
  let m' ← scoreFull (2 * t + 2) t (by omega) r.1
  let a ← probOdd (rowMax m) (2 * t + 1) t (by omega) r.2
  let m' ← scoreEven (2 * t + 2) (t + 1) (by omega) m'
  finish vcol (2 * t + 1) (by omega) a
  pure m'

/-- The last query block. -/
def lastBlock (vcol : FVec F S128x128 .f32) (m : FVec F S8x512 .f32) : Cmd F PUnit := do
  let a : Acc F ← loop 7 (fun i hi a => probFull (rowMax m) 15 i (by omega) a) (l0, none)
  let a ← probOdd (rowMax m) 15 7 (by decide) a
  finish vcol 15 (by decide) a

/-- The attention of every query block. -/
def blocks (kv : BitVec 32) (vcol : FVec F S128x128 .f32) : Cmd F PUnit := do
  quantQ cl kv 0 (by decide)
  let m ← scoreEven 0 0 (by decide) m0
  let m ← loop 7 (fun t ht m => do
    let m ← evenBlock cl kv vcol t (by omega) m
    oddBlock cl kv vcol t ht m) m
  let m ← evenBlock cl kv vcol 7 (by decide) m
  lastBlock vcol m

/-- The body. -/
def body (kv : BitVec 32) (hkv : (Scalar.indexCast kv).toNat < 2) : Cmd F PUnit := do
  let vcol ← prep cl cs kv hkv
  blocks cl kv vcol

end Programs

end Cert.Attn
-- ==== Proof.Run.lean ====
module

public import proofs.«01_k».proof.Proof.Body
public import Idealize.ShloMosaic.Lib.Pipeline.Frame

/-! # What a program over the buffers computes

`eval` runs a program on the contents of the buffers as a function; `wp_on` says that the machine's
program does just that, on whatever buffers it is given. -/

@[expose] public section

set_option maxErrors 5

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

instance : Fintype Bf where
  elems := {.x, .k, .v, .o, .qc, .qs, .mq, .kc, .ks, .mk, .vc, .vs, .s, .kb, .vt, .skc, .qd, .mqd, .qsr}
  complete b := by cases b <;> decide

/-- The contents of the buffers. -/
abbrev St (F : FTy → Type) : Type := (b : Bf) → Vec F b.shape b.elt

/-- A rectangle of an array written on the elements of a mask. -/
def put {s : Shape} {α : Type} (r : Rect s) (M : Finset r.shape.Idx) (w : r.shape.Idx → α) (X : s.Idx → α) : s.Idx → α :=
  fun j => haveI := Classical.propDecidable; if h : ∃ i, i ∈ M ∧ r.emb i = j then w h.choose else X j

theorem put_emb {s : Shape} {α : Type} (r : Rect s) (M : Finset r.shape.Idx) (w : r.shape.Idx → α) (X : s.Idx → α) {i : r.shape.Idx}
    (h : i ∈ M) : put r M w X (r.emb i) = w i := by
  have h' : ∃ k, k ∈ M ∧ r.emb k = r.emb i := ⟨i, h, rfl⟩
  unfold put
  rw [dif_pos h']
  exact congrArg w (r.emb.injective h'.choose_spec.2)

theorem put_of_not {s : Shape} {α : Type} (r : Rect s) (M : Finset r.shape.Idx) (w : r.shape.Idx → α) (X : s.Idx → α) {j : s.Idx}
    (h : ∀ i ∈ M, r.emb i ≠ j) : put r M w X j = X j := by
  unfold put
  rw [dif_neg]
  rintro ⟨i, hi, e⟩
  exact h i hi e

/-- One step, run. -/
def Eff.run {α : Type} : Eff F α → St F → α × St F
  | .load b off size h _, s => (fun i => s b ((Rect.unit off size h).emb i), s)
  | .store b off size h _ _ w, s => (⟨⟩, Function.update s b (put (Rect.unit off size h) Finset.univ w (s b)))
  | .storeOn b off size h _ _ M w, s => (⟨⟩, Function.update s b (put (Rect.unit off size h) M w (s b)))

/-- A program, run. -/
def eval {α : Type} : Cmd F α → St F → α × St F
  | .ret a, s => (a, s)
  | .op e k, s => eval (k (e.run s).1) (e.run s).2

theorem eval_bind {α β : Type} (p : Cmd F α) (k : α → Cmd F β) (s : St F) :
    eval (p >>= k) s = eval (k (eval p s).1) (eval p s).2 := by
  induction p generalizing s with
  | ret a => rfl
  | op e k' ih => exact ih _ _

section Machine

variable {nD : Nat} {τ : Topo} {sig : RefSig} {Λ : Labels}
variable {Name : Type} [DecidableEq Name] {U : Type} [URA U] {Lvl : Type} [Preorder Lvl]

local notation "𝕄" => MT nD τ sig Unit (Elt F) Name U Lvl

/-- The buffers, owned at their contents. -/
def Own (c : Dev nD) (A : Args sig) (s : St F) : sProp 𝕄 :=
  bigSep Finset.univ fun b : Bf => owns (c : Thread nD τ) (A.m b) fullShare (s b)

/-- One buffer out of all. -/
theorem own_split (c : Dev nD) (A : Args sig) (s : St F) (b : Bf) :
    (Own c A s : sProp 𝕄) = iprop(owns (c : Thread nD τ) (A.m b) fullShare (s b)
      ∗ bigSep (Finset.univ.erase b) fun b' : Bf => owns (c : Thread nD τ) (A.m b') fullShare (s b')) :=
  bigSep_erase (Finset.mem_univ b)

/-- One buffer back at other contents. -/
theorem own_join (c : Dev nD) (A : Args sig) (s : St F) (b : Bf) (X : Vec F b.shape b.elt) :
    (iprop(owns (c : Thread nD τ) (A.m b) fullShare X
      ∗ bigSep (Finset.univ.erase b) fun b' : Bf => owns (c : Thread nD τ) (A.m b') fullShare (s b')) : sProp 𝕄)
      = Own c A (Function.update s b X) := by
  rw [own_split c A (Function.update s b X) b, Function.update_self]
  congr 1
  refine bigSep_congr fun b' hb => ?_
  rw [Function.update_of_ne (Finset.ne_of_mem_erase hb)]

variable {defs : Defs nD τ sig (Elt F) Λ} {𝒱 : Variants} (c : Dev nD) {bd : Option 𝒱.V} {E : Set Name}

theorem wp_load_own (A : Args sig) {α : Type} (s : St F) (b : Bf) (off size : Fin b.shape.rank → Nat)
    (h : ∀ a, off a + size a ≤ b.shape.size a) (hl : (A.m b).view.LoadsAt (Rect.unit off size h).toLoadRect)
    (k : Vec F ⟨b.shape.rank, size⟩ b.elt → Prog (TpuEff nD τ sig (Elt F) Λ .tc) α) (Q : α → sProp 𝕄) :
    (iprop(Own c A s ∗ (Own c A s -∗ wp frame (wpE defs 𝒱 (c : Thread nD τ) bd) E (k fun i => s b ((Rect.unit off size h).emb i)) Q)) : sProp 𝕄)
      ⊢ wp frame (wpE defs 𝒱 (c : Thread nD τ) bd) E (.op (.load (A.m b) (Rect.unit off size h).toLoadRect hl) k) Q := by
  rw [own_split c A s b]
  unfold owns
  iintro ⟨⟨⟨%f, %hf, H⟩, Hr⟩, Hk⟩
  iapply (wp_load 𝒱 (c : Thread nD τ) bd E (m := A.m b) (r := (Rect.unit off size h).toLoadRect) (hl := hl) (k := k)
    (View.setOn_subset_set _ _)) $$ [H]
  · iexact H
  iintro H
  have e : (A.m b).view.readAt (Elt F) (Rect.unit off size h).toLoadRect f = fun i => s b ((Rect.unit off size h).emb i) := by
    funext i; rw [View.readAt_apply, hf]; rfl
  rw [e]
  iapply Hk
  isplitl [H]
  · iexists f; isplitr; · ipureintro; exact hf
    iexact H
  · iexact Hr

theorem wp_store_own (A : Args sig) {α : Type} (s : St F) (b : Bf) (r : Rect b.shape) (w : r.shape.Idx → Elt F b.elt)
    (M : Finset r.shape.Idx) (hx : ((A.m b).access r).Stores M) (hm : M = Finset.univ ∨ ∀ a, r.stride a = 1)
    (k : PUnit → Prog (TpuEff nD τ sig (Elt F) Λ .tc) α) (Q : α → sProp 𝕄) :
    (iprop(Own c A s ∗ (Own c A (Function.update s b (put r M w (s b))) -∗ wp frame (wpE defs 𝒱 (c : Thread nD τ) bd) E (k ⟨⟩) Q)) : sProp 𝕄)
      ⊢ wp frame (wpE defs 𝒱 (c : Thread nD τ) bd) E (.op (.store (A.m b) r w M hx hm) k) Q := by
  rw [← own_join c A s b, own_split c A s b]
  unfold owns
  iintro ⟨⟨⟨%f, %hf, H⟩, Hr⟩, Hk⟩
  iapply (wp_store 𝒱 (c : Thread nD τ) bd E (m := A.m b) (r := r) (w := w) (Mk := M) (hx := hx) (hm := hm) (k := k)
    (S := (A.m b).view.set) (f := f) ?_) $$ [H]
  · exact (View.setOn_subset_set _ _).trans (View.set_slice_subset _ _)
  · iexact H
  iintro H
  iapply Hk
  isplitl [H]
  · iexists (((A.m b).access r).write (Elt F) f w M)
    isplitr
    · ipureintro
      funext j
      by_cases hj : ∃ i, i ∈ M ∧ r.emb i = j
      · obtain ⟨i, hi, rfl⟩ := hj
        rw [put_emb r M w (s b) hi]
        exact View.read_slice_write_emb r f w hi
      · rw [put_of_not r M w (s b) (fun i hi e => hj ⟨i, hi, e⟩), ← hf]
        refine View.read_slice_write_of_not_mem r f w M fun hm' => ?_
        obtain ⟨i, hi, e⟩ := Finset.mem_map.mp hm'
        exact hj ⟨i, hi, e⟩
    · iexact H
  · iexact Hr

/-- The machine's program does what the program computes. -/
theorem wp_on (A : Args sig) {α : Type} (p : Cmd F α) (s : St F) (Q : α → sProp 𝕄) :
    (iprop(Own c A s ∗ (Own c A (eval p s).2 -∗ Q (eval p s).1)) : sProp 𝕄)
      ⊢ wp frame (wpE defs 𝒱 (c : Thread nD τ) bd) E (on A p) Q := by
  induction p generalizing s with
  | ret a =>
    refine .trans ?_ (fupd_intro (E := E) (P := Q a))
    change iprop(Own c A s ∗ (Own c A s -∗ Q a)) ⊢ Q a
    iintro ⟨H, Hk⟩
    iapply Hk; iexact H
  | op e k ih =>
    cases e with
    | load b off size h hp =>
      exact (sep_mono_right (wand_intro_left (ih (fun i => s b ((Rect.unit off size h).emb i)) s))).trans
        (wp_load_own c A s b off size h (View.loadsAt_vmem hp) (fun x => on A (k x)) Q)
    | store b off size h hp hr w =>
      exact (sep_mono_right (wand_intro_left (ih ⟨⟩ _))).trans
        (wp_store_own c A s b (Rect.unit off size h) w Finset.univ
          (View.stores_vmem hp ((A.w b).storeExact_slice rfl _ hr) (fun _ => rfl)) (.inl rfl) (fun x => on A (k x)) Q)
    | storeOn b off size h hp he M w =>
      exact (sep_mono_right (wand_intro_left (ih ⟨⟩ _))).trans
        (wp_store_own c A s b (Rect.unit off size h) w M
          (View.stores_vmem_bits hp he (fun h => nomatch h)) (.inr (fun _ => rfl)) (fun x => on A (k x)) Q)

end Machine

end Cert.Attn
-- ==== Proof.SameIdeal.lean ====
module

public import proofs.«01_k».proof.Proof.Body
public import Idealize.ShloMosaic.Lib.Tactic

/-! # The printed body of the ideal kernel is the body with its loops -/

@[expose] public section

namespace Cert.Attn

open Idealize.ShloMosaic Idealize.SL.Sem

/-- A point of the grid from its two coordinates. -/
def pointIdeal (a : Fin 8) (b : Fin 2) : KernelIdeal.grid0.Coords := fun | 0 => a | 1 => b

theorem pointIdeal_eta (i : KernelIdeal.grid0.Coords) : i = pointIdeal (i 0) (i 1) := by
  funext a; fin_cases a <;> rfl

variable {F : FTy → Type} [FloatOps F] [Named F] [KernelIdeal.Facts]

/-- The printed body, at the first key head. -/
theorem sameIdeal_zero (a : Fin 8) (A : Args KernelIdeal.sig) :
    KernelIdeal.cc0_attn (F := F) (pointIdeal a 0) (A.m .x) (A.w .x) (A.m .k) (A.w .k) (A.m .v) (A.w .v) (A.m .o) (A.w .o) (A.m .qc) (A.w .qc) (A.m .qs) (A.w .qs) (A.m .mq) (A.w .mq) (A.m .kc) (A.w .kc) (A.m .ks) (A.w .ks) (A.m .mk) (A.w .mk) (A.m .vc) (A.w .vc) (A.m .vs) (A.w .vs) (A.m .s) (A.w .s) (A.m .kb) (A.w .kb) (A.m .vt) (A.w .vt) (A.m .skc) (A.w .skc) (A.m .qd) (A.w .qd) (A.m .mqd) (A.w .mqd) (A.m .qsr) (A.w .qsr)
      = on A (body (Named.named KernelIdeal.κ "log2_e" 0x3FB8AA3B#32) (Named.named KernelIdeal.κ "score_log2" 0x3E0293EE#32) (BitVec.ofNat 32 0) (kv_lt 0)) := by
  sl_kernel_rfl

/-- The printed body, at the second key head. -/
theorem sameIdeal_one (a : Fin 8) (A : Args KernelIdeal.sig) :
    KernelIdeal.cc0_attn (F := F) (pointIdeal a 1) (A.m .x) (A.w .x) (A.m .k) (A.w .k) (A.m .v) (A.w .v) (A.m .o) (A.w .o) (A.m .qc) (A.w .qc) (A.m .qs) (A.w .qs) (A.m .mq) (A.w .mq) (A.m .kc) (A.w .kc) (A.m .ks) (A.w .ks) (A.m .mk) (A.w .mk) (A.m .vc) (A.w .vc) (A.m .vs) (A.w .vs) (A.m .s) (A.w .s) (A.m .kb) (A.w .kb) (A.m .vt) (A.w .vt) (A.m .skc) (A.w .skc) (A.m .qd) (A.w .qd) (A.m .mqd) (A.w .mqd) (A.m .qsr) (A.w .qsr)
      = on A (body (Named.named KernelIdeal.κ "log2_e" 0x3FB8AA3B#32) (Named.named KernelIdeal.κ "score_log2" 0x3E0293EE#32) (BitVec.ofNat 32 1) (kv_lt 1)) := by
  sl_kernel_rfl

/-- The printed body, at any point and any buffers. -/
theorem sameIdeal (i : KernelIdeal.grid0.Coords) (A : Args KernelIdeal.sig) :
    KernelIdeal.cc0_attn (F := F) i (A.m .x) (A.w .x) (A.m .k) (A.w .k) (A.m .v) (A.w .v) (A.m .o) (A.w .o) (A.m .qc) (A.w .qc) (A.m .qs) (A.w .qs) (A.m .mq) (A.w .mq) (A.m .kc) (A.w .kc) (A.m .ks) (A.w .ks) (A.m .mk) (A.w .mk) (A.m .vc) (A.w .vc) (A.m .vs) (A.w .vs) (A.m .s) (A.w .s) (A.m .kb) (A.w .kb) (A.m .vt) (A.w .vt) (A.m .skc) (A.w .skc) (A.m .qd) (A.w .qd) (A.m .mqd) (A.w .mqd) (A.m .qsr) (A.w .qsr)
      = on A (body (Named.named KernelIdeal.κ "log2_e" 0x3FB8AA3B#32) (Named.named KernelIdeal.κ "score_log2" 0x3E0293EE#32) (BitVec.ofNat 32 (i 1).val) (kv_lt (i 1))) := by
  obtain ⟨a, b, rfl⟩ : ∃ a b, i = pointIdeal a b := ⟨i 0, i 1, pointIdeal_eta i⟩
  obtain ⟨n, hn⟩ := b
  match n, hn with
  | 0, _ => exact sameIdeal_zero a A
  | 1, _ => exact sameIdeal_one a A

end Cert.Attn
-- ==== Proof.PipeIdeal.lean ====
module

public import proofs.«01_k».proof.Proof.Run
public import proofs.«01_k».proof.Proof.SameIdeal
public import proofs.«01_k».proof.Proof.Gen.KernelIdeal.Frame
public import proofs.«01_k».proof.Proof.Gen.KernelIdeal

/-! # The run of `KernelIdeal`

The pipeline's body at a point of the grid is `body` on the staging buffers and the scratch; so whatever it leaves in an
output's buffer is what `body` computes from the blocks of the inputs and some contents of the other buffers. -/

@[expose] public section

noncomputable section

namespace Cert.Attn.Ideal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers at point `t`. -/
def argsAt (t : Fin cfg0.N) : Args sig where
  m
    | .x => (cfg0.win 0).stage (cfg0.slots t 0)
    | .k => (cfg0.win 1).stage (cfg0.slots t 1)
    | .v => (cfg0.win 2).stage (cfg0.slots t 2)
    | .o => (cfg0.win 3).stage (cfg0.slots t 3)
    | .qc => (cfg0.win 4).stage (cfg0.slots t 4)
    | .qs => (cfg0.win 5).stage (cfg0.slots t 5)
    | .mq => (cfg0.win 6).stage (cfg0.slots t 6)
    | .kc => (cfg0.win 7).stage (cfg0.slots t 7)
    | .ks => (cfg0.win 8).stage (cfg0.slots t 8)
    | .mk => (cfg0.win 9).stage (cfg0.slots t 9)
    | .vc => (cfg0.win 10).stage (cfg0.slots t 10)
    | .vs => (cfg0.win 11).stage (cfg0.slots t 11)
    | .s => Memref.whole cc0_scratch0
    | .kb => Memref.whole cc0_scratch1
    | .vt => Memref.whole cc0_scratch2
    | .skc => Memref.whole cc0_scratch3
    | .qd => Memref.whole cc0_scratch4
    | .mqd => Memref.whole cc0_scratch5
    | .qsr => Memref.whole cc0_scratch6
  w
    | .x => hstage0_0 ((cfg0.slots t 0).cast nbuf0_0)
    | .k => hstage0_1 ((cfg0.slots t 1).cast nbuf0_1)
    | .v => hstage0_2 ((cfg0.slots t 2).cast nbuf0_2)
    | .o => hstage0_3 ((cfg0.slots t 3).cast nbuf0_3)
    | .qc => hstage0_4 ((cfg0.slots t 4).cast nbuf0_4)
    | .qs => hstage0_5 ((cfg0.slots t 5).cast nbuf0_5)
    | .mq => hstage0_6 ((cfg0.slots t 6).cast nbuf0_6)
    | .kc => hstage0_7 ((cfg0.slots t 7).cast nbuf0_7)
    | .ks => hstage0_8 ((cfg0.slots t 8).cast nbuf0_8)
    | .mk => hstage0_9 ((cfg0.slots t 9).cast nbuf0_9)
    | .vc => hstage0_10 ((cfg0.slots t 10).cast nbuf0_10)
    | .vs => hstage0_11 ((cfg0.slots t 11).cast nbuf0_11)
    | .s => Memref.isWhole_whole _
    | .kb => Memref.isWhole_whole _
    | .vt => Memref.isWhole_whole _
    | .skc => Memref.isWhole_whole _
    | .qd => Memref.isWhole_whole _
    | .mqd => Memref.isWhole_whole _
    | .qsr => Memref.isWhole_whole _

/-- The program the body is at point `t`. -/
def bodyAt (t : Fin cfg0.N) : Cmd F PUnit :=
  body (Named.named KernelIdeal.κ "log2_e" 0x3FB8AA3B#32) (Named.named KernelIdeal.κ "score_log2" 0x3E0293EE#32) (BitVec.ofNat 32 (cfg0.grid.coords t 1).val) (kv_lt (cfg0.grid.coords t 1))

/-- The body table's row at point `t` is that program. -/
theorem row (t : Fin cfg0.N) :
    defs₀ (F := F) .tc cfg0.body (cfg0.bodyArgs t (cfg0.slots t)) = on (argsAt t) (bodyAt t) := by
  unfold defs₀; rw [Defs.onTc_tc]
  exact sameIdeal (cfg0.grid.coords t) (argsAt t)

/-- A state from its buffers one by one. -/
def mkSt (x : Vec F S1x2048x512 .bf16) (k v : Vec F S1x2048x128 .bf16) (o : Vec F S1x2048x512 .bf16) (qc : Vec F S1x2048x512 .fp8e4m3)
    (qs : Vec F S1x8x2048 .f32) (mq : Vec F S1x4x16x128 .bf16) (kc : Vec F S1x1x2048x128 .fp8e4m3) (ks : Vec F S1x2x32 .f32)
    (mk : Vec F S1x2x128 .bf16) (vc : Vec F S1x1x2048x128 .fp8e4m3) (vs : Vec F S1x2x128 .f32) (s : Vec F S2x2048x512 .f32)
    (kb : Vec F S2048x128 .bf16) (vt : Vec F S128x2048 .fp8e4m3) (skc : Vec F S32x8x128 .f32) (qd : Vec F S2x512x128 .fp8e4m3)
    (mqd : Vec F S2x512x128 .bf16) (qsr : Vec F S2x8x512 .f32) : St F
  | .x => x | .k => k | .v => v | .o => o | .qc => qc | .qs => qs | .mq => mq | .kc => kc | .ks => ks | .mk => mk
  | .vc => vc | .vs => vs | .s => s | .kb => kb | .vt => vt | .skc => skc | .qd => qd | .mqd => mqd | .qsr => qsr

/-- The buffers one by one. -/
theorem own_list (c : Dev nD) (A : Args sig) (s : St F) :
    (Own c A s : sProp 𝕄) = iprop(owns (c : Thread nD τ) (A.m .x) fullShare (s .x) ∗ owns (c : Thread nD τ) (A.m .k) fullShare (s .k)
      ∗ owns (c : Thread nD τ) (A.m .v) fullShare (s .v) ∗ owns (c : Thread nD τ) (A.m .o) fullShare (s .o)
      ∗ owns (c : Thread nD τ) (A.m .qc) fullShare (s .qc) ∗ owns (c : Thread nD τ) (A.m .qs) fullShare (s .qs)
      ∗ owns (c : Thread nD τ) (A.m .mq) fullShare (s .mq) ∗ owns (c : Thread nD τ) (A.m .kc) fullShare (s .kc)
      ∗ owns (c : Thread nD τ) (A.m .ks) fullShare (s .ks) ∗ owns (c : Thread nD τ) (A.m .mk) fullShare (s .mk)
      ∗ owns (c : Thread nD τ) (A.m .vc) fullShare (s .vc) ∗ owns (c : Thread nD τ) (A.m .vs) fullShare (s .vs)
      ∗ owns (c : Thread nD τ) (A.m .s) fullShare (s .s) ∗ owns (c : Thread nD τ) (A.m .kb) fullShare (s .kb)
      ∗ owns (c : Thread nD τ) (A.m .vt) fullShare (s .vt) ∗ owns (c : Thread nD τ) (A.m .skc) fullShare (s .skc)
      ∗ owns (c : Thread nD τ) (A.m .qd) fullShare (s .qd) ∗ owns (c : Thread nD τ) (A.m .mqd) fullShare (s .mqd)
      ∗ owns (c : Thread nD τ) (A.m .qsr) fullShare (s .qsr)) :=
  bigSep_univ_eq_bigSepL [Bf.x, .k, .v, .o, .qc, .qs, .mq, .kc, .ks, .mk, .vc, .vs, .s, .kb, .vt, .skc, .qd, .mqd, .qsr]
    (by decide) (by decide) fun b : Bf => owns (c : Thread nD τ) (A.m b) fullShare (s b)

/-- What the body may leave in the buffer `b` at point `t`, having found `Y` there: what the program computes
    from the inputs' blocks, `Y`, and anything in the other buffers. -/
def Left (c : Dev nD) (t : Fin cfg0.N) (b : Bf) (Y X : Vec F b.shape b.elt) : Prop :=
  ∃ s : St F, s .x = iblk m c 0 t ∧ s .k = iblk m c 1 t ∧ s .v = iblk m c 2 t ∧ s b = Y ∧ X = (eval (bodyAt t) s).2 b

/-- The proof data: the arrays as launched, an input's buffer anything afterwards, an output's as `Left` says. -/
def rdat (c : Dev nD) : RDat τ (Elt F) Unit ℕ (UR sig nD τ) ℕ cfg0 c where
  A w := V m c (Pipeline.arrRef spec0 w)
  after w t := match w with
    | ⟨0, _⟩ => fun _ _ => True
    | ⟨1, _⟩ => fun _ _ => True
    | ⟨2, _⟩ => fun _ _ => True
    | ⟨3, _⟩ => Left m c t .o
    | ⟨4, _⟩ => Left m c t .qc
    | ⟨5, _⟩ => Left m c t .qs
    | ⟨6, _⟩ => Left m c t .mq
    | ⟨7, _⟩ => Left m c t .kc
    | ⟨8, _⟩ => Left m c t .ks
    | ⟨9, _⟩ => Left m c t .mk
    | ⟨10, _⟩ => Left m c t .vc
    | ⟨11, _⟩ => Left m c t .vs
  Φ _ := Pipeline.ΦA spec0 c
  q _ := fullShare
  owed _ := 0

theorem A_eq (c : Dev nD) (w : Fin cfg0.W) : (rdat m c).A w = V m c (Pipeline.arrRef spec0 w) := by dsimp only [rdat]

/-- The inputs are fetched at every point. -/
theorem found0 (c : Dev nD) (t : Fin cfg0.N) (Y) (h : (rdat m c).Finds 0 t Y) : Y = iblk m c 0 t := by
  obtain ⟨d, rfl⟩ := ((rdat m c).finds_of_fetch (fetch0_0 t) Y).mp h
  unfold RDat.fetched RDat.blockOf iblk; rw [A_eq]; rfl
theorem found1 (c : Dev nD) (t : Fin cfg0.N) (Y) (h : (rdat m c).Finds 1 t Y) : Y = iblk m c 1 t := by
  obtain ⟨d, rfl⟩ := ((rdat m c).finds_of_fetch (fetch0_1 t) Y).mp h
  unfold RDat.fetched RDat.blockOf iblk; rw [A_eq]; rfl
theorem found2 (c : Dev nD) (t : Fin cfg0.N) (Y) (h : (rdat m c).Finds 2 t Y) : Y = iblk m c 2 t := by
  obtain ⟨d, rfl⟩ := ((rdat m c).finds_of_fetch (fetch0_2 t) Y).mp h
  unfold RDat.fetched RDat.blockOf iblk; rw [A_eq]; rfl

/-- The body obligation. -/
theorem obligation (c : Dev nD) : (rdat (F := F) m c).BodyObligation (defs₀ (F := F)) Variants.none () Set.univ := by
  intro t Y hY
  rw [bigSep_W0, row]
  simp only [bigSep_W0]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  simp only [← owns_whole]
  iintro ⟨⟨⟨⟨%f0, S0⟩, ⟨%f1, S1⟩, ⟨%f2, S2⟩, ⟨%f3, S3⟩, ⟨%f4, S4⟩, ⟨%f5, S5⟩, ⟨%f6, S6⟩⟩, Hr⟩, Ho, H0, H1, H2, H3, H4, H5, H6, H7, H8, H9, H10, H11⟩
  iapply (wp_on c (argsAt t) (bodyAt t)
    (mkSt (Y 0) (Y 1) (Y 2) (Y 3) (Y 4) (Y 5) (Y 6) (Y 7) (Y 8) (Y 9) (Y 10) (Y 11) f0 f1 f2 f3 f4 f5 f6))
  have hL : ∀ b, Left m c t b (mkSt (Y 0) (Y 1) (Y 2) (Y 3) (Y 4) (Y 5) (Y 6) (Y 7) (Y 8) (Y 9) (Y 10) (Y 11) f0 f1 f2 f3 f4 f5 f6 b)
      ((eval (bodyAt t) (mkSt (Y 0) (Y 1) (Y 2) (Y 3) (Y 4) (Y 5) (Y 6) (Y 7) (Y 8) (Y 9) (Y 10) (Y 11) f0 f1 f2 f3 f4 f5 f6)).2 b) :=
    fun b => ⟨_, found0 m c t _ (hY 0), found1 m c t _ (hY 1), found2 m c t _ (hY 2), rfl, rfl⟩
  revert hL
  generalize (eval (bodyAt t) (mkSt (Y 0) (Y 1) (Y 2) (Y 3) (Y 4) (Y 5) (Y 6) (Y 7) (Y 8) (Y 9) (Y 10) (Y 11) f0 f1 f2 f3 f4 f5 f6)).2 = s'
  intro hL
  rw [own_list c (argsAt t) s', own_list c (argsAt t) (mkSt _ _ _ _ _ _ _ _ _ _ _ _ _ _ _ _ _ _ _)]
  isplitl [S0 S1 S2 S3 S4 S5 S6 H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, S0, S1, S2, S3, S4, S5, S6⟩
  isplitl [S0 S1 S2 S3 S4 S5 S6 Hr]
  · isplitl [S0 S1 S2 S3 S4 S5 S6]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    · iexact Hr
  isplitl [Ho]; · iexact Ho
  isplitl [H0]; · iexists (s' .x); isplitr; · ipureintro; trivial
                  iexact H0
  isplitl [H1]; · iexists (s' .k); isplitr; · ipureintro; trivial
                  iexact H1
  isplitl [H2]; · iexists (s' .v); isplitr; · ipureintro; trivial
                  iexact H2
  isplitl [H3]; · iexists (s' .o); isplitr; · ipureintro; exact hL .o
                  iexact H3
  isplitl [H4]; · iexists (s' .qc); isplitr; · ipureintro; exact hL .qc
                  iexact H4
  isplitl [H5]; · iexists (s' .qs); isplitr; · ipureintro; exact hL .qs
                  iexact H5
  isplitl [H6]; · iexists (s' .mq); isplitr; · ipureintro; exact hL .mq
                  iexact H6
  isplitl [H7]; · iexists (s' .kc); isplitr; · ipureintro; exact hL .kc
                  iexact H7
  isplitl [H8]; · iexists (s' .ks); isplitr; · ipureintro; exact hL .ks
                  iexact H8
  isplitl [H9]; · iexists (s' .mk); isplitr; · ipureintro; exact hL .mk
                  iexact H9
  isplitl [H10]; · iexists (s' .vc); isplitr; · ipureintro; exact hL .vc
                   iexact H10
  iexists (s' .vs); isplitr; · ipureintro; exact hL .vs
  iexact H11

set_option backward.isDefEq.respectTransparency.types false in
/-- The run: every array of the pipeline at contents the proof data allows, and every counter at zero. -/
theorem run : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := obligation m) (hshare := fun c w => by unfold RDat.share; split <;> rfl)
    (howed := fun _ _ => rfl) (V := V m) (hmain := hmain m Variants.none) (hA := A_eq m) (hΦ := fun _ _ => rfl)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans (A_eq m c 0), (h.1.arr_in c 1 rfl).trans (A_eq m c 1),
    (h.1.arr_in c 2 rfl).trans (A_eq m c 2)⟩, h.2⟩) (run m ρ)

end Cert.Attn.Ideal

end
-- ==== Proof.SameBits.lean ====
module

public import proofs.«01_k».proof.Proof.Body
public import Idealize.ShloMosaic.Lib.Tactic
public import proofs.«01_k».proof.Kernel

/-! # The printed body of the kernel is the body with its loops -/

@[expose] public section

namespace Cert.Attn

open Idealize.ShloMosaic Idealize.SL.Sem

/-- A point of the grid from its two coordinates. -/
def pointBits (a : Fin 8) (b : Fin 2) : Kernel.grid0.Coords := fun | 0 => a | 1 => b

theorem pointBits_eta (i : Kernel.grid0.Coords) : i = pointBits (i 0) (i 1) := by
  funext a; fin_cases a <;> rfl

variable {F : FTy → Type} [FloatOps F] [Kernel.Facts] [KernelIdeal.Facts]

/-- The printed body, at the first key head. -/
theorem sameBits_zero (a : Fin 8) (A : Args Kernel.sig) :
    Kernel.cc0_attn (F := F) (pointBits a 0) (A.m .x) (A.w .x) (A.m .k) (A.w .k) (A.m .v) (A.w .v) (A.m .o) (A.w .o) (A.m .qc) (A.w .qc) (A.m .qs) (A.w .qs) (A.m .mq) (A.w .mq) (A.m .kc) (A.w .kc) (A.m .ks) (A.w .ks) (A.m .mk) (A.w .mk) (A.m .vc) (A.w .vc) (A.m .vs) (A.w .vs) (A.m .s) (A.w .s) (A.m .kb) (A.w .kb) (A.m .vt) (A.w .vt) (A.m .skc) (A.w .skc) (A.m .qd) (A.w .qd) (A.m .mqd) (A.w .mqd) (A.m .qsr) (A.w .qsr)
      = on A (body (Scalar.ofBits .f32 0x3FB8AA3B#32) (Scalar.ofBits .f32 0x3E0293EE#32) (BitVec.ofNat 32 0) (kv_lt 0)) := by
  sl_kernel_rfl

/-- The printed body, at the second key head. -/
theorem sameBits_one (a : Fin 8) (A : Args Kernel.sig) :
    Kernel.cc0_attn (F := F) (pointBits a 1) (A.m .x) (A.w .x) (A.m .k) (A.w .k) (A.m .v) (A.w .v) (A.m .o) (A.w .o) (A.m .qc) (A.w .qc) (A.m .qs) (A.w .qs) (A.m .mq) (A.w .mq) (A.m .kc) (A.w .kc) (A.m .ks) (A.w .ks) (A.m .mk) (A.w .mk) (A.m .vc) (A.w .vc) (A.m .vs) (A.w .vs) (A.m .s) (A.w .s) (A.m .kb) (A.w .kb) (A.m .vt) (A.w .vt) (A.m .skc) (A.w .skc) (A.m .qd) (A.w .qd) (A.m .mqd) (A.w .mqd) (A.m .qsr) (A.w .qsr)
      = on A (body (Scalar.ofBits .f32 0x3FB8AA3B#32) (Scalar.ofBits .f32 0x3E0293EE#32) (BitVec.ofNat 32 1) (kv_lt 1)) := by
  sl_kernel_rfl

/-- The printed body, at any point and any buffers. -/
theorem sameBits (i : Kernel.grid0.Coords) (A : Args Kernel.sig) :
    Kernel.cc0_attn (F := F) i (A.m .x) (A.w .x) (A.m .k) (A.w .k) (A.m .v) (A.w .v) (A.m .o) (A.w .o) (A.m .qc) (A.w .qc) (A.m .qs) (A.w .qs) (A.m .mq) (A.w .mq) (A.m .kc) (A.w .kc) (A.m .ks) (A.w .ks) (A.m .mk) (A.w .mk) (A.m .vc) (A.w .vc) (A.m .vs) (A.w .vs) (A.m .s) (A.w .s) (A.m .kb) (A.w .kb) (A.m .vt) (A.w .vt) (A.m .skc) (A.w .skc) (A.m .qd) (A.w .qd) (A.m .mqd) (A.w .mqd) (A.m .qsr) (A.w .qsr)
      = on A (body (Scalar.ofBits .f32 0x3FB8AA3B#32) (Scalar.ofBits .f32 0x3E0293EE#32) (BitVec.ofNat 32 (i 1).val) (kv_lt (i 1))) := by
  obtain ⟨a, b, rfl⟩ : ∃ a b, i = pointBits a b := ⟨i 0, i 1, pointBits_eta i⟩
  obtain ⟨n, hn⟩ := b
  match n, hn with
  | 0, _ => exact sameBits_zero a A
  | 1, _ => exact sameBits_one a A

end Cert.Attn
-- ==== Proof.PipeBits.lean ====
module

public import proofs.«01_k».proof.Proof.Run
public import proofs.«01_k».proof.Proof.SameBits
public import proofs.«01_k».proof.Proof.Gen.Kernel.Frame
public import proofs.«01_k».proof.Proof.Gen.KernelIdeal

/-! # The run of `Kernel`

The pipeline's body at a point of the grid is `body` on the staging buffers and the scratch; so whatever it leaves in an
output's buffer is what `body` computes from the blocks of the inputs and some contents of the other buffers. -/

@[expose] public section

noncomputable section

namespace Cert.Attn.Bits

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at point `t`. -/
def argsAt (t : Fin cfg0.N) : Args sig where
  m
    | .x => (cfg0.win 0).stage (cfg0.slots t 0)
    | .k => (cfg0.win 1).stage (cfg0.slots t 1)
    | .v => (cfg0.win 2).stage (cfg0.slots t 2)
    | .o => (cfg0.win 3).stage (cfg0.slots t 3)
    | .qc => (cfg0.win 4).stage (cfg0.slots t 4)
    | .qs => (cfg0.win 5).stage (cfg0.slots t 5)
    | .mq => (cfg0.win 6).stage (cfg0.slots t 6)
    | .kc => (cfg0.win 7).stage (cfg0.slots t 7)
    | .ks => (cfg0.win 8).stage (cfg0.slots t 8)
    | .mk => (cfg0.win 9).stage (cfg0.slots t 9)
    | .vc => (cfg0.win 10).stage (cfg0.slots t 10)
    | .vs => (cfg0.win 11).stage (cfg0.slots t 11)
    | .s => Memref.whole cc0_scratch0
    | .kb => Memref.whole cc0_scratch1
    | .vt => Memref.whole cc0_scratch2
    | .skc => Memref.whole cc0_scratch3
    | .qd => Memref.whole cc0_scratch4
    | .mqd => Memref.whole cc0_scratch5
    | .qsr => Memref.whole cc0_scratch6
  w
    | .x => hstage0_0 ((cfg0.slots t 0).cast nbuf0_0)
    | .k => hstage0_1 ((cfg0.slots t 1).cast nbuf0_1)
    | .v => hstage0_2 ((cfg0.slots t 2).cast nbuf0_2)
    | .o => hstage0_3 ((cfg0.slots t 3).cast nbuf0_3)
    | .qc => hstage0_4 ((cfg0.slots t 4).cast nbuf0_4)
    | .qs => hstage0_5 ((cfg0.slots t 5).cast nbuf0_5)
    | .mq => hstage0_6 ((cfg0.slots t 6).cast nbuf0_6)
    | .kc => hstage0_7 ((cfg0.slots t 7).cast nbuf0_7)
    | .ks => hstage0_8 ((cfg0.slots t 8).cast nbuf0_8)
    | .mk => hstage0_9 ((cfg0.slots t 9).cast nbuf0_9)
    | .vc => hstage0_10 ((cfg0.slots t 10).cast nbuf0_10)
    | .vs => hstage0_11 ((cfg0.slots t 11).cast nbuf0_11)
    | .s => Memref.isWhole_whole _
    | .kb => Memref.isWhole_whole _
    | .vt => Memref.isWhole_whole _
    | .skc => Memref.isWhole_whole _
    | .qd => Memref.isWhole_whole _
    | .mqd => Memref.isWhole_whole _
    | .qsr => Memref.isWhole_whole _

/-- The program the body is at point `t`. -/
def bodyAt (t : Fin cfg0.N) : Cmd F PUnit :=
  body (Scalar.ofBits .f32 0x3FB8AA3B#32) (Scalar.ofBits .f32 0x3E0293EE#32) (BitVec.ofNat 32 (cfg0.grid.coords t 1).val) (kv_lt (cfg0.grid.coords t 1))

/-- The body table's row at point `t` is that program. -/
theorem row (t : Fin cfg0.N) :
    defs₀ (F := F) .tc cfg0.body (cfg0.bodyArgs t (cfg0.slots t)) = on (argsAt t) (bodyAt t) := by
  unfold defs₀; rw [Defs.onTc_tc]
  exact sameBits (cfg0.grid.coords t) (argsAt t)

/-- A state from its buffers one by one. -/
def mkSt (x : Vec F S1x2048x512 .bf16) (k v : Vec F S1x2048x128 .bf16) (o : Vec F S1x2048x512 .bf16) (qc : Vec F S1x2048x512 .fp8e4m3)
    (qs : Vec F S1x8x2048 .f32) (mq : Vec F S1x4x16x128 .bf16) (kc : Vec F S1x1x2048x128 .fp8e4m3) (ks : Vec F S1x2x32 .f32)
    (mk : Vec F S1x2x128 .bf16) (vc : Vec F S1x1x2048x128 .fp8e4m3) (vs : Vec F S1x2x128 .f32) (s : Vec F S2x2048x512 .f32)
    (kb : Vec F S2048x128 .bf16) (vt : Vec F S128x2048 .fp8e4m3) (skc : Vec F S32x8x128 .f32) (qd : Vec F S2x512x128 .fp8e4m3)
    (mqd : Vec F S2x512x128 .bf16) (qsr : Vec F S2x8x512 .f32) : St F
  | .x => x | .k => k | .v => v | .o => o | .qc => qc | .qs => qs | .mq => mq | .kc => kc | .ks => ks | .mk => mk
  | .vc => vc | .vs => vs | .s => s | .kb => kb | .vt => vt | .skc => skc | .qd => qd | .mqd => mqd | .qsr => qsr

/-- The buffers one by one. -/
theorem own_list (c : Dev nD) (A : Args sig) (s : St F) :
    (Own c A s : sProp 𝕄) = iprop(owns (c : Thread nD τ) (A.m .x) fullShare (s .x) ∗ owns (c : Thread nD τ) (A.m .k) fullShare (s .k)
      ∗ owns (c : Thread nD τ) (A.m .v) fullShare (s .v) ∗ owns (c : Thread nD τ) (A.m .o) fullShare (s .o)
      ∗ owns (c : Thread nD τ) (A.m .qc) fullShare (s .qc) ∗ owns (c : Thread nD τ) (A.m .qs) fullShare (s .qs)
      ∗ owns (c : Thread nD τ) (A.m .mq) fullShare (s .mq) ∗ owns (c : Thread nD τ) (A.m .kc) fullShare (s .kc)
      ∗ owns (c : Thread nD τ) (A.m .ks) fullShare (s .ks) ∗ owns (c : Thread nD τ) (A.m .mk) fullShare (s .mk)
      ∗ owns (c : Thread nD τ) (A.m .vc) fullShare (s .vc) ∗ owns (c : Thread nD τ) (A.m .vs) fullShare (s .vs)
      ∗ owns (c : Thread nD τ) (A.m .s) fullShare (s .s) ∗ owns (c : Thread nD τ) (A.m .kb) fullShare (s .kb)
      ∗ owns (c : Thread nD τ) (A.m .vt) fullShare (s .vt) ∗ owns (c : Thread nD τ) (A.m .skc) fullShare (s .skc)
      ∗ owns (c : Thread nD τ) (A.m .qd) fullShare (s .qd) ∗ owns (c : Thread nD τ) (A.m .mqd) fullShare (s .mqd)
      ∗ owns (c : Thread nD τ) (A.m .qsr) fullShare (s .qsr)) :=
  bigSep_univ_eq_bigSepL [Bf.x, .k, .v, .o, .qc, .qs, .mq, .kc, .ks, .mk, .vc, .vs, .s, .kb, .vt, .skc, .qd, .mqd, .qsr]
    (by decide) (by decide) fun b : Bf => owns (c : Thread nD τ) (A.m b) fullShare (s b)

/-- What the body may leave in the buffer `b` at point `t`, having found `Y` there: what the program computes
    from the inputs' blocks, `Y`, and anything in the other buffers. -/
def Left (c : Dev nD) (t : Fin cfg0.N) (b : Bf) (Y X : Vec F b.shape b.elt) : Prop :=
  ∃ s : St F, s .x = iblk m c 0 t ∧ s .k = iblk m c 1 t ∧ s .v = iblk m c 2 t ∧ s b = Y ∧ X = (eval (bodyAt t) s).2 b

/-- The proof data: the arrays as launched, an input's buffer anything afterwards, an output's as `Left` says. -/
def rdat (c : Dev nD) : RDat τ (Elt F) Unit ℕ (UR sig nD τ) ℕ cfg0 c where
  A w := V m c (Pipeline.arrRef spec0 w)
  after w t := match w with
    | ⟨0, _⟩ => fun _ _ => True
    | ⟨1, _⟩ => fun _ _ => True
    | ⟨2, _⟩ => fun _ _ => True
    | ⟨3, _⟩ => Left m c t .o
    | ⟨4, _⟩ => Left m c t .qc
    | ⟨5, _⟩ => Left m c t .qs
    | ⟨6, _⟩ => Left m c t .mq
    | ⟨7, _⟩ => Left m c t .kc
    | ⟨8, _⟩ => Left m c t .ks
    | ⟨9, _⟩ => Left m c t .mk
    | ⟨10, _⟩ => Left m c t .vc
    | ⟨11, _⟩ => Left m c t .vs
  Φ _ := Pipeline.ΦA spec0 c
  q _ := fullShare
  owed _ := 0

theorem A_eq (c : Dev nD) (w : Fin cfg0.W) : (rdat m c).A w = V m c (Pipeline.arrRef spec0 w) := by dsimp only [rdat]

/-- The inputs are fetched at every point. -/
theorem found0 (c : Dev nD) (t : Fin cfg0.N) (Y) (h : (rdat m c).Finds 0 t Y) : Y = iblk m c 0 t := by
  obtain ⟨d, rfl⟩ := ((rdat m c).finds_of_fetch (fetch0_0 t) Y).mp h
  unfold RDat.fetched RDat.blockOf iblk; rw [A_eq]; rfl
theorem found1 (c : Dev nD) (t : Fin cfg0.N) (Y) (h : (rdat m c).Finds 1 t Y) : Y = iblk m c 1 t := by
  obtain ⟨d, rfl⟩ := ((rdat m c).finds_of_fetch (fetch0_1 t) Y).mp h
  unfold RDat.fetched RDat.blockOf iblk; rw [A_eq]; rfl
theorem found2 (c : Dev nD) (t : Fin cfg0.N) (Y) (h : (rdat m c).Finds 2 t Y) : Y = iblk m c 2 t := by
  obtain ⟨d, rfl⟩ := ((rdat m c).finds_of_fetch (fetch0_2 t) Y).mp h
  unfold RDat.fetched RDat.blockOf iblk; rw [A_eq]; rfl

/-- The body obligation. -/
theorem obligation (c : Dev nD) : (rdat (F := F) m c).BodyObligation (defs₀ (F := F)) Variants.none () Set.univ := by
  intro t Y hY
  rw [bigSep_W0, row]
  simp only [bigSep_W0]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  simp only [← owns_whole]
  iintro ⟨⟨⟨⟨%f0, S0⟩, ⟨%f1, S1⟩, ⟨%f2, S2⟩, ⟨%f3, S3⟩, ⟨%f4, S4⟩, ⟨%f5, S5⟩, ⟨%f6, S6⟩⟩, Hr⟩, Ho, H0, H1, H2, H3, H4, H5, H6, H7, H8, H9, H10, H11⟩
  iapply (wp_on c (argsAt t) (bodyAt t)
    (mkSt (Y 0) (Y 1) (Y 2) (Y 3) (Y 4) (Y 5) (Y 6) (Y 7) (Y 8) (Y 9) (Y 10) (Y 11) f0 f1 f2 f3 f4 f5 f6))
  have hL : ∀ b, Left m c t b (mkSt (Y 0) (Y 1) (Y 2) (Y 3) (Y 4) (Y 5) (Y 6) (Y 7) (Y 8) (Y 9) (Y 10) (Y 11) f0 f1 f2 f3 f4 f5 f6 b)
      ((eval (bodyAt t) (mkSt (Y 0) (Y 1) (Y 2) (Y 3) (Y 4) (Y 5) (Y 6) (Y 7) (Y 8) (Y 9) (Y 10) (Y 11) f0 f1 f2 f3 f4 f5 f6)).2 b) :=
    fun b => ⟨_, found0 m c t _ (hY 0), found1 m c t _ (hY 1), found2 m c t _ (hY 2), rfl, rfl⟩
  revert hL
  generalize (eval (bodyAt t) (mkSt (Y 0) (Y 1) (Y 2) (Y 3) (Y 4) (Y 5) (Y 6) (Y 7) (Y 8) (Y 9) (Y 10) (Y 11) f0 f1 f2 f3 f4 f5 f6)).2 = s'
  intro hL
  rw [own_list c (argsAt t) s', own_list c (argsAt t) (mkSt _ _ _ _ _ _ _ _ _ _ _ _ _ _ _ _ _ _ _)]
  isplitl [S0 S1 S2 S3 S4 S5 S6 H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, S0, S1, S2, S3, S4, S5, S6⟩
  isplitl [S0 S1 S2 S3 S4 S5 S6 Hr]
  · isplitl [S0 S1 S2 S3 S4 S5 S6]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    · iexact Hr
  isplitl [Ho]; · iexact Ho
  isplitl [H0]; · iexists (s' .x); isplitr; · ipureintro; trivial
                  iexact H0
  isplitl [H1]; · iexists (s' .k); isplitr; · ipureintro; trivial
                  iexact H1
  isplitl [H2]; · iexists (s' .v); isplitr; · ipureintro; trivial
                  iexact H2
  isplitl [H3]; · iexists (s' .o); isplitr; · ipureintro; exact hL .o
                  iexact H3
  isplitl [H4]; · iexists (s' .qc); isplitr; · ipureintro; exact hL .qc
                  iexact H4
  isplitl [H5]; · iexists (s' .qs); isplitr; · ipureintro; exact hL .qs
                  iexact H5
  isplitl [H6]; · iexists (s' .mq); isplitr; · ipureintro; exact hL .mq
                  iexact H6
  isplitl [H7]; · iexists (s' .kc); isplitr; · ipureintro; exact hL .kc
                  iexact H7
  isplitl [H8]; · iexists (s' .ks); isplitr; · ipureintro; exact hL .ks
                  iexact H8
  isplitl [H9]; · iexists (s' .mk); isplitr; · ipureintro; exact hL .mk
                  iexact H9
  isplitl [H10]; · iexists (s' .vc); isplitr; · ipureintro; exact hL .vc
                   iexact H10
  iexists (s' .vs); isplitr; · ipureintro; exact hL .vs
  iexact H11

set_option backward.isDefEq.respectTransparency.types false in
/-- The run: every array of the pipeline at contents the proof data allows, and every counter at zero. -/
theorem run : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := obligation m) (hshare := fun c w => by unfold RDat.share; split <;> rfl)
    (howed := fun _ _ => rfl) (V := V m) (hmain := hmain m Variants.none) (hA := A_eq m) (hΦ := fun _ _ => rfl)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans (A_eq m c 0), (h.1.arr_in c 1 rfl).trans (A_eq m c 1),
    (h.1.arr_in c 2 rfl).trans (A_eq m c 2)⟩, h.2⟩) (run m ρ)

end Cert.Attn.Bits

end
-- ==== Proof.Line.lean ====
module

public import Idealize.ShloMosaic.Lib.StableHlo.RunRead
public import Idealize.ShloMosaic.Lib.Pipeline.Frame

/-! # A line of host operations, each with a result of its own

When operation `i` writes the buffer of index `i + n` and nothing else, a buffer keeps what its operation wrote; so the
contents after the whole line satisfy every operation's equation at once. -/

@[expose] public section

noncomputable section

namespace Cert.Attn

open Idealize.ShloMosaic Idealize.ShloMosaic.StableHlo

variable {τ : Topo} {sig : RefSig} {Val : EltTy → Type}

/-- Operation `i` of the line writes the one buffer of index `i + n`. -/
structure Line (n : ℕ) (ops : List (HloOp τ sig Val)) (W : List (Ref sig .tc)) : Prop where
  writes : ops.map HloOp.writes = W.map fun w => {Proc.devRef (τ := τ) .tc w}
  idx : W.map (fun w => w.idx.val) = List.range' n W.length

variable {n : ℕ} {ops : List (HloOp τ sig Val)} {W : List (Ref sig .tc)} (L : Line n ops W) (V : Valuation τ sig Val)

include L

theorem Line.not_mem {i : ℕ} {x : Ref sig .tc} (hx : x.idx.val < i + n) : x ∉ W.drop i := by
  intro h
  have h1 : x.idx.val ∈ (W.drop i).map (fun w => w.idx.val) := List.mem_map_of_mem h
  rw [List.map_drop, L.idx, List.drop_range', List.mem_range'] at h1
  obtain ⟨j, -, hj⟩ := h1
  omega

/-- A buffer of an earlier operation, or of an argument, keeps its contents from operation `i` on. -/
theorem Line.keep (i : ℕ) {x : Ref sig .tc} (hx : x.idx.val < i + n) :
    after ops V (Proc.devRef .tc x) = after (ops.take i) V (Proc.devRef .tc x) := by
  have e : after ops V = after (ops.drop i) (after (ops.take i) V) := by
    rw [← after_append, List.take_append_drop]
  rw [e]
  refine after_unwritten (W.drop i) ?_ (L.not_mem hx) _
  rw [List.map_drop, List.map_drop, L.writes]

/-- What operation `i` wrote. -/
theorem Line.last {i : ℕ} {op : HloOp τ sig Val} (hop : ops[i]? = some op) {y : Ref sig .tc} (hy : y.idx.val = i + n) :
    after ops V (Proc.devRef .tc y) = op.result (after (ops.take i) V) (Proc.devRef .tc y) := by
  rw [L.keep V (i + 1) (by omega), List.take_add_one, hop, after_append]
  rfl

theorem Line.nullary (i : ℕ) (y : Ref sig .tc) (v : y.ty.Contents Val)
    (hy' : y.space ≠ .host ∧ (Proc.devRef .tc y : DevRef τ sig).isScoped = false := by exact ⟨by decide, rfl⟩)
    (hop : ops[i]? = some (nullary (τ := τ) y v hy')) (h : y.idx.val = i + n) : after ops V (Proc.devRef .tc y) = v :=
  (L.last V hop h).trans (nullary_result y v hy' _)

theorem Line.unary (i : ℕ) (x y : Ref sig .tc) (f : x.ty.Contents Val → y.ty.Contents Val)
    (hx' : x.space ≠ .host ∧ (Proc.devRef .tc x : DevRef τ sig).isScoped = false := by exact ⟨by decide, rfl⟩)
    (hy' : y.space ≠ .host ∧ (Proc.devRef .tc y : DevRef τ sig).isScoped = false := by exact ⟨by decide, rfl⟩)
    (hop : ops[i]? = some (unary (τ := τ) x y f hx' hy')) (h : y.idx.val = i + n) (h1 : x.idx.val < i + n) :
    after ops V (Proc.devRef .tc y) = f (after ops V (Proc.devRef .tc x)) := by
  rw [L.last V hop h, unary_result, L.keep V i h1]

theorem Line.binary (i : ℕ) (a b y : Ref sig .tc) (f : a.ty.Contents Val → b.ty.Contents Val → y.ty.Contents Val)
    (ha' : a.space ≠ .host ∧ (Proc.devRef .tc a : DevRef τ sig).isScoped = false := by exact ⟨by decide, rfl⟩)
    (hb' : b.space ≠ .host ∧ (Proc.devRef .tc b : DevRef τ sig).isScoped = false := by exact ⟨by decide, rfl⟩)
    (hy' : y.space ≠ .host ∧ (Proc.devRef .tc y : DevRef τ sig).isScoped = false := by exact ⟨by decide, rfl⟩)
    (hop : ops[i]? = some (binary (τ := τ) a b y f ha' hb' hy')) (h : y.idx.val = i + n) (h1 : a.idx.val < i + n)
    (h2 : b.idx.val < i + n) :
    after ops V (Proc.devRef .tc y) = f (after ops V (Proc.devRef .tc a)) (after ops V (Proc.devRef .tc b)) := by
  rw [L.last V hop h, binary_result, L.keep V i h1, L.keep V i h2]

theorem Line.ternary (i : ℕ) (c a b y : Ref sig .tc)
    (f : c.ty.Contents Val → a.ty.Contents Val → b.ty.Contents Val → y.ty.Contents Val)
    (hc' : c.space ≠ .host ∧ (Proc.devRef .tc c : DevRef τ sig).isScoped = false := by exact ⟨by decide, rfl⟩)
    (ha' : a.space ≠ .host ∧ (Proc.devRef .tc a : DevRef τ sig).isScoped = false := by exact ⟨by decide, rfl⟩)
    (hb' : b.space ≠ .host ∧ (Proc.devRef .tc b : DevRef τ sig).isScoped = false := by exact ⟨by decide, rfl⟩)
    (hy' : y.space ≠ .host ∧ (Proc.devRef .tc y : DevRef τ sig).isScoped = false := by exact ⟨by decide, rfl⟩)
    (hop : ops[i]? = some (ternary (τ := τ) c a b y f hc' ha' hb' hy')) (h : y.idx.val = i + n) (h0 : c.idx.val < i + n)
    (h1 : a.idx.val < i + n) (h2 : b.idx.val < i + n) :
    after ops V (Proc.devRef .tc y)
      = f (after ops V (Proc.devRef .tc c)) (after ops V (Proc.devRef .tc a)) (after ops V (Proc.devRef .tc b)) := by
  rw [L.last V hop h, ternary_result, L.keep V i h0, L.keep V i h1, L.keep V i h2]

theorem Line.reshape (i : ℕ) (x y : Ref sig .tc) (he : x.ty.elt = y.ty.elt) (hn : x.ty.shape.ShapeCasts y.ty.shape)
    (hx' : x.space ≠ .host ∧ (Proc.devRef .tc x : DevRef τ sig).isScoped = false := by exact ⟨by decide, rfl⟩)
    (hy' : y.space ≠ .host ∧ (Proc.devRef .tc y : DevRef τ sig).isScoped = false := by exact ⟨by decide, rfl⟩)
    (hop : ops[i]? = some (reshape (τ := τ) (Val := Val) x y he hn hx' hy')) (h : y.idx.val = i + n) (h1 : x.idx.val < i + n) :
    after ops V (Proc.devRef .tc y) = fun j => he ▸ shapeCast y.ty.shape (after ops V (Proc.devRef .tc x)) hn j := by
  rw [L.last V hop h, reshape_result, L.keep V i h1]

end Cert.Attn

end
-- ==== Proof.Math.lean ====
module

public import proofs.«01_k».proof.Proof.Run
public import Idealize.ShloMosaic.Lib.Pointwise

/-! # The mathematics of the quantiser and of the softmax

Over the extended reals the scale is a power of two read from an exponent field, or written as an exponential:
the two are one function. The softmax's factor of 256 moves through exponentials, sums and the last division. -/

@[expose] public section

noncomputable section

namespace Cert.Attn

open Idealize.ShloMosaic

/-- One over the natural logarithm of two. -/
def lg : EReal := (((Real.log 2)⁻¹ : ℝ) : EReal)

/-- The kernel's exponent field of one number. -/
def sField (t : EReal) : BitVec 32 :=
  let e : BitVec 32 := IntOp.shli .vector (IntOp.addi (Ideal.fptosi 32 (Ideal.liftRound Int.floor (Ideal.log t * lg
    + Ideal.ofBits .f32 0x3F000000#32))) 127#32) 23#32
  Scalar.select (Ideal.cmp .olt t (Ideal.ofBits .f32 0x00800000#32)) 0#32
    (Scalar.select (Ideal.cmp .olt t (Ideal.ofBits .f32 0x7E800000#32))
      (Scalar.select (Ideal.cmp .olt t (Ideal.ofBits .f32 e)) (IntOp.subi e 8388608#32) e) 2139095040#32)

def sSpecial (f : BitVec 32) : BitVec 1 := IntOp.ori (IntOp.cmpi .eq f 0#32) (IntOp.cmpi .eq f 2139095040#32)

/-- The kernel's scale of one number. -/
def sScale (t : EReal) : EReal :=
  Ideal.ofBits .f32 (Scalar.select (sSpecial (sField t)) 1065353216#32 (IntOp.addi (sField t) 8388608#32))

/-- The kernel's inverse scale of one number. -/
def sInv (t : EReal) : EReal :=
  Ideal.ofBits .f32 (Scalar.select (sSpecial (sField t)) 1065353216#32 (IntOp.subi 2122317824#32 (sField t)))

theorem scaleOf_apply (S : Shape) (t : FVec Ideal S .f32) (j : S.Idx) : scaleOf S lg t j = sScale (t j) := rfl
theorem invOf_apply (S : Shape) (t : FVec Ideal S .f32) (j : S.Idx) : invOf S lg t j = sInv (t j) := rfl

/-- Bits of a whole exponent field read as a float. -/
theorem ofBits_field (e : Nat) (h1 : 1 ≤ e) (h2 : e ≤ 254) :
    Ideal.ofBits .f32 (BitVec.ofNat 32 (e * 2 ^ 23)) = (((2 : ℝ) ^ ((e : ℤ) - 127) : ℝ) : EReal) := by
  have ht : (BitVec.ofNat 32 (e * 2 ^ 23)).toNat = e * 2 ^ 23 := by simp; omega
  have hneg : (BitVec.ofNat 32 (e * 2 ^ 23)).extractLsb' 31 1 = 0#1 := by
    apply BitVec.eq_of_toNat_eq; rw [BitVec.extractLsb'_toNat, ht]
    simp [Nat.shiftRight_eq_div_pow]; omega
  have hex : ((BitVec.ofNat 32 (e * 2 ^ 23)).extractLsb' 23 8).toNat = e := by
    rw [BitVec.extractLsb'_toNat, ht]; simp [Nat.shiftRight_eq_div_pow]; omega
  have hfr : ((BitVec.ofNat 32 (e * 2 ^ 23)).extractLsb' 0 23).toNat = 0 := by
    rw [BitVec.extractLsb'_toNat, ht]; simp
  show Ideal.ieee 8 23 (BitVec.ofNat 32 (e * 2 ^ 23)) = _
  unfold Ideal.ieee
  simp only [hneg, hex, hfr]
  rw [if_neg (by omega), if_neg (by omega)]
  congr 1
  simp only [show ((0#1 : BitVec 1) == 1#1) = false from rfl]
  rw [show ((2 ^ 23 + 0 : ℕ) : ℝ) = (2 : ℝ) ^ (23 : ℤ) by norm_num]
  simp only [Bool.false_eq_true, ↓reduceIte, one_mul]
  rw [← zpow_add₀ (by norm_num)]
  congr 1
  norm_num

theorem c_lo : Ideal.ofBits .f32 0x00800000#32 = (((2 : ℝ) ^ (-126 : ℤ) : ℝ) : EReal) :=
  ofBits_field 1 (by norm_num) (by norm_num)
theorem c_hi : Ideal.ofBits .f32 0x7E800000#32 = (((2 : ℝ) ^ (126 : ℤ) : ℝ) : EReal) :=
  ofBits_field 253 (by norm_num) (by norm_num)
theorem c_half : Ideal.ofBits .f32 0x3F000000#32 = (((2 : ℝ) ^ (-1 : ℤ) : ℝ) : EReal) :=
  ofBits_field 126 (by norm_num) (by norm_num)
theorem c_one : Ideal.ofBits .f32 1065353216#32 = 1 := by
  rw [show (1065353216#32) = BitVec.ofNat 32 (127 * 2 ^ 23) from rfl, ofBits_field 127 (by norm_num) (by norm_num)]
  norm_num

/-- The exponent as the reference states it. -/
def rExp (t : EReal) : EReal :=
  if t < (((2 : ℝ) ^ (-126 : ℤ) : ℝ) : EReal) ∨ (((2 : ℝ) ^ (126 : ℤ) : ℝ) : EReal) ≤ t then 0
  else Ideal.liftRound Int.floor (Ideal.log t * lg) + 1

/-- Within the normal range the exponent is the integer `n` with `2^n ≤ t < 2^(n+1)`, and the kernel's field is its own. -/
theorem field_normal (r : ℝ) (h1 : (2 : ℝ) ^ (-126 : ℤ) ≤ r) (h2 : r < (2 : ℝ) ^ (126 : ℤ)) :
    ∃ e : ℕ, 1 ≤ e ∧ e ≤ 252 ∧ sField (r : EReal) = BitVec.ofNat 32 (e * 2 ^ 23)
      ∧ Ideal.liftRound Int.floor (Ideal.log (r : EReal) * lg) = ((((e : ℤ) - 127 : ℤ) : ℝ) : EReal) := by
  have hr : 0 < r := lt_of_lt_of_le (by positivity) h1
  have hlog2 : 0 < Real.log 2 := Real.log_pos (by norm_num)
  set y : ℝ := Real.log r * (Real.log 2)⁻¹ with hy
  have hyl : ∀ n : ℤ, (2 : ℝ) ^ n ≤ r ↔ (n : ℝ) ≤ y := by
    intro n
    rw [hy, ← div_eq_mul_inv, le_div_iff₀ hlog2, ← Real.log_zpow, Real.log_le_log_iff (by positivity) hr]
  have hL : Ideal.log (r : EReal) * lg = (y : EReal) := by
    rw [Ideal.log_coe, if_neg (not_le.2 hr), lg, ← EReal.coe_mul]
  set n : ℤ := ⌊y⌋ with hn
  have hn1 : -126 ≤ n := by
    rw [hn, Int.le_floor]; exact_mod_cast (hyl (-126)).1 h1
  have hn2 : n ≤ 125 := by
    have : y < 126 := by
      by_contra h; exact absurd ((hyl 126).2 (by exact_mod_cast not_lt.1 h)) (not_le.2 h2)
    have : n < 126 := by rw [hn, Int.floor_lt]; exact_mod_cast this
    omega
  refine ⟨(n + 127).toNat, by omega, by omega, ?_, ?_⟩
  · -- the kernel's field
    set N : ℤ := ⌊y + (2 : ℝ) ^ (-1 : ℤ)⌋ with hN
    have hNn : N = n ∨ N = n + 1 := by
      have a : n ≤ N := by
        rw [hN, Int.le_floor]; have := Int.floor_le y; have h2 : (0:ℝ) < (2 : ℝ) ^ (-1 : ℤ) := by positivity
        rw [hn]; linarith
      have b : N < n + 2 := by
        rw [hN, Int.floor_lt]; have := Int.lt_floor_add_one y
        have : (2 : ℝ) ^ (-1 : ℤ) < 1 := by norm_num
        push_cast; rw [hn]; linarith
      omega
    have hcast : Ideal.fptosi 32 (Ideal.liftRound Int.floor (Ideal.log (r : EReal) * lg + Ideal.ofBits .f32 0x3F000000#32))
        = BitVec.ofInt 32 N := by
      rw [hL, c_half, ← EReal.coe_add]
      show BitVec.ofInt 32 (Ideal.toIntClamped _ _ (((⌊y + (2 : ℝ) ^ (-1 : ℤ)⌋ : ℤ) : ℝ) : EReal)) = _
      rw [← hN]
      show BitVec.ofInt 32 (max _ (min _ (if (0:ℝ) ≤ (N : ℝ) then ⌊(N : ℝ)⌋ else ⌈(N : ℝ)⌉))) = _
      rw [Int.floor_intCast, Int.ceil_intCast, ite_self]
      congr 1
      have : -(((2 ^ (32 - 1) : ℕ)) : ℤ) ≤ N := by norm_num; omega
      have : N ≤ ((2 ^ (32 - 1) : ℕ) : ℤ) - 1 := by norm_num; omega
      rw [min_eq_right this, max_eq_right (by assumption)]
    have hbits : ∀ K : ℤ, -126 ≤ K → K ≤ 127 → IntOp.shli .vector (IntOp.addi (BitVec.ofInt 32 K) 127#32) 23#32
        = BitVec.ofNat 32 ((K + 127).toNat * 2 ^ 23) := by
      intro K k1 k2
      have : IntOp.addi (BitVec.ofInt 32 K) 127#32 = BitVec.ofNat 32 (K + 127).toNat := by
        show BitVec.ofInt 32 K + 127#32 = _
        rw [show (127#32) = BitVec.ofInt 32 127 from rfl, ← BitVec.ofInt_add,
          show K + 127 = (((K + 127).toNat : ℕ) : ℤ) by omega, BitVec.ofInt_natCast]
        congr 1
      rw [this]
      rw [IntOp.shli, if_pos (by decide)]
      apply BitVec.eq_of_toNat_eq
      simp [Nat.shiftLeft_eq]
    have hN1 := hbits N (by omega) (by omega)
    unfold sField
    simp only [hcast, hN1]
    rw [ofBits_field _ (by omega) (by omega), c_lo, c_hi]
    have g1 : Ideal.cmp .olt (r : EReal) (((2 : ℝ) ^ (-126 : ℤ) : ℝ) : EReal) = 0#1 := by
      simp only [Ideal.cmp, EReal.coe_lt_coe_iff]; rw [decide_eq_false (not_lt.2 h1)]; rfl
    have g2 : Ideal.cmp .olt (r : EReal) (((2 : ℝ) ^ (126 : ℤ) : ℝ) : EReal) = 1#1 := by
      simp only [Ideal.cmp, EReal.coe_lt_coe_iff]; rw [decide_eq_true h2]; rfl
    rw [g1, g2]
    simp only [Scalar.select, Ideal.cmp, EReal.coe_lt_coe_iff]
    have hcmp : r < (2 : ℝ) ^ ((((N + 127).toNat : ℕ) : ℤ) - 127) ↔ N = n + 1 := by
      rw [show (((N + 127).toNat : ℕ) : ℤ) - 127 = N by omega, ← not_le, hyl, not_le]
      constructor
      · intro h; have := Int.floor_lt.2 h; omega
      · intro h; rw [h, hn]; push_cast; exact Int.lt_floor_add_one y
    rcases hNn with h | h
    · rw [decide_eq_false (by rw [hcmp]; omega), h]; rfl
    · rw [decide_eq_true (hcmp.2 h), h]
      have : (n + 1 + 127).toNat = (n + 127).toNat + 1 := by omega
      rw [this]
      show BitVec.ofNat 32 (((n + 127).toNat + 1) * 2 ^ 23) - 8388608#32 = _
      rw [add_mul, BitVec.ofNat_add]
      show _ + BitVec.ofNat 32 (1 * 2 ^ 23) - BitVec.ofNat 32 8388608 = _
      rw [show 1 * 2 ^ 23 = 8388608 from rfl, BitVec.add_sub_cancel]
  · rw [hL]
    show (((⌊y⌋ : ℤ) : ℝ) : EReal) = _
    rw [← hn, show (((n + 127).toNat : ℕ) : ℤ) - 127 = n by omega]

theorem exp2_int (n : ℤ) : Ideal.exp2 (((n : ℤ) : ℝ) : EReal) = (((2 : ℝ) ^ n : ℝ) : EReal) := by
  show ((Real.rpow 2 (n : ℝ) : ℝ) : EReal) = _
  congr 1
  exact Real.rpow_intCast 2 n

/-- The scale and its inverse are a power of two and its inverse, the kernel's and the reference's. -/
theorem scale_cases (t : EReal) : ∃ n : ℤ, sScale t = (((2 : ℝ) ^ n : ℝ) : EReal) ∧ sInv t = (((2 : ℝ) ^ (-n) : ℝ) : EReal)
    ∧ rExp t = ((n : ℝ) : EReal) := by
  by_cases hlo : t < (((2 : ℝ) ^ (-126 : ℤ) : ℝ) : EReal)
  · have : sField t = 0#32 := by
      unfold sField; simp only [c_lo, Ideal.cmp, decide_eq_true hlo]; rfl
    exact ⟨0, by rw [sScale, this]; exact c_one.trans (by simp), by rw [sInv, this]; exact c_one.trans (by simp),
      by rw [rExp, if_pos (.inl hlo)]; simp⟩
  by_cases hhi : (((2 : ℝ) ^ (126 : ℤ) : ℝ) : EReal) ≤ t
  · have : sField t = 2139095040#32 := by
      unfold sField; simp only [c_lo, c_hi, Ideal.cmp, decide_eq_false hlo, decide_eq_false (not_lt.2 hhi)]; rfl
    exact ⟨0, by rw [sScale, this]; exact c_one.trans (by simp), by rw [sInv, this]; exact c_one.trans (by simp),
      by rw [rExp, if_pos (.inr hhi)]; simp⟩
  have hex : ∃ r : ℝ, t = (r : EReal) := by
    induction t with
    | bot => exact absurd (EReal.bot_lt_coe _) hlo
    | top => exact absurd le_top hhi
    | coe r => exact ⟨r, rfl⟩
  obtain ⟨r, rfl⟩ := hex
  rw [EReal.coe_lt_coe_iff, not_lt] at hlo
  rw [EReal.coe_le_coe_iff, not_le] at hhi
  obtain ⟨e, e1, e2, hf, hl⟩ := field_normal r hlo hhi
  have hs : sSpecial (BitVec.ofNat 32 (e * 2 ^ 23)) = 0#1 := by
    have h0 : BitVec.ofNat 32 (e * 2 ^ 23) ≠ 0#32 := by
      intro h; have := congrArg BitVec.toNat h; simp at this; omega
    have h1 : BitVec.ofNat 32 (e * 2 ^ 23) ≠ 2139095040#32 := by
      intro h; have := congrArg BitVec.toNat h; simp at this; omega
    rw [sSpecial, IntOp.cmpi, IntOp.cmpi]
    simp only [beq_eq_false_iff_ne.2 h0, beq_eq_false_iff_ne.2 h1]
    rfl
  refine ⟨(e : ℤ) - 126, ?_, ?_, ?_⟩
  · rw [sScale, hf, hs]
    have : IntOp.addi (BitVec.ofNat 32 (e * 2 ^ 23)) 8388608#32 = BitVec.ofNat 32 ((e + 1) * 2 ^ 23) := by
      show BitVec.ofNat 32 _ + BitVec.ofNat 32 8388608 = _
      rw [← BitVec.ofNat_add, show (e + 1) * 2 ^ 23 = e * 2 ^ 23 + 8388608 by ring]
    show Ideal.ofBits .f32 (IntOp.addi _ _) = _
    rw [this, ofBits_field _ (by omega) (by omega)]
    congr 2; push_cast; ring
  · rw [sInv, hf, hs]
    have : IntOp.subi 2122317824#32 (BitVec.ofNat 32 (e * 2 ^ 23)) = BitVec.ofNat 32 ((253 - e) * 2 ^ 23) := by
      show BitVec.ofNat 32 2122317824 - BitVec.ofNat 32 _ = _
      rw [show 2122317824 = (253 - e) * 2 ^ 23 + e * 2 ^ 23 by omega, BitVec.ofNat_add, BitVec.add_sub_cancel]
    show Ideal.ofBits .f32 (IntOp.subi _ _) = _
    rw [this, ofBits_field _ (by omega) (by omega)]
    congr 2; push_cast [Nat.cast_sub (show e ≤ 253 by omega)]; ring
  · rw [rExp, if_neg (by rw [EReal.coe_lt_coe_iff, EReal.coe_le_coe_iff]; push Not; exact ⟨hlo, hhi⟩), hl]
    rw [← EReal.coe_one, ← EReal.coe_add]
    congr 1; push_cast; ring

theorem scale_eq (t : EReal) : Ideal.exp2 (rExp t) = sScale t := by
  obtain ⟨n, h1, -, h3⟩ := scale_cases t
  rw [h3, exp2_int, h1]

theorem inv_eq (t : EReal) : Ideal.exp2 (-rExp t) = sInv t := by
  obtain ⟨n, -, h2, h3⟩ := scale_cases t
  rw [h3, h2, ← EReal.coe_neg, ← Int.cast_neg, exp2_int]

theorem scale_mul_inv (t : EReal) : sScale t * sInv t = 1 := by
  obtain ⟨n, h1, h2, -⟩ := scale_cases t
  rw [h1, h2, ← EReal.coe_mul, ← zpow_add₀ (by norm_num)]; simp

theorem scale_pos (t : EReal) : ∃ c : ℝ, 0 < c ∧ sScale t = (c : EReal) := by
  obtain ⟨n, h1, -, -⟩ := scale_cases t
  exact ⟨_, by positivity, h1⟩

/-! ## A positive real factor -/

theorem coe_mul_add (c : ℝ) (hc : 0 < c) (a b : EReal) : (c : EReal) * (a + b) = c * a + c * b :=
  EReal.left_distrib_of_nonneg_of_ne_top (by exact_mod_cast hc.le) (EReal.coe_ne_top c) a b

theorem coe_mul_sum {ι : Type} (s : Finset ι) (c : ℝ) (hc : 0 < c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add c hc, ih]

theorem coe_mul_max (c : ℝ) (hc : 0 < c) (a b : EReal) : (c : EReal) * max a b = max (c * a) (c * b) := by
  have hm : Monotone fun x : EReal => (c : EReal) * x := fun x y h => mul_le_mul_of_nonneg_left h (by exact_mod_cast hc.le)
  exact hm.map_max

/-! ## The exponential -/

/-- Base two and base e. -/
theorem exp2_mul_lg (x : EReal) : Ideal.exp2 (x * lg) = Ideal.exp x := by
  have hl : 0 < (Real.log 2)⁻¹ := inv_pos.2 (Real.log_pos (by norm_num))
  induction x with
  | bot => rw [lg, EReal.bot_mul_coe_of_pos hl]; rfl
  | top => rw [lg, EReal.top_mul_coe_of_pos hl]; rfl
  | coe r =>
    rw [lg, ← EReal.coe_mul, Ideal.exp2_coe, Ideal.exp_coe]
    congr 1
    show (2 : ℝ) ^ (r * (Real.log 2)⁻¹) = _
    rw [Real.rpow_def_of_pos (by norm_num)]
    congr 1
    field_simp

/-- Taking the exponent 8 less low is a factor of 256. -/
theorem exp2_sub_eight (z M : EReal) : Ideal.exp2 (z - (M - ((8 : ℝ) : EReal))) = ((256 : ℝ) : EReal) * Ideal.exp2 (z - M) := by
  have h256 : (0 : ℝ) < 256 := by norm_num
  induction M with
  | bot =>
    rw [EReal.bot_sub]
    induction z with
    | bot => simp [Ideal.exp2_bot]
    | top => simp [EReal.coe_mul_top_of_pos h256]
    | coe r => simp [EReal.coe_mul_top_of_pos h256]
  | top =>
    rw [EReal.top_sub_coe]
    induction z with
    | bot => simp
    | top => simp
    | coe r => simp
  | coe M =>
    induction z with
    | bot => simp [← EReal.coe_sub]
    | top => simp [← EReal.coe_sub, EReal.coe_mul_top_of_pos h256]
    | coe r =>
      rw [← EReal.coe_sub, ← EReal.coe_sub, ← EReal.coe_sub, Ideal.exp2_coe, Ideal.exp2_coe, ← EReal.coe_mul]
      congr 1
      show (2 : ℝ) ^ (r - (M - 8)) = 256 * (2 : ℝ) ^ (r - M)
      rw [show r - (M - 8) = (r - M) + 8 by ring, Real.rpow_add (by norm_num)]
      norm_num [mul_comm]

/-- One over 256 times a sum. -/
theorem div_256 (l : EReal) : Ideal.div 1 (((256 : ℝ) : EReal) * l) = (((256 : ℝ)⁻¹ : ℝ) : EReal) * Ideal.div 1 l := by
  have h256 : (0 : ℝ) < 256⁻¹ := by norm_num
  unfold Ideal.div
  by_cases h : l = 0
  · rw [h, mul_zero]; simp only [if_true, zero_lt_one]
    rw [EReal.coe_mul_top_of_pos h256]
  · have : ((256 : ℝ) : EReal) * l ≠ 0 := mul_ne_zero (by norm_num) h
    rw [if_neg this, if_neg h, one_mul, one_mul, EReal.mul_inv, EReal.coe_inv]

end Cert.Attn

end
-- ==== Proof.Spec.lean ====
module

public import proofs.«01_k».proof.Proof.Math

/-! # What the kernel computes, as functions of numbers

The keys, values and queries of one batch and key head are functions of a row and a column. -/

@[expose] public section

noncomputable section

namespace Cert.Attn

open Idealize.ShloMosaic

/-- The absolute value. -/
def ab (x : EReal) : EReal := max x (-x)

/-- 1/448, as it is written in f32. -/
def c448 : EReal := Ideal.ofBits .f32 0x3B124925#32

/-- The clip to [-448, 448]. -/
def clip (x : EReal) : EReal := min (Ideal.ofBits .f32 0x43E00000#32) (max (Ideal.ofBits .f32 0xC3E00000#32) x)

/-- The score scale. -/
def sm : EReal := (((Real.sqrt 128)⁻¹ * (Real.log 2)⁻¹ : ℝ) : EReal)

variable (X K V : ℕ → ℕ → EReal)

/-! ## The keys -/

def kMean (d : ℕ) : EReal := (∑ r : Fin 2048, K r d) * Ideal.ofBits .f32 0x3A000000#32
def kD (r d : ℕ) : EReal := K r d - kMean K d
def kT (g : ℕ) : EReal := (⨆ a : Fin 64, ⨆ d : Fin 128, ab (kD K (64 * g + a) d)) * c448
def KC (r d : ℕ) : EReal := clip (kD K r d * sInv (kT K (r / 64)))
def KS (g : ℕ) : EReal := sScale (kT K g)

/-! ## The values -/

def vT (d : ℕ) : EReal := (⨆ r : Fin 2048, ab (V r d)) * c448
def VC (r d : ℕ) : EReal := clip (V r d * sInv (vT V d))
def VS (d : ℕ) : EReal := sScale (vT V d)

/-! ## The queries: block `g` of 128, head `h`, token `n` -/

def qM (g h d : ℕ) : EReal := (∑ a : Fin 128, X (128 * g + a) (128 * h + d)) * Ideal.ofBits .f32 0x3C000000#32
def qD (n h d : ℕ) : EReal := X n (128 * h + d) - qM X (n / 128) h d
def qT (n h : ℕ) : EReal := (⨆ d : Fin 128, ab (qD X n h d)) * c448
def QC (n h d : ℕ) : EReal := clip (qD X n h d * sInv (qT X n h))
def QS (n h : ℕ) : EReal := sScale (qT X n h)

/-! ## The attention: query block `q`, key `k`, lane `l` (head `l / 128`, query `l % 128` of the block) -/

/-- The token of a lane. -/
def tok (q l : ℕ) : ℕ := 128 * q + l % 128

/-- The score before the weight. -/
def raw (q k l : ℕ) : EReal :=
  (∑ d : Fin 128, KC K k d * QC X (tok q l) (l / 128) d)
    + ∑ d : Fin 128, KC K k d * (qM X q (l / 128) d * sInv (qT X (tok q l) (l / 128)))

/-- The weight of key group `g`. -/
def wt (q g l : ℕ) : EReal := QS X (tok q l) (l / 128) * (KS K g * sm)

/-- The masked score. -/
def zz (q k l : ℕ) : EReal := if k ≤ tok q l then raw X K q k l * wt X K q (k / 64) l else ⊥

/-- The largest score. -/
def mx (q l : ℕ) : EReal := (Finset.range (128 * (q + 1))).sup fun k => zz X K q k l

/-- The exponentials, 256 times too large. -/
def pp (q k l : ℕ) : EReal := Ideal.exp2 (zz X K q k l - (mx X K q l - Ideal.ofBits .f32 0x41000000#32))

/-- Their codes. -/
def pc (q k l : ℕ) : EReal := min (pp X K q k l) (Ideal.ofBits .f32 0x43E00000#32)

/-- Their sum. -/
def ll (q l : ℕ) : EReal := ∑ k ∈ Finset.range (128 * (q + 1)), pp X K q k l

/-- The product with the values. -/
def pa (q d l : ℕ) : EReal := ∑ k ∈ Finset.range (128 * (q + 1)), VC V k d * pc X K q k l

/-- The result. -/
def oo (n c : ℕ) : EReal :=
  let l := 128 * (c / 128) + n % 128
  pa X K V (n / 128) (c % 128) l * VS V (c % 128) * Ideal.div 1 (ll X K (n / 128) l)

end Cert.Attn

end
-- ==== Proof.Walk.lean ====
module

public import proofs.«01_k».proof.Proof.Spec

/-! # Loads, stores and loops at an index -/

@[expose] public section

noncomputable section

namespace Cert.Attn

open Idealize.ShloMosaic

/-! ## A rectangle of an array, written and read at an index -/

theorem put_in {s : Shape} {α : Type} (off size : Fin s.rank → Nat) (h : ∀ a, off a + size a ≤ s.size a)
    (w : (Rect.unit off size h).shape.Idx → α) (Y : s.Idx → α) (j : s.Idx) (i : (Rect.unit off size h).shape.Idx)
    (e : ∀ a, (j a).val = off a + (i a).val) : put (Rect.unit off size h) Finset.univ w Y j = w i := by
  have : (Rect.unit off size h).emb i = j := by
    funext a; apply Fin.ext; rw [e a]; simp [Rect.emb_apply]
  rw [← this, put_emb _ _ _ _ (Finset.mem_univ i)]

theorem put_out {s : Shape} {α : Type} (off size : Fin s.rank → Nat) (h : ∀ a, off a + size a ≤ s.size a)
    (M : Finset (Rect.unit off size h).shape.Idx)
    (w : (Rect.unit off size h).shape.Idx → α) (Y : s.Idx → α) (j : s.Idx) (a : Fin s.rank)
    (e : (j a).val < off a ∨ off a + size a ≤ (j a).val) : put (Rect.unit off size h) M w Y j = Y j := by
  apply put_of_not
  intro i _ hi
  have h2 := congrArg (fun f : s.Idx => (f a).val) hi
  have h1 : (i a).val < size a := (i a).isLt
  simp [Rect.emb_apply] at h2
  omega

theorem put2 {α : Type} {m0 m1 n0 n1 o0 o1 : ℕ} (h) (w : (⟨2, ![n0, n1]⟩ : Shape).Idx → α) (Y : (⟨2, ![m0, m1]⟩ : Shape).Idx → α)
    (a : Fin m0) (b : Fin m1) :
    put (Rect.unit (s := ⟨2, ![m0, m1]⟩) ![o0, o1] ![n0, n1] h) Finset.univ w Y (ix2 a b)
      = if hc : (o0 ≤ a ∧ a < o0 + n0) ∧ (o1 ≤ b ∧ b < o1 + n1) then w (ix2 ⟨a - o0, by omega⟩ ⟨b - o1, by omega⟩)
        else Y (ix2 a b) := by
  split
  · next hc =>
    refine put_in _ _ h w Y _ _ fun i => ?_
    fin_cases i
    · show a.val = o0 + (a.val - o0); omega
    · show b.val = o1 + (b.val - o1); omega
  · next hc =>
    by_cases h0 : o0 ≤ a ∧ a < o0 + n0
    · refine put_out _ _ h _ w Y _ 1 ?_
      show b.val < o1 ∨ o1 + n1 ≤ b.val; omega
    · refine put_out _ _ h _ w Y _ 0 ?_
      show a.val < o0 ∨ o0 + n0 ≤ a.val; omega

theorem put3 {α : Type} {m0 m1 m2 n0 n1 n2 o0 o1 o2 : ℕ} (h) (w : (⟨3, ![n0, n1, n2]⟩ : Shape).Idx → α)
    (Y : (⟨3, ![m0, m1, m2]⟩ : Shape).Idx → α) (a : Fin m0) (b : Fin m1) (c : Fin m2) :
    put (Rect.unit (s := ⟨3, ![m0, m1, m2]⟩) ![o0, o1, o2] ![n0, n1, n2] h) Finset.univ w Y (ix3 a b c)
      = if hc : (o0 ≤ a ∧ a < o0 + n0) ∧ (o1 ≤ b ∧ b < o1 + n1) ∧ (o2 ≤ c ∧ c < o2 + n2) then
          w (ix3 ⟨a - o0, by omega⟩ ⟨b - o1, by omega⟩ ⟨c - o2, by omega⟩)
        else Y (ix3 a b c) := by
  split
  · next hc =>
    refine put_in _ _ h w Y _ _ fun i => ?_
    fin_cases i
    · show a.val = o0 + (a.val - o0); omega
    · show b.val = o1 + (b.val - o1); omega
    · show c.val = o2 + (c.val - o2); omega
  · next hc =>
    by_cases h0 : o0 ≤ a ∧ a < o0 + n0
    · by_cases h1 : o1 ≤ b ∧ b < o1 + n1
      · refine put_out _ _ h _ w Y _ 2 ?_
        show c.val < o2 ∨ o2 + n2 ≤ c.val; omega
      · refine put_out _ _ h _ w Y _ 1 ?_
        show b.val < o1 ∨ o1 + n1 ≤ b.val; omega
    · refine put_out _ _ h _ w Y _ 0 ?_
      show a.val < o0 ∨ o0 + n0 ≤ a.val; omega

theorem put4 {α : Type} {m0 m1 m2 m3 n0 n1 n2 n3 o0 o1 o2 o3 : ℕ} (h) (w : (⟨4, ![n0, n1, n2, n3]⟩ : Shape).Idx → α)
    (Y : (⟨4, ![m0, m1, m2, m3]⟩ : Shape).Idx → α) (a : Fin m0) (b : Fin m1) (c : Fin m2) (d : Fin m3) :
    put (Rect.unit (s := ⟨4, ![m0, m1, m2, m3]⟩) ![o0, o1, o2, o3] ![n0, n1, n2, n3] h) Finset.univ w Y (ix4 a b c d)
      = if hc : ((o0 ≤ a ∧ a < o0 + n0) ∧ (o1 ≤ b ∧ b < o1 + n1)) ∧ (o2 ≤ c ∧ c < o2 + n2) ∧ (o3 ≤ d ∧ d < o3 + n3) then
          w (ix4 ⟨a - o0, by omega⟩ ⟨b - o1, by omega⟩ ⟨c - o2, by omega⟩ ⟨d - o3, by omega⟩)
        else Y (ix4 a b c d) := by
  split
  · next hc =>
    refine put_in _ _ h w Y _ _ fun i => ?_
    fin_cases i
    · show a.val = o0 + (a.val - o0); omega
    · show b.val = o1 + (b.val - o1); omega
    · show c.val = o2 + (c.val - o2); omega
    · show d.val = o3 + (d.val - o3); omega
  · next hc =>
    by_cases h0 : o0 ≤ a ∧ a < o0 + n0
    · by_cases h1 : o1 ≤ b ∧ b < o1 + n1
      · by_cases h2 : o2 ≤ c ∧ c < o2 + n2
        · refine put_out _ _ h _ w Y _ 3 ?_
          show d.val < o3 ∨ o3 + n3 ≤ d.val; omega
        · refine put_out _ _ h _ w Y _ 2 ?_
          show c.val < o2 ∨ o2 + n2 ≤ c.val; omega
      · refine put_out _ _ h _ w Y _ 1 ?_
        show b.val < o1 ∨ o1 + n1 ≤ b.val; omega
    · refine put_out _ _ h _ w Y _ 0 ?_
      show a.val < o0 ∨ o0 + n0 ≤ a.val; omega

theorem get2 {m0 m1 n0 n1 o0 o1 : ℕ} (h : ∀ a, ![o0, o1] a + ![n0, n1] a ≤ ![m0, m1] a) (a : Fin n0) (b : Fin n1) :
    (Rect.unit (s := ⟨2, ![m0, m1]⟩) ![o0, o1] ![n0, n1] h).emb (ix2 a b)
      = ix2 ⟨o0 + a, Nat.lt_of_lt_of_le (Nat.add_lt_add_left a.isLt _) (h 0)⟩ ⟨o1 + b, Nat.lt_of_lt_of_le (Nat.add_lt_add_left b.isLt _) (h 1)⟩ := by
  funext i; apply Fin.ext; rw [Rect.emb_apply]
  fin_cases i
  · show o0 + 1 * a.val = o0 + a.val; omega
  · show o1 + 1 * b.val = o1 + b.val; omega

theorem get3 {m0 m1 m2 n0 n1 n2 o0 o1 o2 : ℕ} (h : ∀ a, ![o0, o1, o2] a + ![n0, n1, n2] a ≤ ![m0, m1, m2] a)
    (a : Fin n0) (b : Fin n1) (c : Fin n2) :
    (Rect.unit (s := ⟨3, ![m0, m1, m2]⟩) ![o0, o1, o2] ![n0, n1, n2] h).emb (ix3 a b c)
      = ix3 ⟨o0 + a, Nat.lt_of_lt_of_le (Nat.add_lt_add_left a.isLt _) (h 0)⟩ ⟨o1 + b, Nat.lt_of_lt_of_le (Nat.add_lt_add_left b.isLt _) (h 1)⟩
          ⟨o2 + c, Nat.lt_of_lt_of_le (Nat.add_lt_add_left c.isLt _) (h 2)⟩ := by
  funext i; apply Fin.ext; rw [Rect.emb_apply]
  fin_cases i
  · show o0 + 1 * a.val = o0 + a.val; omega
  · show o1 + 1 * b.val = o1 + b.val; omega
  · show o2 + 1 * c.val = o2 + c.val; omega

theorem get4 {m0 m1 m2 m3 n0 n1 n2 n3 o0 o1 o2 o3 : ℕ}
    (h : ∀ a, ![o0, o1, o2, o3] a + ![n0, n1, n2, n3] a ≤ ![m0, m1, m2, m3] a)
    (a : Fin n0) (b : Fin n1) (c : Fin n2) (d : Fin n3) :
    (Rect.unit (s := ⟨4, ![m0, m1, m2, m3]⟩) ![o0, o1, o2, o3] ![n0, n1, n2, n3] h).emb (ix4 a b c d)
      = ix4 ⟨o0 + a, Nat.lt_of_lt_of_le (Nat.add_lt_add_left a.isLt _) (h 0)⟩ ⟨o1 + b, Nat.lt_of_lt_of_le (Nat.add_lt_add_left b.isLt _) (h 1)⟩
          ⟨o2 + c, Nat.lt_of_lt_of_le (Nat.add_lt_add_left c.isLt _) (h 2)⟩ ⟨o3 + d, Nat.lt_of_lt_of_le (Nat.add_lt_add_left d.isLt _) (h 3)⟩ := by
  funext i; apply Fin.ext; rw [Rect.emb_apply]
  fin_cases i
  · show o0 + 1 * a.val = o0 + a.val; omega
  · show o1 + 1 * b.val = o1 + b.val; omega
  · show o2 + 1 * c.val = o2 + c.val; omega
  · show o3 + 1 * d.val = o3 + d.val; omega

/-! ## Loops and what a program leaves alone -/

variable {F : FTy → Type}

theorem loopFrom_inv {α : Type} (n : ℕ) (f : (j : ℕ) → j < n → α → Cmd F α) (I : ℕ → α → St F → Prop)
    (hf : ∀ j (hj : j < n) a s, I j a s → I (j + 1) (eval (f j hj a) s).1 (eval (f j hj a) s).2) :
    ∀ (k j : ℕ) (h : j + k = n) (a : α) (s : St F), I j a s →
      I n (eval (loopFrom n f k j h a) s).1 (eval (loopFrom n f k j h a) s).2
  | 0, j, h, a, s, hI => by
      have : j = n := by omega
      subst this; exact hI
  | k + 1, j, h, a, s, hI => by
      rw [loopFrom, eval_bind]
      exact loopFrom_inv n f I hf k (j + 1) _ _ _ (hf j (by omega) a s hI)

/-- A loop keeps an invariant. -/
theorem loop_inv {α : Type} (n : ℕ) (f : (j : ℕ) → j < n → α → Cmd F α) (I : ℕ → α → St F → Prop) (a : α) (s : St F)
    (h0 : I 0 a s) (hf : ∀ j (hj : j < n) a s, I j a s → I (j + 1) (eval (f j hj a) s).1 (eval (f j hj a) s).2) :
    I n (eval (loop n f a) s).1 (eval (loop n f a) s).2 :=
  loopFrom_inv n f I hf n 0 _ a s h0

/-- Leaves a buffer as it is. -/
def Keeps {α : Type} (b : Bf) (p : Cmd F α) : Prop := ∀ s, (eval p s).2 b = s b

theorem Keeps.bind {α β : Type} {b : Bf} {p : Cmd F α} {k : α → Cmd F β} (h : Keeps b p) (hk : ∀ a, Keeps b (k a)) :
    Keeps b (p >>= k) := fun s => by rw [eval_bind, hk, h]

theorem Keeps.ret {α : Type} {b : Bf} (a : α) : Keeps (F := F) b (pure a) := fun _ => rfl

theorem Keeps.loop {α : Type} {b : Bf} {n : ℕ} {f : (j : ℕ) → j < n → α → Cmd F α} (h : ∀ j hj a, Keeps b (f j hj a)) (a : α) :
    Keeps b (loop n f a) := fun s =>
  loop_inv n f (fun _ _ s' => s' b = s b) a s rfl fun j hj a s' hs => (h j hj a s').trans hs

theorem Keeps.ld {b b' : Bf} {off size h hp} : Keeps (F := F) b (ld b' off size h hp) := fun _ => rfl

theorem Keeps.st {b b' : Bf} {off size h hp hr w} (hb : b ≠ b') : Keeps (F := F) b (st b' off size h hp hr w) := fun s =>
  Function.update_of_ne hb _ s

theorem Keeps.stOn {b b' : Bf} {off size h hp he M w} (hb : b ≠ b') :
    Keeps (F := F) b (Idealize.SL.Sem.Prog.lift (Eff.storeOn b' off size h hp he M w)) := fun s =>
  Function.update_of_ne hb _ s

end Cert.Attn

end
-- ==== Proof.Ops.lean ====
module

public import proofs.«01_k».proof.Proof.Walk

/-! # The arithmetic of the body at an index -/

@[expose] public section

set_option maxRecDepth 16384

noncomputable section

namespace Cert.Attn

open Idealize.ShloMosaic
open Cert.KernelIdeal hiding sig Λ₀
open Cert.KernelIdeal.Facts₀ Cert.KernelIdeal.Facts

theorem c_bot : Ideal.ofBits .f32 0xFF800000#32 = ⊥ := by
  simp [Ideal.ofBits, Ideal.ieee]

theorem fold_max {n : ℕ} (f : Fin n → EReal) :
    Finset.fold max (Ideal.ofBits .f32 4286578688#32) f Finset.univ = ⨆ i, f i := by
  rw [show Ideal.ofBits .f32 4286578688#32 = ⊥ from c_bot, ← Finset.sup_univ_eq_iSup]
  rfl

theorem absf_eq (x : EReal) : FloatOps.absf (F := Ideal) (φ := .f32) x = ab x := rfl

theorem sum_256 (f : Fin 256 → EReal) : ∑ x, f x = ∑ x : Fin 64, f ⟨x, by omega⟩ + ∑ x : Fin 64, f ⟨64 + x, by omega⟩
    + ∑ x : Fin 64, f ⟨128 + x, by omega⟩ + ∑ x : Fin 64, f ⟨192 + x, by omega⟩ := by
  have h := Fin.sum_univ_add (a := 64 + 64 + 64) (b := 64) f
  rw [Fin.sum_univ_add (a := 64 + 64) (b := 64), Fin.sum_univ_add (a := 64) (b := 64)] at h
  exact h

/-- Equality of small numbers as words. -/
theorem select_eq (a b : ℕ) (ha : a < 2 ^ 32) (hb : b < 2 ^ 32) (x y : EReal) :
    Scalar.select (IntOp.cmpi .eq (BitVec.ofNat 32 a) (BitVec.ofNat 32 b)) x y = if a = b then x else y := by
  have : (BitVec.ofNat 32 a == BitVec.ofNat 32 b) = decide (a = b) := by
    rw [Bool.eq_iff_iff, beq_iff_eq, decide_eq_true_iff]
    constructor
    · intro h; have := congrArg BitVec.toNat h
      rw [BitVec.toNat_ofNat, BitVec.toNat_ofNat, Nat.mod_eq_of_lt ha, Nat.mod_eq_of_lt hb] at this
      exact this
    · rintro rfl; rfl
  unfold IntOp.cmpi
  simp only [this]
  by_cases h : a = b <;> simp [h, Scalar.select]

variable [Facts]

theorem meanK_apply (x : FVec Ideal S1x2048x128 .bf16) (d : Fin 128) :
    meanK x (ix2 0 d) = (∑ r, x (ix3 0 r d)) * Ideal.ofBits .f32 0x3A000000#32 := by
  pointwise [meanK]

theorem meanK2_apply (x : FVec Ideal S1x2048x128 .bf16) (a : Fin 2) (d : Fin 128) :
    meanK2 x (ix2 a d) = meanK x (ix2 0 d) := by
  pointwise [meanK2]

theorem meanRow_apply (kv : BitVec 32) (x : FVec Ideal S1x2048x128 .bf16) (old : FVec Ideal S1x2x128 .bf16) (a : Fin 2) (d : Fin 128) :
    meanRow kv x old (ix3 0 a d) = Scalar.select (IntOp.cmpi .eq (BitVec.ofNat 32 a) kv) (meanK x (ix2 0 d)) (old (ix3 0 a d)) := by
  pointwise [meanRow, meanK2_apply]

theorem kDev_apply (m : FVec Ideal S1x128 .bf16) (x : FVec Ideal S1x64x128 .bf16) (a : Fin 64) (d : Fin 128) :
    kDev m x (ix2 a d) = x (ix3 0 a d) - m (ix2 0 d) := by
  pointwise [kDev]

theorem kMax_apply (x : FVec Ideal S64x128 .f32) :
    kMax x (ix2 0 0) = (⨆ a, ⨆ d, ab (x (ix2 a d))) * c448 := by
  pointwise [kMax, over448, fold_max, absf_eq]
  rw [iSup_comm]; rfl

theorem kCode_apply (x : FVec Ideal S64x128 .f32) (a : Fin 64) (d : Fin 128) :
    kCode lg x (ix2 a d) = clip (x (ix2 a d) * sInv (kMax x (ix2 0 0))) := by
  pointwise [kCode, clip448, invOf_apply, clip]

theorem kTile_apply (cs : Ideal .f32) (x : FVec Ideal S1x1 .f32) (a : Fin 8) (d : Fin 128) :
    kTile cs x (ix3 0 a d) = x (ix2 0 0) * cs := by
  pointwise [kTile]

theorem kRow_apply (j : ℕ) (x : FVec Ideal S1x1 .f32) (row : FVec Ideal S1x32 .f32) (a : Fin 32) :
    kRow j x row (ix2 0 a) = Scalar.select (IntOp.cmpi .eq (BitVec.ofNat 32 a) (BitVec.ofNat 32 j)) (x (ix2 0 0)) (row (ix2 0 a)) := by
  pointwise [kRow]

theorem vCol_apply (x : FVec Ideal S1x128 .f32) (a d : Fin 128) :
    vCol x (ix2 a d) = x (ix2 0 a) := by
  pointwise [vCol]

theorem vClip_apply (inv : FVec Ideal S1x128 .f32) (x : FVec Ideal S1x128x128 .bf16) (a d : Fin 128) :
    vClip inv x (ix2 a d) = clip (x (ix3 0 a d) * inv (ix2 0 d)) := by
  pointwise [vClip, clip448, clip]

theorem qMean_apply (x : FVec Ideal S1x128x128 .bf16) (d : Fin 128) :
    qMean x (ix2 0 d) = (∑ a, x (ix3 0 a d)) * Ideal.ofBits .f32 0x3C000000#32 := by
  pointwise [qMean, qF]

theorem qMeanB_apply (x : FVec Ideal S1x128x128 .bf16) (a d : Fin 128) :
    qMeanB x (ix2 a d) = qMean x (ix2 0 d) := by
  pointwise [qMeanB]

theorem qDev_apply (x : FVec Ideal S1x128x128 .bf16) (a d : Fin 128) :
    qDev x (ix2 a d) = x (ix3 0 a d) - qMean x (ix2 0 d) := by
  pointwise [qDev, qF, qMeanB_apply]

theorem qMax_apply (x : FVec Ideal S1x128x128 .bf16) (a d : Fin 128) :
    qMax x (ix2 a d) = ⨆ e, ab (qDev x (ix2 a e)) := by
  pointwise [qMax, fold_max, absf_eq]

theorem qInv_apply (x : FVec Ideal S1x128x128 .bf16) (a d : Fin 128) :
    qInv lg x (ix2 a d) = sInv (qMax x (ix2 a d) * c448) := by
  pointwise [qInv, invOf_apply, over448, c448]

theorem qScale_apply (x : FVec Ideal S1x128x128 .bf16) (a : Fin 8) (d : Fin 128) :
    qScale lg x (ix2 a d) = sScale (qMax x (ix2 d ⟨a, by omega⟩) * c448) := by
  pointwise [qScale, scaleOf_apply, over448, c448]

theorem qCode_apply (x : FVec Ideal S1x128x128 .bf16) (a : Fin 128) (d : Fin 128) :
    qCode lg x (ix3 0 a d) = clip (qDev x (ix2 a d) * qInv lg x (ix2 a d)) := by
  pointwise [qCode, clip448, clip]

theorem qMeanD_apply (x : FVec Ideal S1x128x128 .bf16) (a : Fin 128) (d : Fin 128) :
    qMeanD lg x (ix3 0 a d) = qMean x (ix2 0 d) * qInv lg x (ix2 a d) := by
  pointwise [qMeanD, qMeanB_apply]

theorem score256_apply (a : FVec Ideal S1x1x256x128 .fp8e4m3) (b : FVec Ideal S1x512x128 .fp8e4m3) (c : FVec Ideal S256x128 .bf16) (d : FVec Ideal S1x512x128 .bf16) (i : Fin 256) (j : Fin 512) :
    score256 a b c d (ix2 i j) = ∑ x, a (ix4 0 0 i x) * b (ix3 0 j x) + ∑ x, c (ix2 i x) * d (ix3 0 j x) := by
  pointwise [score256]

theorem score128_apply (a : FVec Ideal S1x1x128x128 .fp8e4m3) (b : FVec Ideal S1x512x128 .fp8e4m3) (c : FVec Ideal S128x128 .bf16) (d : FVec Ideal S1x512x128 .bf16) (i : Fin 128) (j : Fin 512) :
    score128 a b c d (ix2 i j) = ∑ x, a (ix4 0 0 i x) * b (ix3 0 j x) + ∑ x, c (ix2 i x) * d (ix3 0 j x) := by
  pointwise [score128]

theorem maxFull_apply (m w : FVec Ideal S8x512 .f32) (sl : FVec Ideal S64x512 .f32) (i : Fin 8) (j : Fin 512) :
    maxFull m w sl (ix2 i j) = max (m (ix2 i j)) ((⨆ x : Fin 8, sl (ix2 ⟨x * 8 + i, by omega⟩ j)) * w (ix2 i j)) := by
  pointwise [maxFull, by8, fold_max]

theorem masked_apply (o : BitVec 32) (w : FVec Ideal S8x512 .f32) (sl : FVec Ideal S64x512 .f32) (i : Fin 64) (j : Fin 512) :
    masked o w sl (ix2 i j) = Scalar.select (IntOp.cmpi .sle (IntOp.addi (BitVec.ofNat 32 i) o) (IntOp.andi (BitVec.ofNat 32 j) 127#32)) (sl (ix2 i j) * w (ix2 ⟨i % 8, by omega⟩ j)) ⊥ := by
  pointwise [masked, by8, up8, c_bot]

theorem maxDiag_apply (m : FVec Ideal S8x512 .f32) (sl : FVec Ideal S64x512 .f32) (i : Fin 8) (j : Fin 512) :
    maxDiag m sl (ix2 i j) = max (m (ix2 i j)) (⨆ x : Fin 8, sl (ix2 ⟨x * 8 + i, by omega⟩ j)) := by
  pointwise [maxDiag, by8, fold_max]

theorem rowMax_apply (m : FVec Ideal S8x512 .f32) (i : Fin 8) (j : Fin 512) :
    rowMax m (ix2 i j) = (⨆ x, m (ix2 x j)) - Ideal.ofBits .f32 0x41000000#32 := by
  pointwise [rowMax, fold_max]

theorem by8_apply (x : FVec Ideal S64x512 .f32) (i i' : Fin 8) (j : Fin 512) :
    by8 x (ix3 i i' j) = x (ix2 ⟨i * 8 + i', by omega⟩ j) := by
  pointwise [by8]

theorem up8_apply (x : FVec Ideal S8x512 .f32) (i i' : Fin 8) (j : Fin 512) :
    up8 x (ix3 i i' j) = x (ix2 i' j) := by
  pointwise [up8]

theorem expo_apply (m : FVec Ideal S8x512 .f32) (x : FVec Ideal S8x8x512 .f32) (i i' : Fin 8) (j : Fin 512) :
    expo m x (ix3 i i' j) = Ideal.exp2 (x (ix3 i i' j) - m (ix2 i' j)) := by
  pointwise [expo, up8]
  rfl

theorem addL_apply (m : FVec Ideal S8x512 .f32) (x : FVec Ideal S8x8x512 .f32) (i : Fin 8) (j : Fin 512) :
    addL m x (ix2 i j) = m (ix2 i j) + ∑ a, x (ix3 a i j) := by
  pointwise [addL]

theorem pCode_apply (x : FVec Ideal S8x8x512 .f32) (i : Fin 64) (j : Fin 512) :
    pCode x (ix2 i j) = min (x (ix3 ⟨i / 8, by omega⟩ ⟨i % 8, by omega⟩ j)) (Ideal.ofBits .f32 0x43E00000#32) := by
  pointwise [pCode]

theorem lInv_apply (m : FVec Ideal S8x512 .f32) (j : Fin 512) :
    lInv m (ix2 0 j) = Ideal.div 1 (∑ x, m (ix2 x j)) := by
  pointwise [lInv]

theorem outOf_apply (v a : FVec Ideal S128x128 .f32) (l : FVec Ideal S1x128 .f32) (i j : Fin 128) :
    outOf v a l (ix3 0 i j) = a (ix2 j i) * v (ix2 j i) * l (ix2 0 i) := by
  pointwise [outOf]

theorem vMax_apply (x : FVec Ideal S1x2048x128 .bf16) (d : Fin 128) :
    vMax x (ix2 0 d) = (⨆ r, ab (x (ix3 0 r d))) * c448 := by
  pointwise [vMax, over448, fold_max, absf_eq]
  congr 1
  apply le_antisymm
  · exact iSup_le fun a => iSup_le fun b => le_iSup (fun r => ab (x (ix3 0 r d))) _
  · refine iSup_le fun r => ?_
    refine le_trans (le_of_eq ?_) (le_iSup_of_le ⟨r % 8, by omega⟩ (le_iSup_of_le ⟨r / 8, by omega⟩ le_rfl))
    congr 3
    apply Fin.ext; show r.val = r.val / 8 * 8 + r.val % 8; omega

theorem wgt_apply (a : FVec Ideal S1x8x128 .f32) (b : FVec Ideal S1x8x512 .f32) (i : Fin 8) (j : Fin 512) :
    wgt a b (ix2 i j) = b (ix3 0 i j) * a (ix3 0 i ⟨j % 128, by omega⟩) := by
  pointwise [wgt]
  congr 1
  split
  · congr 2; apply Fin.ext; show j.val = j.val % 128; omega
  split
  · congr 2; apply Fin.ext; show j.val - 128 = j.val % 128; omega
  split
  · congr 2; apply Fin.ext; show j.val - 128 - 128 = j.val % 128; omega
  · congr 2; apply Fin.ext; show j.val - 128 - 128 - 128 = j.val % 128; omega

theorem pv128_apply (v : FVec Ideal S128x128 .fp8e4m3) (p q : FVec Ideal S64x512 .fp8e4m3) (i : Fin 128) (j : Fin 512) :
    pv128 v p q (ix2 i j) = ∑ x : Fin 64, v (ix2 i ⟨x, by omega⟩) * p (ix2 x j) + ∑ x : Fin 64, v (ix2 i ⟨64 + x, by omega⟩) * q (ix2 x j) := by
  pointwise [pv128]

theorem pv256_apply (v : FVec Ideal S128x256 .fp8e4m3) (p q r t : FVec Ideal S64x512 .fp8e4m3) (i : Fin 128) (j : Fin 512) :
    pv256 v p q r t (ix2 i j) = ∑ x : Fin 64, v (ix2 i ⟨x, by omega⟩) * p (ix2 x j) + ∑ x : Fin 64, v (ix2 i ⟨64 + x, by omega⟩) * q (ix2 x j)
      + ∑ x : Fin 64, v (ix2 i ⟨128 + x, by omega⟩) * r (ix2 x j) + ∑ x : Fin 64, v (ix2 i ⟨192 + x, by omega⟩) * t (ix2 x j) := by
  pointwise [pv256]
  rw [sum_256]
  refine congrArg₂ (· + ·) (congrArg₂ (· + ·) (congrArg₂ (· + ·) ?_ ?_) ?_) ?_
  · exact Finset.sum_congr rfl fun x _ => by rw [dif_pos (show x.val < 64 from x.isLt)]
  · refine Finset.sum_congr rfl fun x _ => ?_
    rw [dif_neg (show ¬ 64 + x.val < 64 by omega), dif_pos (show 64 + x.val - 64 < 64 by omega)]
    congr 3; apply Fin.ext; show 64 + x.val - 64 = x.val; omega
  · refine Finset.sum_congr rfl fun x _ => ?_
    rw [dif_neg (show ¬ 128 + x.val < 64 by omega), dif_neg (show ¬ 128 + x.val - 64 < 64 by omega),
      dif_pos (show 128 + x.val - 64 - 64 < 64 by omega)]
    congr 3; apply Fin.ext; show 128 + x.val - 64 - 64 = x.val; omega
  · refine Finset.sum_congr rfl fun x _ => ?_
    rw [dif_neg (show ¬ 192 + x.val < 64 by omega), dif_neg (show ¬ 192 + x.val - 64 < 64 by omega),
      dif_neg (show ¬ 192 + x.val - 64 - 64 < 64 by omega)]
    congr 3; apply Fin.ext; show 192 + x.val - 64 - 64 - 64 = x.val; omega

end Cert.Attn

end
-- ==== Proof.Reads.lean ====
module

public import proofs.«01_k».proof.Proof.Line
public import proofs.«01_k».proof.Proof.Gen.ReferenceIdeal.Frame
public import proofs.«01_k».proof.Proof.Gen.ReferenceIdeal
public import proofs.«01_k».proof.Proof.Ops

/-! # What each host operation of the reference leaves, in terms of its operands

One equation for each operation, all of the contents before the region (`Line`). -/

@[expose] public section

set_option maxRecDepth 16384

noncomputable section

namespace Cert.Attn.Ref

open Idealize.ShloMosaic Idealize.ShloMosaic.TcCoe
open Cert.ReferenceIdeal Cert.ReferenceIdeal.Gen

variable (m : (ℓ : Loc nD τ sig) → Buf (Elt Ideal) ℓ) (c : Dev nD)

/-- The buffers the operations write, in order. -/
noncomputable def outs : List (Ref sig .tc) := [
  main_v0, main_v1, main_cst, main_v2, main_cst_0, main_v3, main_v4, main_v5, main_v6, main_v7, main_v8, main_v9,
  main_v10, main_cst_1, main_v11, main_v12, main_cst_2, main_v13, main_v14, main_cst_3, main_v15, main_v16, main_v17, main_v18,
  main_v19, main_cst_4, main_v20, main_v21, main_cst_5, main_v22, main_v23, main_cst_6, main_v24, main_v25, main_v26, main_cst_7,
  main_call0_v0, main_call0_v1, main_v27, main_v28, main_v29, main_v30, main_v31, main_v32, main_v33, main_cst_8, main_cst_9, main_call1_v0,
  main_call1_v1, main_call1_v2, main_call1_v3, main_call1_v4, main_v34, main_v35, main_v36, main_v37, main_v38, main_v39, main_cst_10, main_v40,
  main_cst_11, main_v41, main_v42, main_v43, main_v44, main_v45, main_v46, main_v47, main_v48, main_v49, main_cst_12, main_v50,
  main_v51, main_cst_13, main_v52, main_v53, main_cst_14, main_v54, main_v55, main_v56, main_v57, main_v58, main_cst_15, main_v59,
  main_v60, main_cst_16, main_v61, main_v62, main_cst_17, main_v63, main_v64, main_v65, main_cst_18, main_call2_v0, main_call2_v1, main_v66,
  main_v67, main_v68, main_v69, main_v70, main_v71, main_v72, main_cst_19, main_cst_20, main_call3_v0, main_call3_v1, main_call3_v2, main_call3_v3,
  main_call3_v4, main_v73, main_v74, main_v75, main_v76, main_v77, main_v78, main_v79, main_cst_21, main_v80, main_v81, main_cst_22,
  main_v82, main_v83, main_cst_23, main_v84, main_v85, main_v86, main_v87, main_v88, main_cst_24, main_v89, main_v90, main_cst_25,
  main_v91, main_v92, main_cst_26, main_v93, main_v94, main_v95, main_cst_27, main_call4_v0, main_call4_v1, main_v96, main_v97, main_v98,
  main_v99, main_v100, main_v101, main_v102, main_cst_28, main_cst_29, main_call5_v0, main_call5_v1, main_call5_v2, main_call5_v3, main_call5_v4, main_v103,
  main_v104, main_v105, main_v106, main_v107, main_v108, main_v109, main_v110, main_v111, main_v112, main_v113, main_v114, main_v115,
  main_v116, main_v117, main_v118, main_v119, main_v120, main_v121, main_v122, main_v123, main_v124, main_v125, main_v126, main_v127,
  main_v128, main_v129, main_v130, main_v131, main_cst_30, main_v132, main_v133, main_v134, main_v135, main_v136, main_v137, main_v138,
  main_v139, main_v140, main_v141, main_cst_31, main_call6_v0, main_call6_v1, main_call6_v2, main_v142, main_cst_32, main_v143, main_v144, main_v145,
  main_v146, main_v147, main_cst_33, main_v148, main_cst_34, main_v149, main_v150, main_cst_35, main_v151, main_v152, main_v153, main_v154,
  main_cst_36, main_v155, main_v156, main_v157, main_v158, main_v159, main_cst_37, main_v160, main_v161, main_v162, main_v163, main_v164,
  main_v165, main_v166, main_v167, main_v168, main_v169, main_v170, main_v171, main_v172, main_v173, main_v174, main_v175, main_v176]

/-- The operations. -/
noncomputable abbrev hops : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14]

theorem line : Line 3 hops outs := ⟨by sl_kernel_rfl, by decide +kernel⟩

def w_arg0 : FVec Ideal S8x2048x1024 .bf16 := V m c main_arg0
theorem w_arg0_eq : w_arg0 m c = m ((c : Thread nD τ).loc main_arg0) := V_main_arg0 m c
def w_arg1 : FVec Ideal S8x2048x256 .bf16 := V m c main_arg1
theorem w_arg1_eq : w_arg1 m c = m ((c : Thread nD τ).loc main_arg1) := V_main_arg1 m c
def w_arg2 : FVec Ideal S8x2048x256 .bf16 := V m c main_arg2
theorem w_arg2_eq : w_arg2 m c = m ((c : Thread nD τ).loc main_arg2) := V_main_arg2 m c

def w_v0 : FVec Ideal S8x2048x1024 .f32 := V m c main_v0
theorem w_v0_eq : w_v0 m c = ((extf .f32 · bitsLt_bf16_f32)) (w_arg0 m c) := line.unary _ 0 main_arg0 main_v0 ((extf .f32 · bitsLt_bf16_f32) : FVec Ideal S8x2048x1024 .bf16 → FVec Ideal S8x2048x1024 .f32) (hop := by sl_kernel_rfl) (h := rfl) (h1 := by decide)
def w_v1 : FVec Ideal S8x16x128x8x128 .f32 := V m c main_v1
theorem w_v1_eq : w_v1 m c = (fun u => shapeCast S8x16x128x8x128 u shapeCasts_S8x2048x1024_S8x16x128x8x128) (w_v0 m c) := line.reshape _ 1 main_v0 main_v1 rfl shapeCasts_S8x2048x1024_S8x16x128x8x128 (hop := by sl_kernel_rfl) (h := rfl) (h1 := by decide)
def w_cst : FVec Ideal S_ .f32 := V m c main_cst
theorem w_cst_eq : w_cst m c = (constant S_ .f32 0x00000000#32) := line.nullary _ 2 main_cst (constant S_ .f32 0x00000000#32 : FVec Ideal S_ .f32) (hop := by sl_kernel_rfl) (h := rfl)
def w_v2 : FVec Ideal S8x16x8x128 .f32 := V m c main_v2
theorem w_v2_eq : w_v2 m c = ((fun x v => Host.reduceAdd x v reducesTo_S8x16x128x8x128_S8x16x8x128_d2 h_S_)) (w_v1 m c) (w_cst m c) := line.binary _ 3 main_v1 main_cst main_v2 ((fun x v => Host.reduceAdd x v reducesTo_S8x16x128x8x128_S8x16x8x128_d2 h_S_) : FVec Ideal S8x16x128x8x128 .f32 → FVec Ideal S_ .f32 → FVec Ideal S8x16x8x128 .f32) (hop := by sl_kernel_rfl) (h := rfl) (h1 := by decide) (h2 := by decide)
def w_cst_0 : FVec Ideal S_ .f32 := V m c main_cst_0
theorem w_cst_0_eq : w_cst_0 m c = (constant S_ .f32 0x43000000#32) := line.nullary _ 4 main_cst_0 (constant S_ .f32 0x43000000#32 : FVec Ideal S_ .f32) (hop := by sl_kernel_rfl) (h := rfl)
def w_v3 : FVec Ideal S8x16x8x128 .f32 := V m c main_v3
theorem w_v3_eq : w_v3 m c = (broadcastInDim S8x16x8x128 ![] bcast_S_S8x16x8x128) (w_cst_0 m c) := line.unary _ 5 main_cst_0 main_v3 (broadcastInDim S8x16x8x128 ![] bcast_S_S8x16x8x128 : FVec Ideal S_ .f32 → FVec Ideal S8x16x8x128 .f32) (hop := by sl_kernel_rfl) (h := rfl) (h1 := by decide)
def w_v4 : FVec Ideal S8x16x8x128 .f32 := V m c main_v4
theorem w_v4_eq : w_v4 m c = (Host.divf) (w_v2 m c) (w_v3 m c) := line.binary _ 6 main_v2 main_v3 main_v4 (Host.divf : FVec Ideal S8x16x8x128 .f32 → FVec Ideal S8x16x8x128 .f32 → FVec Ideal S8x16x8x128 .f32) (hop := by sl_kernel_rfl) (h := rfl) (h1 := by decide) (h2 := by decide)
def w_v5 : FVec Ideal S8x16x8x128 .bf16 := V m c main_v5
theorem w_v5_eq : w_v5 m c = ((truncf .bf16 · bitsLt_bf16_f32)) (w_v4 m c) := line.unary _ 7 main_v4 main_v5 ((truncf .bf16 · bitsLt_bf16_f32) : FVec Ideal S8x16x8x128 .f32 → FVec Ideal S8x16x8x128 .bf16) (hop := by sl_kernel_rfl) (h := rfl) (h1 := by decide)
def w_v6 : FVec Ideal S8x16x8x128 .f32 := V m c main_v6
theorem w_v6_eq : w_v6 m c = ((extf .f32 · bitsLt_bf16_f32)) (w_v5 m c) := line.unary _ 8 main_v5 main_v6 ((extf .f32 · bitsLt_bf16_f32) : FVec Ideal S8x16x8x128 .bf16 → FVec Ideal S8x16x8x128 .f32) (hop := by sl_kernel_rfl) (h := rfl) (h1 := by decide)
def w_v7 : FVec Ideal S8x16x1x8x128 .f32 := V m c main_v7
theorem w_v7_eq : w_v7 m c = (broadcastInDim S8x16x1x8x128 ![0, 1, 3, 4] bcast_S8x16x8x128_S8x16x1x8x128_0_1_3_4) (w_v6 m c) := line.unary _ 9 main_v6 main_v7 (broadcastInDim S8x16x1x8x128 ![0, 1, 3, 4] bcast_S8x16x8x128_S8x16x1x8x128_0_1_3_4 : FVec Ideal S8x16x8x128 .f32 → FVec Ideal S8x16x1x8x128 .f32) (hop := by sl_kernel_rfl) (h := rfl) (h1 := by decide)
def w_v8 : FVec Ideal S8x16x128x8x128 .f32 := V m c main_v8
theorem w_v8_eq : w_v8 m c = (broadcastInDim S8x16x128x8x128 ![0, 1, 2, 3, 4] bcast_S8x16x1x8x128_S8x16x128x8x128_0_1_2_3_4) (w_v7 m c) := line.unary _ 10 main_v7 main_v8 (broadcastInDim S8x16x128x8x128 ![0, 1, 2, 3, 4] bcast_S8x16x1x8x128_S8x16x128x8x128_0_1_2_3_4 : FVec Ideal S8x16x1x8x128 .f32 → FVec Ideal S8x16x128x8x128 .f32) (hop := by sl_kernel_rfl) (h := rfl) (h1 := by decide)
def w_v9 : FVec Ideal S8x16x128x8x128 .f32 := V m c main_v9
theorem w_v9_eq : w_v9 m c = (subf) (w_v1 m c) (w_v8 m c) := line.binary _ 11 main_v1 main_v8 main_v9 (subf : FVec Ideal S8x16x128x8x128 .f32 → FVec Ideal S8x16x128x8x128 .f32 → FVec Ideal S8x16x128x8x128 .f32) (hop := by sl_kernel_rfl) (h := rfl) (h1 := by decide) (h2 := by decide)
def w_v10 : FVec Ideal S8x16x128x8x128 .f32 := V m c main_v10
theorem w_v10_eq : w_v10 m c = (Host.absf) (w_v9 m c) := line.unary _ 12 main_v9 main_v10 (Host.absf : FVec Ideal S8x16x128x8x128 .f32 → FVec Ideal S8x16x128x8x128 .f32) (hop := by sl_kernel_rfl) (h := rfl) (h1 := by decide)
def w_cst_1 : FVec Ideal S_ .f32 := V m c main_cst_1
theorem w_cst_1_eq : w_cst_1 m c = (constant S_ .f32 0xFF800000#32) := line.nullary _ 13 main_cst_1 (constant S_ .f32 0xFF800000#32 : FVec Ideal S_ .f32) (hop := by sl_kernel_rfl) (h := rfl)
def w_v11 : FVec Ideal S8x16x128x8 .f32 := V m c main_v11
theorem w_v11_eq : w_v11 m c = ((fun x v => Host.reduce FloatOps.maximumf x v reducesTo_S8x16x128x8x128_S8x16x128x8_d4 h_S_)) (w_v10 m c) (w_cst_1 m c) := line.binary _ 14 main_v10 main_cst_1 main_v11 ((fun x v => Host.reduce FloatOps.maximumf x v reducesTo_S8x16x128x8x128_S8x16x128x8_d4 h_S_) : FVec Ideal S8x16x128x8x128 .f32 → FVec Ideal S_ .f32 → FVec Ideal S8x16x128x8 .f32) (hop := by sl_kernel_rfl) (h := rfl) (h1 := by decide) (h2 := by decide)
def w_v12 : FVec Ideal S8x16x128x8x1 .f32 := V m c main_v12
theorem w_v12_eq : w_v12 m c = (broadcastInDim S8x16x128x8x1 ![0, 1, 2, 3] bcast_S8x16x128x8_S8x16x128x8x1_0_1_2_3) (w_v11 m c) := line.unary _ 15 main_v11 main_v12 (broadcastInDim S8x16x128x8x1 ![0, 1, 2, 3] bcast_S8x16x128x8_S8x16x128x8x1_0_1_2_3 : FVec Ideal S8x16x128x8 .f32 → FVec Ideal S8x16x128x8x1 .f32) (hop := by sl_kernel_rfl) (h := rfl) (h1 := by decide)
def w_cst_2 : FVec Ideal S_ .f32 := V m c main_cst_2
theorem w_cst_2_eq : w_cst_2 m c = (constant S_ .f32 0x3B124925#32) := line.nullary _ 16 main_cst_2 (constant S_ .f32 0x3B124925#32 : FVec Ideal S_ .f32) (hop := by sl_kernel_rfl) (h := rfl)
def w_v13 : FVec Ideal S8x16x128x8x1 .f32 := V m c main_v13
theorem w_v13_eq : w_v13 m c = (broadcastInDim S8x16x128x8x1 ![] bcast_S_S8x16x128x8x1) (w_cst_2 m c) := line.unary _ 17 main_cst_2 main_v13 (broadcastInDim S8x16x128x8x1 ![] bcast_S_S8x16x128x8x1 : FVec Ideal S_ .f32 → FVec Ideal S8x16x128x8x1 .f32) (hop := by sl_kernel_rfl) (h := rfl) (h1 := by decide)
def w_v14 : FVec Ideal S8x16x128x8x1 .f32 := V m c main_v14
theorem w_v14_eq : w_v14 m c = (mulf) (w_v12 m c) (w_v13 m c) := line.binary _ 18 main_v12 main_v13 main_v14 (mulf : FVec Ideal S8x16x128x8x1 .f32 → FVec Ideal S8x16x128x8x1 .f32 → FVec Ideal S8x16x128x8x1 .f32) (hop := by sl_kernel_rfl) (h := rfl) (h1 := by decide) (h2 := by decide)
def w_cst_3 : FVec Ideal S_ .f32 := V m c main_cst_3
theorem w_cst_3_eq : w_cst_3 m c = (constant S_ .f32 0x40000000#32) := line.nullary _ 19 main_cst_3 (constant S_ .f32 0x40000000#32 : FVec Ideal S_ .f32) (hop := by sl_kernel_rfl) (h := rfl)
def w_v15 : FVec Ideal S_ .f32 := V m c main_v15
theorem w_v15_eq : w_v15 m c = (Host.log) (w_cst_3 m c) := line.unary _ 20 main_cst_3 main_v15 (Host.log : FVec Ideal S_ .f32 → FVec Ideal S_ .f32) (hop := by sl_kernel_rfl) (h := rfl) (h1 := by decide)
def w_v16 : FVec Ideal S8x16x128x8x1 .f32 := V m c main_v16
theorem w_v16_eq : w_v16 m c = (Host.log) (w_v14 m c) := line.unary _ 21 main_v14 main_v16 (Host.log : FVec Ideal S8x16x128x8x1 .f32 → FVec Ideal S8x16x128x8x1 .f32) (hop := by sl_kernel_rfl) (h := rfl) (h1 := by decide)
def w_v17 : FVec Ideal S8x16x128x8x1 .f32 := V m c main_v17
theorem w_v17_eq : w_v17 m c = (broadcastInDim S8x16x128x8x1 ![] bcast_S_S8x16x128x8x1) (w_v15 m c) := line.unary _ 22 main_v15 main_v17 (broadcastInDim S8x16x128x8x1 ![] bcast_S_S8x16x128x8x1 : FVec Ideal S_ .f32 → FVec Ideal S8x16x128x8x1 .f32) (hop := by sl_kernel_rfl) (h := rfl) (h1 := by decide)
def w_v18 : FVec Ideal S8x16x128x8x1 .f32 := V m c main_v18
theorem w_v18_eq : w_v18 m c = (Host.divf) (w_v16 m c) (w_v17 m c) := line.binary _ 23 main_v16 main_v17 main_v18 (Host.divf : FVec Ideal S8x16x128x8x1 .f32 → FVec Ideal S8x16x128x8x1 .f32 → FVec Ideal S8x16x128x8x1 .f32) (hop := by sl_kernel_rfl) (h := rfl) (h1 := by decide) (h2 := by decide)
def w_v19 : FVec Ideal S8x16x128x8x1 .f32 := V m c main_v19
theorem w_v19_eq : w_v19 m c = (Host.floor) (w_v18 m c) := line.unary _ 24 main_v18 main_v19 (Host.floor : FVec Ideal S8x16x128x8x1 .f32 → FVec Ideal S8x16x128x8x1 .f32) (hop := by sl_kernel_rfl) (h := rfl) (h1 := by decide)
def w_cst_4 : FVec Ideal S_ .f32 := V m c main_cst_4
theorem w_cst_4_eq : w_cst_4 m c = (constant S_ .f32 0x3F800000#32) := line.nullary _ 25 main_cst_4 (constant S_ .f32 0x3F800000#32 : FVec Ideal S_ .f32) (hop := by sl_kernel_rfl) (h := rfl)
def w_v20 : FVec Ideal S8x16x128x8x1 .f32 := V m c main_v20
theorem w_v20_eq : w_v20 m c = (broadcastInDim S8x16x128x8x1 ![] bcast_S_S8x16x128x8x1) (w_cst_4 m c) := line.unary _ 26 main_cst_4 main_v20 (broadcastInDim S8x16x128x8x1 ![] bcast_S_S8x16x128x8x1 : FVec Ideal S_ .f32 → FVec Ideal S8x16x128x8x1 .f32) (hop := by sl_kernel_rfl) (h := rfl) (h1 := by decide)
def w_v21 : FVec Ideal S8x16x128x8x1 .f32 := V m c main_v21
theorem w_v21_eq : w_v21 m c = (addf) (w_v19 m c) (w_v20 m c) := line.binary _ 27 main_v19 main_v20 main_v21 (addf : FVec Ideal S8x16x128x8x1 .f32 → FVec Ideal S8x16x128x8x1 .f32 → FVec Ideal S8x16x128x8x1 .f32) (hop := by sl_kernel_rfl) (h := rfl) (h1 := by decide) (h2 := by decide)
def w_cst_5 : FVec Ideal S_ .f32 := V m c main_cst_5
theorem w_cst_5_eq : w_cst_5 m c = (constant S_ .f32 0x00800000#32) := line.nullary _ 28 main_cst_5 (constant S_ .f32 0x00800000#32 : FVec Ideal S_ .f32) (hop := by sl_kernel_rfl) (h := rfl)
def w_v22 : FVec Ideal S8x16x128x8x1 .f32 := V m c main_v22
theorem w_v22_eq : w_v22 m c = (broadcastInDim S8x16x128x8x1 ![] bcast_S_S8x16x128x8x1) (w_cst_5 m c) := line.unary _ 29 main_cst_5 main_v22 (broadcastInDim S8x16x128x8x1 ![] bcast_S_S8x16x128x8x1 : FVec Ideal S_ .f32 → FVec Ideal S8x16x128x8x1 .f32) (hop := by sl_kernel_rfl) (h := rfl) (h1 := by decide)
def w_v23 : IVec S8x16x128x8x1 1 := V m c main_v23
theorem w_v23_eq : w_v23 m c = (cmpf .olt) (w_v14 m c) (w_v22 m c) := line.binary _ 30 main_v14 main_v22 main_v23 (cmpf .olt : FVec Ideal S8x16x128x8x1 .f32 → FVec Ideal S8x16x128x8x1 .f32 → IVec S8x16x128x8x1 1) (hop := by sl_kernel_rfl) (h := rfl) (h1 := by decide) (h2 := by decide)
def w_cst_6 : FVec Ideal S_ .f32 := V m c main_cst_6
theorem w_cst_6_eq : w_cst_6 m c = (constant S_ .f32 0x7E800000#32) := line.nullary _ 31 main_cst_6 (constant S_ .f32 0x7E800000#32 : FVec Ideal S_ .f32) (hop := by sl_kernel_rfl) (h := rfl)
def w_v24 : FVec Ideal S8x16x128x8x1 .f32 := V m c main_v24
theorem w_v24_eq : w_v24 m c = (broadcastInDim S8x16x128x8x1 ![] bcast_S_S8x16x128x8x1) (w_cst_6 m c) := line.unary _ 32 main_cst_6 main_v24 (broadcastInDim S8x16x128x8x1 ![] bcast_S_S8x16x128x8x1 : FVec Ideal S_ .f32 → FVec Ideal S8x16x128x8x1 .f32) (hop := by sl_kernel_rfl) (h := rfl) (h1 := by decide)
def w_v25 : IVec S8x16x128x8x1 1 := V m c main_v25
theorem w_v25_eq : w_v25 m c = (cmpf .oge) (w_v14 m c) (w_v24 m c) := line.binary _ 33 main_v14 main_v24 main_v25 (cmpf .oge : FVec Ideal S8x16x128x8x1 .f32 → FVec Ideal S8x16x128x8x1 .f32 → IVec S8x16x128x8x1 1) (hop := by sl_kernel_rfl) (h := rfl) (h1 := by decide) (h2 := by decide)
def w_v26 : IVec S8x16x128x8x1 1 := V m c main_v26
theorem w_v26_eq : w_v26 m c = (ori) (w_v23 m c) (w_v25 m c) := line.binary _ 34 main_v23 main_v25 main_v26 (ori : IVec S8x16x128x8x1 1 → IVec S8x16x128x8x1 1 → IVec S8x16x128x8x1 1) (hop := by sl_kernel_rfl) (h := rfl) (h1 := by decide) (h2 := by decide)
def w_cst_7 : FVec Ideal S_ .f32 := V m c main_cst_7
theorem w_cst_7_eq : w_cst_7 m c = (constant S_ .f32 0x00000000#32) := line.nullary _ 35 main_cst_7 (constant S_ .f32 0x00000000#32 : FVec Ideal S_ .f32) (hop := by sl_kernel_rfl) (h := rfl)
def w_call0_v0 : FVec Ideal S_ .f32 := V m c main_call0_v0
theorem w_call0_v0_eq : w_call0_v0 m c = id (w_cst_7 m c) := line.unary _ 36 main_cst_7 main_call0_v0 (id : FVec Ideal S_ .f32 → FVec Ideal S_ .f32) (hop := by sl_kernel_rfl) (h := rfl) (h1 := by decide)
def w_call0_v1 : FVec Ideal S8x16x128x8x1 .f32 := V m c main_call0_v1
theorem w_call0_v1_eq : w_call0_v1 m c = (broadcastInDim S8x16x128x8x1 ![] bcast_S_S8x16x128x8x1) (w_call0_v0 m c) := line.unary _ 37 main_call0_v0 main_call0_v1 (broadcastInDim S8x16x128x8x1 ![] bcast_S_S8x16x128x8x1 : FVec Ideal S_ .f32 → FVec Ideal S8x16x128x8x1 .f32) (hop := by sl_kernel_rfl) (h := rfl) (h1 := by decide)
def w_v27 : FVec Ideal S8x16x128x8x1 .f32 := V m c main_v27
theorem w_v27_eq : w_v27 m c = select (w_v26 m c) (w_call0_v1 m c) (w_v21 m c) := line.ternary _ 38 main_v26 main_call0_v1 main_v21 main_v27 (select : IVec S8x16x128x8x1 1 → FVec Ideal S8x16x128x8x1 .f32 → FVec Ideal S8x16x128x8x1 .f32 → FVec Ideal S8x16x128x8x1 .f32) (hop := by sl_kernel_rfl) (h := rfl) (h0 := by decide) (h1 := by decide) (h2 := by decide)
def w_v28 : FVec Ideal S8x16x128x8x1 .f32 := V m c main_v28
theorem w_v28_eq : w_v28 m c = (Host.negf) (w_v27 m c) := line.unary _ 39 main_v27 main_v28 (Host.negf : FVec Ideal S8x16x128x8x1 .f32 → FVec Ideal S8x16x128x8x1 .f32) (hop := by sl_kernel_rfl) (h := rfl) (h1 := by decide)
def w_v29 : FVec Ideal S8x16x128x8x1 .f32 := V m c main_v29
theorem w_v29_eq : w_v29 m c = (broadcastInDim S8x16x128x8x1 ![] bcast_S_S8x16x128x8x1) (w_v15 m c) := line.unary _ 40 main_v15 main_v29 (broadcastInDim S8x16x128x8x1 ![] bcast_S_S8x16x128x8x1 : FVec Ideal S_ .f32 → FVec Ideal S8x16x128x8x1 .f32) (hop := by sl_kernel_rfl) (h := rfl) (h1 := by decide)
def w_v30 : FVec Ideal S8x16x128x8x1 .f32 := V m c main_v30
theorem w_v30_eq : w_v30 m c = (mulf) (w_v28 m c) (w_v29 m c) := line.binary _ 41 main_v28 main_v29 main_v30 (mulf : FVec Ideal S8x16x128x8x1 .f32 → FVec Ideal S8x16x128x8x1 .f32 → FVec Ideal S8x16x128x8x1 .f32) (hop := by sl_kernel_rfl) (h := rfl) (h1 := by decide) (h2 := by decide)
def w_v31 : FVec Ideal S8x16x128x8x1 .f32 := V m c main_v31
theorem w_v31_eq : w_v31 m c = (Host.exp) (w_v30 m c) := line.unary _ 42 main_v30 main_v31 (Host.exp : FVec Ideal S8x16x128x8x1 .f32 → FVec Ideal S8x16x128x8x1 .f32) (hop := by sl_kernel_rfl) (h := rfl) (h1 := by decide)
def w_v32 : FVec Ideal S8x16x128x8x128 .f32 := V m c main_v32
theorem w_v32_eq : w_v32 m c = (broadcastInDim S8x16x128x8x128 ![0, 1, 2, 3, 4] bcast_S8x16x128x8x1_S8x16x128x8x128_0_1_2_3_4) (w_v31 m c) := line.unary _ 43 main_v31 main_v32 (broadcastInDim S8x16x128x8x128 ![0, 1, 2, 3, 4] bcast_S8x16x128x8x1_S8x16x128x8x128_0_1_2_3_4 : FVec Ideal S8x16x128x8x1 .f32 → FVec Ideal S8x16x128x8x128 .f32) (hop := by sl_kernel_rfl) (h := rfl) (h1 := by decide)
def w_v33 : FVec Ideal S8x16x128x8x128 .f32 := V m c main_v33
theorem w_v33_eq : w_v33 m c = (mulf) (w_v9 m c) (w_v32 m c) := line.binary _ 44 main_v9 main_v32 main_v33 (mulf : FVec Ideal S8x16x128x8x128 .f32 → FVec Ideal S8x16x128x8x128 .f32 → FVec Ideal S8x16x128x8x128 .f32) (hop := by sl_kernel_rfl) (h := rfl) (h1 := by decide) (h2 := by decide)
def w_cst_8 : FVec Ideal S_ .f32 := V m c main_cst_8
theorem w_cst_8_eq : w_cst_8 m c = (constant S_ .f32 0xC3E00000#32) := line.nullary _ 45 main_cst_8 (constant S_ .f32 0xC3E00000#32 : FVec Ideal S_ .f32) (hop := by sl_kernel_rfl) (h := rfl)
def w_cst_9 : FVec Ideal S_ .f32 := V m c main_cst_9
theorem w_cst_9_eq : w_cst_9 m c = (constant S_ .f32 0x43E00000#32) := line.nullary _ 46 main_cst_9 (constant S_ .f32 0x43E00000#32 : FVec Ideal S_ .f32) (hop := by sl_kernel_rfl) (h := rfl)
def w_call1_v0 : FVec Ideal S_ .f32 := V m c main_call1_v0
theorem w_call1_v0_eq : w_call1_v0 m c = id (w_cst_8 m c) := line.unary _ 47 main_cst_8 main_call1_v0 (id : FVec Ideal S_ .f32 → FVec Ideal S_ .f32) (hop := by sl_kernel_rfl) (h := rfl) (h1 := by decide)
def w_call1_v1 : FVec Ideal S8x16x128x8x128 .f32 := V m c main_call1_v1
theorem w_call1_v1_eq : w_call1_v1 m c = (broadcastInDim S8x16x128x8x128 ![] bcast_S_S8x16x128x8x128) (w_call1_v0 m c) := line.unary _ 48 main_call1_v0 main_call1_v1 (broadcastInDim S8x16x128x8x128 ![] bcast_S_S8x16x128x8x128 : FVec Ideal S_ .f32 → FVec Ideal S8x16x128x8x128 .f32) (hop := by sl_kernel_rfl) (h := rfl) (h1 := by decide)
def w_call1_v2 : FVec Ideal S8x16x128x8x128 .f32 := V m c main_call1_v2
theorem w_call1_v2_eq : w_call1_v2 m c = maximumf (w_call1_v1 m c) (w_v33 m c) := line.binary _ 49 main_call1_v1 main_v33 main_call1_v2 (maximumf : FVec Ideal S8x16x128x8x128 .f32 → FVec Ideal S8x16x128x8x128 .f32 → FVec Ideal S8x16x128x8x128 .f32) (hop := by sl_kernel_rfl) (h := rfl) (h1 := by decide) (h2 := by decide)
def w_call1_v3 : FVec Ideal S_ .f32 := V m c main_call1_v3
theorem w_call1_v3_eq : w_call1_v3 m c = id (w_cst_9 m c) := line.unary _ 50 main_cst_9 main_call1_v3 (id : FVec Ideal S_ .f32 → FVec Ideal S_ .f32) (hop := by sl_kernel_rfl) (h := rfl) (h1 := by decide)
def w_call1_v4 : FVec Ideal S8x16x128x8x128 .f32 := V m c main_call1_v4
theorem w_call1_v4_eq : w_call1_v4 m c = (broadcastInDim S8x16x128x8x128 ![] bcast_S_S8x16x128x8x128) (w_call1_v3 m c) := line.unary _ 51 main_call1_v3 main_call1_v4 (broadcastInDim S8x16x128x8x128 ![] bcast_S_S8x16x128x8x128 : FVec Ideal S_ .f32 → FVec Ideal S8x16x128x8x128 .f32) (hop := by sl_kernel_rfl) (h := rfl) (h1 := by decide)
def w_v34 : FVec Ideal S8x16x128x8x128 .f32 := V m c main_v34
theorem w_v34_eq : w_v34 m c = minimumf (w_call1_v4 m c) (w_call1_v2 m c) := line.binary _ 52 main_call1_v4 main_call1_v2 main_v34 (minimumf : FVec Ideal S8x16x128x8x128 .f32 → FVec Ideal S8x16x128x8x128 .f32 → FVec Ideal S8x16x128x8x128 .f32) (hop := by sl_kernel_rfl) (h := rfl) (h1 := by decide) (h2 := by decide)
def w_v35 : FVec Ideal S8x16x128x8x1 .f32 := V m c main_v35
theorem w_v35_eq : w_v35 m c = (broadcastInDim S8x16x128x8x1 ![] bcast_S_S8x16x128x8x1) (w_v15 m c) := line.unary _ 53 main_v15 main_v35 (broadcastInDim S8x16x128x8x1 ![] bcast_S_S8x16x128x8x1 : FVec Ideal S_ .f32 → FVec Ideal S8x16x128x8x1 .f32) (hop := by sl_kernel_rfl) (h := rfl) (h1 := by decide)
def w_v36 : FVec Ideal S8x16x128x8x1 .f32 := V m c main_v36
theorem w_v36_eq : w_v36 m c = (mulf) (w_v27 m c) (w_v35 m c) := line.binary _ 54 main_v27 main_v35 main_v36 (mulf : FVec Ideal S8x16x128x8x1 .f32 → FVec Ideal S8x16x128x8x1 .f32 → FVec Ideal S8x16x128x8x1 .f32) (hop := by sl_kernel_rfl) (h := rfl) (h1 := by decide) (h2 := by decide)
def w_v37 : FVec Ideal S8x16x128x8x1 .f32 := V m c main_v37
theorem w_v37_eq : w_v37 m c = (Host.exp) (w_v36 m c) := line.unary _ 55 main_v36 main_v37 (Host.exp : FVec Ideal S8x16x128x8x1 .f32 → FVec Ideal S8x16x128x8x1 .f32) (hop := by sl_kernel_rfl) (h := rfl) (h1 := by decide)
def w_v38 : FVec Ideal S8x2048x256 .f32 := V m c main_v38
theorem w_v38_eq : w_v38 m c = ((extf .f32 · bitsLt_bf16_f32)) (w_arg1 m c) := line.unary _ 56 main_arg1 main_v38 ((extf .f32 · bitsLt_bf16_f32) : FVec Ideal S8x2048x256 .bf16 → FVec Ideal S8x2048x256 .f32) (hop := by sl_kernel_rfl) (h := rfl) (h1 := by decide)
def w_v39 : FVec Ideal S8x2048x2x128 .f32 := V m c main_v39
theorem w_v39_eq : w_v39 m c = (fun u => shapeCast S8x2048x2x128 u shapeCasts_S8x2048x256_S8x2048x2x128) (w_v38 m c) := line.reshape _ 57 main_v38 main_v39 rfl shapeCasts_S8x2048x256_S8x2048x2x128 (hop := by sl_kernel_rfl) (h := rfl) (h1 := by decide)
def w_cst_10 : FVec Ideal S_ .f32 := V m c main_cst_10
theorem w_cst_10_eq : w_cst_10 m c = (constant S_ .f32 0x00000000#32) := line.nullary _ 58 main_cst_10 (constant S_ .f32 0x00000000#32 : FVec Ideal S_ .f32) (hop := by sl_kernel_rfl) (h := rfl)
def w_v40 : FVec Ideal S8x2x128 .f32 := V m c main_v40
theorem w_v40_eq : w_v40 m c = ((fun x v => Host.reduceAdd x v reducesTo_S8x2048x2x128_S8x2x128_d1 h_S_)) (w_v39 m c) (w_cst_10 m c) := line.binary _ 59 main_v39 main_cst_10 main_v40 ((fun x v => Host.reduceAdd x v reducesTo_S8x2048x2x128_S8x2x128_d1 h_S_) : FVec Ideal S8x2048x2x128 .f32 → FVec Ideal S_ .f32 → FVec Ideal S8x2x128 .f32) (hop := by sl_kernel_rfl) (h := rfl) (h1 := by decide) (h2 := by decide)
def w_cst_11 : FVec Ideal S_ .f32 := V m c main_cst_11
theorem w_cst_11_eq : w_cst_11 m c = (constant S_ .f32 0x45000000#32) := line.nullary _ 60 main_cst_11 (constant S_ .f32 0x45000000#32 : FVec Ideal S_ .f32) (hop := by sl_kernel_rfl) (h := rfl)
def w_v41 : FVec Ideal S8x2x128 .f32 := V m c main_v41
theorem w_v41_eq : w_v41 m c = (broadcastInDim S8x2x128 ![] bcast_S_S8x2x128) (w_cst_11 m c) := line.unary _ 61 main_cst_11 main_v41 (broadcastInDim S8x2x128 ![] bcast_S_S8x2x128 : FVec Ideal S_ .f32 → FVec Ideal S8x2x128 .f32) (hop := by sl_kernel_rfl) (h := rfl) (h1 := by decide)
def w_v42 : FVec Ideal S8x2x128 .f32 := V m c main_v42
theorem w_v42_eq : w_v42 m c = (Host.divf) (w_v40 m c) (w_v41 m c) := line.binary _ 62 main_v40 main_v41 main_v42 (Host.divf : FVec Ideal S8x2x128 .f32 → FVec Ideal S8x2x128 .f32 → FVec Ideal S8x2x128 .f32) (hop := by sl_kernel_rfl) (h := rfl) (h1 := by decide) (h2 := by decide)
def w_v43 : FVec Ideal S8x2x128 .bf16 := V m c main_v43
theorem w_v43_eq : w_v43 m c = ((truncf .bf16 · bitsLt_bf16_f32)) (w_v42 m c) := line.unary _ 63 main_v42 main_v43 ((truncf .bf16 · bitsLt_bf16_f32) : FVec Ideal S8x2x128 .f32 → FVec Ideal S8x2x128 .bf16) (hop := by sl_kernel_rfl) (h := rfl) (h1 := by decide)
def w_v44 : FVec Ideal S8x2x128 .f32 := V m c main_v44
theorem w_v44_eq : w_v44 m c = ((extf .f32 · bitsLt_bf16_f32)) (w_v43 m c) := line.unary _ 64 main_v43 main_v44 ((extf .f32 · bitsLt_bf16_f32) : FVec Ideal S8x2x128 .bf16 → FVec Ideal S8x2x128 .f32) (hop := by sl_kernel_rfl) (h := rfl) (h1 := by decide)
def w_v45 : FVec Ideal S8x1x2x128 .f32 := V m c main_v45
theorem w_v45_eq : w_v45 m c = (broadcastInDim S8x1x2x128 ![0, 2, 3] bcast_S8x2x128_S8x1x2x128_0_2_3) (w_v44 m c) := line.unary _ 65 main_v44 main_v45 (broadcastInDim S8x1x2x128 ![0, 2, 3] bcast_S8x2x128_S8x1x2x128_0_2_3 : FVec Ideal S8x2x128 .f32 → FVec Ideal S8x1x2x128 .f32) (hop := by sl_kernel_rfl) (h := rfl) (h1 := by decide)
def w_v46 : FVec Ideal S8x2048x2x128 .f32 := V m c main_v46
theorem w_v46_eq : w_v46 m c = (broadcastInDim S8x2048x2x128 ![0, 1, 2, 3] bcast_S8x1x2x128_S8x2048x2x128_0_1_2_3) (w_v45 m c) := line.unary _ 66 main_v45 main_v46 (broadcastInDim S8x2048x2x128 ![0, 1, 2, 3] bcast_S8x1x2x128_S8x2048x2x128_0_1_2_3 : FVec Ideal S8x1x2x128 .f32 → FVec Ideal S8x2048x2x128 .f32) (hop := by sl_kernel_rfl) (h := rfl) (h1 := by decide)
def w_v47 : FVec Ideal S8x2048x2x128 .f32 := V m c main_v47
theorem w_v47_eq : w_v47 m c = (subf) (w_v39 m c) (w_v46 m c) := line.binary _ 67 main_v39 main_v46 main_v47 (subf : FVec Ideal S8x2048x2x128 .f32 → FVec Ideal S8x2048x2x128 .f32 → FVec Ideal S8x2048x2x128 .f32) (hop := by sl_kernel_rfl) (h := rfl) (h1 := by decide) (h2 := by decide)
def w_v48 : FVec Ideal S8x32x64x2x128 .f32 := V m c main_v48
theorem w_v48_eq : w_v48 m c = (fun u => shapeCast S8x32x64x2x128 u shapeCasts_S8x2048x2x128_S8x32x64x2x128) (w_v47 m c) := line.reshape _ 68 main_v47 main_v48 rfl shapeCasts_S8x2048x2x128_S8x32x64x2x128 (hop := by sl_kernel_rfl) (h := rfl) (h1 := by decide)
def w_v49 : FVec Ideal S8x32x64x2x128 .f32 := V m c main_v49
theorem w_v49_eq : w_v49 m c = (Host.absf) (w_v48 m c) := line.unary _ 69 main_v48 main_v49 (Host.absf : FVec Ideal S8x32x64x2x128 .f32 → FVec Ideal S8x32x64x2x128 .f32) (hop := by sl_kernel_rfl) (h := rfl) (h1 := by decide)
def w_cst_12 : FVec Ideal S_ .f32 := V m c main_cst_12
theorem w_cst_12_eq : w_cst_12 m c = (constant S_ .f32 0xFF800000#32) := line.nullary _ 70 main_cst_12 (constant S_ .f32 0xFF800000#32 : FVec Ideal S_ .f32) (hop := by sl_kernel_rfl) (h := rfl)
def w_v50 : FVec Ideal S8x32x2 .f32 := V m c main_v50
theorem w_v50_eq : w_v50 m c = ((fun x v => Host.reduce FloatOps.maximumf x v reducesTo_S8x32x64x2x128_S8x32x2_d2_4 h_S_)) (w_v49 m c) (w_cst_12 m c) := line.binary _ 71 main_v49 main_cst_12 main_v50 ((fun x v => Host.reduce FloatOps.maximumf x v reducesTo_S8x32x64x2x128_S8x32x2_d2_4 h_S_) : FVec Ideal S8x32x64x2x128 .f32 → FVec Ideal S_ .f32 → FVec Ideal S8x32x2 .f32) (hop := by sl_kernel_rfl) (h := rfl) (h1 := by decide) (h2 := by decide)
def w_v51 : FVec Ideal S8x32x1x2x1 .f32 := V m c main_v51
theorem w_v51_eq : w_v51 m c = (broadcastInDim S8x32x1x2x1 ![0, 1, 3] bcast_S8x32x2_S8x32x1x2x1_0_1_3) (w_v50 m c) := line.unary _ 72 main_v50 main_v51 (broadcastInDim S8x32x1x2x1 ![0, 1, 3] bcast_S8x32x2_S8x32x1x2x1_0_1_3 : FVec Ideal S8x32x2 .f32 → FVec Ideal S8x32x1x2x1 .f32) (hop := by sl_kernel_rfl) (h := rfl) (h1 := by decide)
def w_cst_13 : FVec Ideal S_ .f32 := V m c main_cst_13
theorem w_cst_13_eq : w_cst_13 m c = (constant S_ .f32 0x3B124925#32) := line.nullary _ 73 main_cst_13 (constant S_ .f32 0x3B124925#32 : FVec Ideal S_ .f32) (hop := by sl_kernel_rfl) (h := rfl)
def w_v52 : FVec Ideal S8x32x1x2x1 .f32 := V m c main_v52
theorem w_v52_eq : w_v52 m c = (broadcastInDim S8x32x1x2x1 ![] bcast_S_S8x32x1x2x1) (w_cst_13 m c) := line.unary _ 74 main_cst_13 main_v52 (broadcastInDim S8x32x1x2x1 ![] bcast_S_S8x32x1x2x1 : FVec Ideal S_ .f32 → FVec Ideal S8x32x1x2x1 .f32) (hop := by sl_kernel_rfl) (h := rfl) (h1 := by decide)
def w_v53 : FVec Ideal S8x32x1x2x1 .f32 := V m c main_v53
theorem w_v53_eq : w_v53 m c = (mulf) (w_v51 m c) (w_v52 m c) := line.binary _ 75 main_v51 main_v52 main_v53 (mulf : FVec Ideal S8x32x1x2x1 .f32 → FVec Ideal S8x32x1x2x1 .f32 → FVec Ideal S8x32x1x2x1 .f32) (hop := by sl_kernel_rfl) (h := rfl) (h1 := by decide) (h2 := by decide)
def w_cst_14 : FVec Ideal S_ .f32 := V m c main_cst_14
theorem w_cst_14_eq : w_cst_14 m c = (constant S_ .f32 0x40000000#32) := line.nullary _ 76 main_cst_14 (constant S_ .f32 0x40000000#32 : FVec Ideal S_ .f32) (hop := by sl_kernel_rfl) (h := rfl)
def w_v54 : FVec Ideal S_ .f32 := V m c main_v54
theorem w_v54_eq : w_v54 m c = (Host.log) (w_cst_14 m c) := line.unary _ 77 main_cst_14 main_v54 (Host.log : FVec Ideal S_ .f32 → FVec Ideal S_ .f32) (hop := by sl_kernel_rfl) (h := rfl) (h1 := by decide)
def w_v55 : FVec Ideal S8x32x1x2x1 .f32 := V m c main_v55
theorem w_v55_eq : w_v55 m c = (Host.log) (w_v53 m c) := line.unary _ 78 main_v53 main_v55 (Host.log : FVec Ideal S8x32x1x2x1 .f32 → FVec Ideal S8x32x1x2x1 .f32) (hop := by sl_kernel_rfl) (h := rfl) (h1 := by decide)
def w_v56 : FVec Ideal S8x32x1x2x1 .f32 := V m c main_v56
theorem w_v56_eq : w_v56 m c = (broadcastInDim S8x32x1x2x1 ![] bcast_S_S8x32x1x2x1) (w_v54 m c) := line.unary _ 79 main_v54 main_v56 (broadcastInDim S8x32x1x2x1 ![] bcast_S_S8x32x1x2x1 : FVec Ideal S_ .f32 → FVec Ideal S8x32x1x2x1 .f32) (hop := by sl_kernel_rfl) (h := rfl) (h1 := by decide)
def w_v57 : FVec Ideal S8x32x1x2x1 .f32 := V m c main_v57
theorem w_v57_eq : w_v57 m c = (Host.divf) (w_v55 m c) (w_v56 m c) := line.binary _ 80 main_v55 main_v56 main_v57 (Host.divf : FVec Ideal S8x32x1x2x1 .f32 → FVec Ideal S8x32x1x2x1 .f32 → FVec Ideal S8x32x1x2x1 .f32) (hop := by sl_kernel_rfl) (h := rfl) (h1 := by decide) (h2 := by decide)
def w_v58 : FVec Ideal S8x32x1x2x1 .f32 := V m c main_v58
theorem w_v58_eq : w_v58 m c = (Host.floor) (w_v57 m c) := line.unary _ 81 main_v57 main_v58 (Host.floor : FVec Ideal S8x32x1x2x1 .f32 → FVec Ideal S8x32x1x2x1 .f32) (hop := by sl_kernel_rfl) (h := rfl) (h1 := by decide)
def w_cst_15 : FVec Ideal S_ .f32 := V m c main_cst_15
theorem w_cst_15_eq : w_cst_15 m c = (constant S_ .f32 0x3F800000#32) := line.nullary _ 82 main_cst_15 (constant S_ .f32 0x3F800000#32 : FVec Ideal S_ .f32) (hop := by sl_kernel_rfl) (h := rfl)
def w_v59 : FVec Ideal S8x32x1x2x1 .f32 := V m c main_v59
theorem w_v59_eq : w_v59 m c = (broadcastInDim S8x32x1x2x1 ![] bcast_S_S8x32x1x2x1) (w_cst_15 m c) := line.unary _ 83 main_cst_15 main_v59 (broadcastInDim S8x32x1x2x1 ![] bcast_S_S8x32x1x2x1 : FVec Ideal S_ .f32 → FVec Ideal S8x32x1x2x1 .f32) (hop := by sl_kernel_rfl) (h := rfl) (h1 := by decide)
def w_v60 : FVec Ideal S8x32x1x2x1 .f32 := V m c main_v60
theorem w_v60_eq : w_v60 m c = (addf) (w_v58 m c) (w_v59 m c) := line.binary _ 84 main_v58 main_v59 main_v60 (addf : FVec Ideal S8x32x1x2x1 .f32 → FVec Ideal S8x32x1x2x1 .f32 → FVec Ideal S8x32x1x2x1 .f32) (hop := by sl_kernel_rfl) (h := rfl) (h1 := by decide) (h2 := by decide)
def w_cst_16 : FVec Ideal S_ .f32 := V m c main_cst_16
theorem w_cst_16_eq : w_cst_16 m c = (constant S_ .f32 0x00800000#32) := line.nullary _ 85 main_cst_16 (constant S_ .f32 0x00800000#32 : FVec Ideal S_ .f32) (hop := by sl_kernel_rfl) (h := rfl)
def w_v61 : FVec Ideal S8x32x1x2x1 .f32 := V m c main_v61
theorem w_v61_eq : w_v61 m c = (broadcastInDim S8x32x1x2x1 ![] bcast_S_S8x32x1x2x1) (w_cst_16 m c) := line.unary _ 86 main_cst_16 main_v61 (broadcastInDim S8x32x1x2x1 ![] bcast_S_S8x32x1x2x1 : FVec Ideal S_ .f32 → FVec Ideal S8x32x1x2x1 .f32) (hop := by sl_kernel_rfl) (h := rfl) (h1 := by decide)
def w_v62 : IVec S8x32x1x2x1 1 := V m c main_v62
theorem w_v62_eq : w_v62 m c = (cmpf .olt) (w_v53 m c) (w_v61 m c) := line.binary _ 87 main_v53 main_v61 main_v62 (cmpf .olt : FVec Ideal S8x32x1x2x1 .f32 → FVec Ideal S8x32x1x2x1 .f32 → IVec S8x32x1x2x1 1) (hop := by sl_kernel_rfl) (h := rfl) (h1 := by decide) (h2 := by decide)
def w_cst_17 : FVec Ideal S_ .f32 := V m c main_cst_17
theorem w_cst_17_eq : w_cst_17 m c = (constant S_ .f32 0x7E800000#32) := line.nullary _ 88 main_cst_17 (constant S_ .f32 0x7E800000#32 : FVec Ideal S_ .f32) (hop := by sl_kernel_rfl) (h := rfl)
def w_v63 : FVec Ideal S8x32x1x2x1 .f32 := V m c main_v63
theorem w_v63_eq : w_v63 m c = (broadcastInDim S8x32x1x2x1 ![] bcast_S_S8x32x1x2x1) (w_cst_17 m c) := line.unary _ 89 main_cst_17 main_v63 (broadcastInDim S8x32x1x2x1 ![] bcast_S_S8x32x1x2x1 : FVec Ideal S_ .f32 → FVec Ideal S8x32x1x2x1 .f32) (hop := by sl_kernel_rfl) (h := rfl) (h1 := by decide)
def w_v64 : IVec S8x32x1x2x1 1 := V m c main_v64
theorem w_v64_eq : w_v64 m c = (cmpf .oge) (w_v53 m c) (w_v63 m c) := line.binary _ 90 main_v53 main_v63 main_v64 (cmpf .oge : FVec Ideal S8x32x1x2x1 .f32 → FVec Ideal S8x32x1x2x1 .f32 → IVec S8x32x1x2x1 1) (hop := by sl_kernel_rfl) (h := rfl) (h1 := by decide) (h2 := by decide)
def w_v65 : IVec S8x32x1x2x1 1 := V m c main_v65
theorem w_v65_eq : w_v65 m c = (ori) (w_v62 m c) (w_v64 m c) := line.binary _ 91 main_v62 main_v64 main_v65 (ori : IVec S8x32x1x2x1 1 → IVec S8x32x1x2x1 1 → IVec S8x32x1x2x1 1) (hop := by sl_kernel_rfl) (h := rfl) (h1 := by decide) (h2 := by decide)
def w_cst_18 : FVec Ideal S_ .f32 := V m c main_cst_18
theorem w_cst_18_eq : w_cst_18 m c = (constant S_ .f32 0x00000000#32) := line.nullary _ 92 main_cst_18 (constant S_ .f32 0x00000000#32 : FVec Ideal S_ .f32) (hop := by sl_kernel_rfl) (h := rfl)
def w_call2_v0 : FVec Ideal S_ .f32 := V m c main_call2_v0
theorem w_call2_v0_eq : w_call2_v0 m c = id (w_cst_18 m c) := line.unary _ 93 main_cst_18 main_call2_v0 (id : FVec Ideal S_ .f32 → FVec Ideal S_ .f32) (hop := by sl_kernel_rfl) (h := rfl) (h1 := by decide)
def w_call2_v1 : FVec Ideal S8x32x1x2x1 .f32 := V m c main_call2_v1
theorem w_call2_v1_eq : w_call2_v1 m c = (broadcastInDim S8x32x1x2x1 ![] bcast_S_S8x32x1x2x1) (w_call2_v0 m c) := line.unary _ 94 main_call2_v0 main_call2_v1 (broadcastInDim S8x32x1x2x1 ![] bcast_S_S8x32x1x2x1 : FVec Ideal S_ .f32 → FVec Ideal S8x32x1x2x1 .f32) (hop := by sl_kernel_rfl) (h := rfl) (h1 := by decide)
def w_v66 : FVec Ideal S8x32x1x2x1 .f32 := V m c main_v66
theorem w_v66_eq : w_v66 m c = select (w_v65 m c) (w_call2_v1 m c) (w_v60 m c) := line.ternary _ 95 main_v65 main_call2_v1 main_v60 main_v66 (select : IVec S8x32x1x2x1 1 → FVec Ideal S8x32x1x2x1 .f32 → FVec Ideal S8x32x1x2x1 .f32 → FVec Ideal S8x32x1x2x1 .f32) (hop := by sl_kernel_rfl) (h := rfl) (h0 := by decide) (h1 := by decide) (h2 := by decide)
def w_v67 : FVec Ideal S8x32x1x2x1 .f32 := V m c main_v67
theorem w_v67_eq : w_v67 m c = (Host.negf) (w_v66 m c) := line.unary _ 96 main_v66 main_v67 (Host.negf : FVec Ideal S8x32x1x2x1 .f32 → FVec Ideal S8x32x1x2x1 .f32) (hop := by sl_kernel_rfl) (h := rfl) (h1 := by decide)
def w_v68 : FVec Ideal S8x32x1x2x1 .f32 := V m c main_v68
theorem w_v68_eq : w_v68 m c = (broadcastInDim S8x32x1x2x1 ![] bcast_S_S8x32x1x2x1) (w_v54 m c) := line.unary _ 97 main_v54 main_v68 (broadcastInDim S8x32x1x2x1 ![] bcast_S_S8x32x1x2x1 : FVec Ideal S_ .f32 → FVec Ideal S8x32x1x2x1 .f32) (hop := by sl_kernel_rfl) (h := rfl) (h1 := by decide)
def w_v69 : FVec Ideal S8x32x1x2x1 .f32 := V m c main_v69
theorem w_v69_eq : w_v69 m c = (mulf) (w_v67 m c) (w_v68 m c) := line.binary _ 98 main_v67 main_v68 main_v69 (mulf : FVec Ideal S8x32x1x2x1 .f32 → FVec Ideal S8x32x1x2x1 .f32 → FVec Ideal S8x32x1x2x1 .f32) (hop := by sl_kernel_rfl) (h := rfl) (h1 := by decide) (h2 := by decide)
def w_v70 : FVec Ideal S8x32x1x2x1 .f32 := V m c main_v70
theorem w_v70_eq : w_v70 m c = (Host.exp) (w_v69 m c) := line.unary _ 99 main_v69 main_v70 (Host.exp : FVec Ideal S8x32x1x2x1 .f32 → FVec Ideal S8x32x1x2x1 .f32) (hop := by sl_kernel_rfl) (h := rfl) (h1 := by decide)
def w_v71 : FVec Ideal S8x32x64x2x128 .f32 := V m c main_v71
theorem w_v71_eq : w_v71 m c = (broadcastInDim S8x32x64x2x128 ![0, 1, 2, 3, 4] bcast_S8x32x1x2x1_S8x32x64x2x128_0_1_2_3_4) (w_v70 m c) := line.unary _ 100 main_v70 main_v71 (broadcastInDim S8x32x64x2x128 ![0, 1, 2, 3, 4] bcast_S8x32x1x2x1_S8x32x64x2x128_0_1_2_3_4 : FVec Ideal S8x32x1x2x1 .f32 → FVec Ideal S8x32x64x2x128 .f32) (hop := by sl_kernel_rfl) (h := rfl) (h1 := by decide)
def w_v72 : FVec Ideal S8x32x64x2x128 .f32 := V m c main_v72
theorem w_v72_eq : w_v72 m c = (mulf) (w_v48 m c) (w_v71 m c) := line.binary _ 101 main_v48 main_v71 main_v72 (mulf : FVec Ideal S8x32x64x2x128 .f32 → FVec Ideal S8x32x64x2x128 .f32 → FVec Ideal S8x32x64x2x128 .f32) (hop := by sl_kernel_rfl) (h := rfl) (h1 := by decide) (h2 := by decide)
def w_cst_19 : FVec Ideal S_ .f32 := V m c main_cst_19
theorem w_cst_19_eq : w_cst_19 m c = (constant S_ .f32 0xC3E00000#32) := line.nullary _ 102 main_cst_19 (constant S_ .f32 0xC3E00000#32 : FVec Ideal S_ .f32) (hop := by sl_kernel_rfl) (h := rfl)
def w_cst_20 : FVec Ideal S_ .f32 := V m c main_cst_20
theorem w_cst_20_eq : w_cst_20 m c = (constant S_ .f32 0x43E00000#32) := line.nullary _ 103 main_cst_20 (constant S_ .f32 0x43E00000#32 : FVec Ideal S_ .f32) (hop := by sl_kernel_rfl) (h := rfl)
def w_call3_v0 : FVec Ideal S_ .f32 := V m c main_call3_v0
theorem w_call3_v0_eq : w_call3_v0 m c = id (w_cst_19 m c) := line.unary _ 104 main_cst_19 main_call3_v0 (id : FVec Ideal S_ .f32 → FVec Ideal S_ .f32) (hop := by sl_kernel_rfl) (h := rfl) (h1 := by decide)
def w_call3_v1 : FVec Ideal S8x32x64x2x128 .f32 := V m c main_call3_v1
theorem w_call3_v1_eq : w_call3_v1 m c = (broadcastInDim S8x32x64x2x128 ![] bcast_S_S8x32x64x2x128) (w_call3_v0 m c) := line.unary _ 105 main_call3_v0 main_call3_v1 (broadcastInDim S8x32x64x2x128 ![] bcast_S_S8x32x64x2x128 : FVec Ideal S_ .f32 → FVec Ideal S8x32x64x2x128 .f32) (hop := by sl_kernel_rfl) (h := rfl) (h1 := by decide)
def w_call3_v2 : FVec Ideal S8x32x64x2x128 .f32 := V m c main_call3_v2
theorem w_call3_v2_eq : w_call3_v2 m c = maximumf (w_call3_v1 m c) (w_v72 m c) := line.binary _ 106 main_call3_v1 main_v72 main_call3_v2 (maximumf : FVec Ideal S8x32x64x2x128 .f32 → FVec Ideal S8x32x64x2x128 .f32 → FVec Ideal S8x32x64x2x128 .f32) (hop := by sl_kernel_rfl) (h := rfl) (h1 := by decide) (h2 := by decide)
def w_call3_v3 : FVec Ideal S_ .f32 := V m c main_call3_v3
theorem w_call3_v3_eq : w_call3_v3 m c = id (w_cst_20 m c) := line.unary _ 107 main_cst_20 main_call3_v3 (id : FVec Ideal S_ .f32 → FVec Ideal S_ .f32) (hop := by sl_kernel_rfl) (h := rfl) (h1 := by decide)
def w_call3_v4 : FVec Ideal S8x32x64x2x128 .f32 := V m c main_call3_v4
theorem w_call3_v4_eq : w_call3_v4 m c = (broadcastInDim S8x32x64x2x128 ![] bcast_S_S8x32x64x2x128) (w_call3_v3 m c) := line.unary _ 108 main_call3_v3 main_call3_v4 (broadcastInDim S8x32x64x2x128 ![] bcast_S_S8x32x64x2x128 : FVec Ideal S_ .f32 → FVec Ideal S8x32x64x2x128 .f32) (hop := by sl_kernel_rfl) (h := rfl) (h1 := by decide)
def w_v73 : FVec Ideal S8x32x64x2x128 .f32 := V m c main_v73
theorem w_v73_eq : w_v73 m c = minimumf (w_call3_v4 m c) (w_call3_v2 m c) := line.binary _ 109 main_call3_v4 main_call3_v2 main_v73 (minimumf : FVec Ideal S8x32x64x2x128 .f32 → FVec Ideal S8x32x64x2x128 .f32 → FVec Ideal S8x32x64x2x128 .f32) (hop := by sl_kernel_rfl) (h := rfl) (h1 := by decide) (h2 := by decide)
def w_v74 : FVec Ideal S8x32x1x2x1 .f32 := V m c main_v74
theorem w_v74_eq : w_v74 m c = (broadcastInDim S8x32x1x2x1 ![] bcast_S_S8x32x1x2x1) (w_v54 m c) := line.unary _ 110 main_v54 main_v74 (broadcastInDim S8x32x1x2x1 ![] bcast_S_S8x32x1x2x1 : FVec Ideal S_ .f32 → FVec Ideal S8x32x1x2x1 .f32) (hop := by sl_kernel_rfl) (h := rfl) (h1 := by decide)
def w_v75 : FVec Ideal S8x32x1x2x1 .f32 := V m c main_v75
theorem w_v75_eq : w_v75 m c = (mulf) (w_v66 m c) (w_v74 m c) := line.binary _ 111 main_v66 main_v74 main_v75 (mulf : FVec Ideal S8x32x1x2x1 .f32 → FVec Ideal S8x32x1x2x1 .f32 → FVec Ideal S8x32x1x2x1 .f32) (hop := by sl_kernel_rfl) (h := rfl) (h1 := by decide) (h2 := by decide)
def w_v76 : FVec Ideal S8x32x1x2x1 .f32 := V m c main_v76
theorem w_v76_eq : w_v76 m c = (Host.exp) (w_v75 m c) := line.unary _ 112 main_v75 main_v76 (Host.exp : FVec Ideal S8x32x1x2x1 .f32 → FVec Ideal S8x32x1x2x1 .f32) (hop := by sl_kernel_rfl) (h := rfl) (h1 := by decide)
def w_v77 : FVec Ideal S8x2048x256 .f32 := V m c main_v77
theorem w_v77_eq : w_v77 m c = ((extf .f32 · bitsLt_bf16_f32)) (w_arg2 m c) := line.unary _ 113 main_arg2 main_v77 ((extf .f32 · bitsLt_bf16_f32) : FVec Ideal S8x2048x256 .bf16 → FVec Ideal S8x2048x256 .f32) (hop := by sl_kernel_rfl) (h := rfl) (h1 := by decide)
def w_v78 : FVec Ideal S8x2048x2x128 .f32 := V m c main_v78
theorem w_v78_eq : w_v78 m c = (fun u => shapeCast S8x2048x2x128 u shapeCasts_S8x2048x256_S8x2048x2x128) (w_v77 m c) := line.reshape _ 114 main_v77 main_v78 rfl shapeCasts_S8x2048x256_S8x2048x2x128 (hop := by sl_kernel_rfl) (h := rfl) (h1 := by decide)
def w_v79 : FVec Ideal S8x2048x2x128 .f32 := V m c main_v79
theorem w_v79_eq : w_v79 m c = (Host.absf) (w_v78 m c) := line.unary _ 115 main_v78 main_v79 (Host.absf : FVec Ideal S8x2048x2x128 .f32 → FVec Ideal S8x2048x2x128 .f32) (hop := by sl_kernel_rfl) (h := rfl) (h1 := by decide)
def w_cst_21 : FVec Ideal S_ .f32 := V m c main_cst_21
theorem w_cst_21_eq : w_cst_21 m c = (constant S_ .f32 0xFF800000#32) := line.nullary _ 116 main_cst_21 (constant S_ .f32 0xFF800000#32 : FVec Ideal S_ .f32) (hop := by sl_kernel_rfl) (h := rfl)
def w_v80 : FVec Ideal S8x2x128 .f32 := V m c main_v80
theorem w_v80_eq : w_v80 m c = ((fun x v => Host.reduce FloatOps.maximumf x v reducesTo_S8x2048x2x128_S8x2x128_d1 h_S_)) (w_v79 m c) (w_cst_21 m c) := line.binary _ 117 main_v79 main_cst_21 main_v80 ((fun x v => Host.reduce FloatOps.maximumf x v reducesTo_S8x2048x2x128_S8x2x128_d1 h_S_) : FVec Ideal S8x2048x2x128 .f32 → FVec Ideal S_ .f32 → FVec Ideal S8x2x128 .f32) (hop := by sl_kernel_rfl) (h := rfl) (h1 := by decide) (h2 := by decide)
def w_v81 : FVec Ideal S8x1x2x128 .f32 := V m c main_v81
theorem w_v81_eq : w_v81 m c = (broadcastInDim S8x1x2x128 ![0, 2, 3] bcast_S8x2x128_S8x1x2x128_0_2_3) (w_v80 m c) := line.unary _ 118 main_v80 main_v81 (broadcastInDim S8x1x2x128 ![0, 2, 3] bcast_S8x2x128_S8x1x2x128_0_2_3 : FVec Ideal S8x2x128 .f32 → FVec Ideal S8x1x2x128 .f32) (hop := by sl_kernel_rfl) (h := rfl) (h1 := by decide)
def w_cst_22 : FVec Ideal S_ .f32 := V m c main_cst_22
theorem w_cst_22_eq : w_cst_22 m c = (constant S_ .f32 0x3B124925#32) := line.nullary _ 119 main_cst_22 (constant S_ .f32 0x3B124925#32 : FVec Ideal S_ .f32) (hop := by sl_kernel_rfl) (h := rfl)
def w_v82 : FVec Ideal S8x1x2x128 .f32 := V m c main_v82
theorem w_v82_eq : w_v82 m c = (broadcastInDim S8x1x2x128 ![] bcast_S_S8x1x2x128) (w_cst_22 m c) := line.unary _ 120 main_cst_22 main_v82 (broadcastInDim S8x1x2x128 ![] bcast_S_S8x1x2x128 : FVec Ideal S_ .f32 → FVec Ideal S8x1x2x128 .f32) (hop := by sl_kernel_rfl) (h := rfl) (h1 := by decide)
def w_v83 : FVec Ideal S8x1x2x128 .f32 := V m c main_v83
theorem w_v83_eq : w_v83 m c = (mulf) (w_v81 m c) (w_v82 m c) := line.binary _ 121 main_v81 main_v82 main_v83 (mulf : FVec Ideal S8x1x2x128 .f32 → FVec Ideal S8x1x2x128 .f32 → FVec Ideal S8x1x2x128 .f32) (hop := by sl_kernel_rfl) (h := rfl) (h1 := by decide) (h2 := by decide)
def w_cst_23 : FVec Ideal S_ .f32 := V m c main_cst_23
theorem w_cst_23_eq : w_cst_23 m c = (constant S_ .f32 0x40000000#32) := line.nullary _ 122 main_cst_23 (constant S_ .f32 0x40000000#32 : FVec Ideal S_ .f32) (hop := by sl_kernel_rfl) (h := rfl)
def w_v84 : FVec Ideal S_ .f32 := V m c main_v84
theorem w_v84_eq : w_v84 m c = (Host.log) (w_cst_23 m c) := line.unary _ 123 main_cst_23 main_v84 (Host.log : FVec Ideal S_ .f32 → FVec Ideal S_ .f32) (hop := by sl_kernel_rfl) (h := rfl) (h1 := by decide)
def w_v85 : FVec Ideal S8x1x2x128 .f32 := V m c main_v85
theorem w_v85_eq : w_v85 m c = (Host.log) (w_v83 m c) := line.unary _ 124 main_v83 main_v85 (Host.log : FVec Ideal S8x1x2x128 .f32 → FVec Ideal S8x1x2x128 .f32) (hop := by sl_kernel_rfl) (h := rfl) (h1 := by decide)
def w_v86 : FVec Ideal S8x1x2x128 .f32 := V m c main_v86
theorem w_v86_eq : w_v86 m c = (broadcastInDim S8x1x2x128 ![] bcast_S_S8x1x2x128) (w_v84 m c) := line.unary _ 125 main_v84 main_v86 (broadcastInDim S8x1x2x128 ![] bcast_S_S8x1x2x128 : FVec Ideal S_ .f32 → FVec Ideal S8x1x2x128 .f32) (hop := by sl_kernel_rfl) (h := rfl) (h1 := by decide)
def w_v87 : FVec Ideal S8x1x2x128 .f32 := V m c main_v87
theorem w_v87_eq : w_v87 m c = (Host.divf) (w_v85 m c) (w_v86 m c) := line.binary _ 126 main_v85 main_v86 main_v87 (Host.divf : FVec Ideal S8x1x2x128 .f32 → FVec Ideal S8x1x2x128 .f32 → FVec Ideal S8x1x2x128 .f32) (hop := by sl_kernel_rfl) (h := rfl) (h1 := by decide) (h2 := by decide)
def w_v88 : FVec Ideal S8x1x2x128 .f32 := V m c main_v88
theorem w_v88_eq : w_v88 m c = (Host.floor) (w_v87 m c) := line.unary _ 127 main_v87 main_v88 (Host.floor : FVec Ideal S8x1x2x128 .f32 → FVec Ideal S8x1x2x128 .f32) (hop := by sl_kernel_rfl) (h := rfl) (h1 := by decide)
def w_cst_24 : FVec Ideal S_ .f32 := V m c main_cst_24
theorem w_cst_24_eq : w_cst_24 m c = (constant S_ .f32 0x3F800000#32) := line.nullary _ 128 main_cst_24 (constant S_ .f32 0x3F800000#32 : FVec Ideal S_ .f32) (hop := by sl_kernel_rfl) (h := rfl)
def w_v89 : FVec Ideal S8x1x2x128 .f32 := V m c main_v89
theorem w_v89_eq : w_v89 m c = (broadcastInDim S8x1x2x128 ![] bcast_S_S8x1x2x128) (w_cst_24 m c) := line.unary _ 129 main_cst_24 main_v89 (broadcastInDim S8x1x2x128 ![] bcast_S_S8x1x2x128 : FVec Ideal S_ .f32 → FVec Ideal S8x1x2x128 .f32) (hop := by sl_kernel_rfl) (h := rfl) (h1 := by decide)
def w_v90 : FVec Ideal S8x1x2x128 .f32 := V m c main_v90
theorem w_v90_eq : w_v90 m c = (addf) (w_v88 m c) (w_v89 m c) := line.binary _ 130 main_v88 main_v89 main_v90 (addf : FVec Ideal S8x1x2x128 .f32 → FVec Ideal S8x1x2x128 .f32 → FVec Ideal S8x1x2x128 .f32) (hop := by sl_kernel_rfl) (h := rfl) (h1 := by decide) (h2 := by decide)
def w_cst_25 : FVec Ideal S_ .f32 := V m c main_cst_25
theorem w_cst_25_eq : w_cst_25 m c = (constant S_ .f32 0x00800000#32) := line.nullary _ 131 main_cst_25 (constant S_ .f32 0x00800000#32 : FVec Ideal S_ .f32) (hop := by sl_kernel_rfl) (h := rfl)
def w_v91 : FVec Ideal S8x1x2x128 .f32 := V m c main_v91
theorem w_v91_eq : w_v91 m c = (broadcastInDim S8x1x2x128 ![] bcast_S_S8x1x2x128) (w_cst_25 m c) := line.unary _ 132 main_cst_25 main_v91 (broadcastInDim S8x1x2x128 ![] bcast_S_S8x1x2x128 : FVec Ideal S_ .f32 → FVec Ideal S8x1x2x128 .f32) (hop := by sl_kernel_rfl) (h := rfl) (h1 := by decide)
def w_v92 : IVec S8x1x2x128 1 := V m c main_v92
theorem w_v92_eq : w_v92 m c = (cmpf .olt) (w_v83 m c) (w_v91 m c) := line.binary _ 133 main_v83 main_v91 main_v92 (cmpf .olt : FVec Ideal S8x1x2x128 .f32 → FVec Ideal S8x1x2x128 .f32 → IVec S8x1x2x128 1) (hop := by sl_kernel_rfl) (h := rfl) (h1 := by decide) (h2 := by decide)
def w_cst_26 : FVec Ideal S_ .f32 := V m c main_cst_26
theorem w_cst_26_eq : w_cst_26 m c = (constant S_ .f32 0x7E800000#32) := line.nullary _ 134 main_cst_26 (constant S_ .f32 0x7E800000#32 : FVec Ideal S_ .f32) (hop := by sl_kernel_rfl) (h := rfl)
def w_v93 : FVec Ideal S8x1x2x128 .f32 := V m c main_v93
theorem w_v93_eq : w_v93 m c = (broadcastInDim S8x1x2x128 ![] bcast_S_S8x1x2x128) (w_cst_26 m c) := line.unary _ 135 main_cst_26 main_v93 (broadcastInDim S8x1x2x128 ![] bcast_S_S8x1x2x128 : FVec Ideal S_ .f32 → FVec Ideal S8x1x2x128 .f32) (hop := by sl_kernel_rfl) (h := rfl) (h1 := by decide)
def w_v94 : IVec S8x1x2x128 1 := V m c main_v94
theorem w_v94_eq : w_v94 m c = (cmpf .oge) (w_v83 m c) (w_v93 m c) := line.binary _ 136 main_v83 main_v93 main_v94 (cmpf .oge : FVec Ideal S8x1x2x128 .f32 → FVec Ideal S8x1x2x128 .f32 → IVec S8x1x2x128 1) (hop := by sl_kernel_rfl) (h := rfl) (h1 := by decide) (h2 := by decide)
def w_v95 : IVec S8x1x2x128 1 := V m c main_v95
theorem w_v95_eq : w_v95 m c = (ori) (w_v92 m c) (w_v94 m c) := line.binary _ 137 main_v92 main_v94 main_v95 (ori : IVec S8x1x2x128 1 → IVec S8x1x2x128 1 → IVec S8x1x2x128 1) (hop := by sl_kernel_rfl) (h := rfl) (h1 := by decide) (h2 := by decide)
def w_cst_27 : FVec Ideal S_ .f32 := V m c main_cst_27
theorem w_cst_27_eq : w_cst_27 m c = (constant S_ .f32 0x00000000#32) := line.nullary _ 138 main_cst_27 (constant S_ .f32 0x00000000#32 : FVec Ideal S_ .f32) (hop := by sl_kernel_rfl) (h := rfl)
def w_call4_v0 : FVec Ideal S_ .f32 := V m c main_call4_v0
theorem w_call4_v0_eq : w_call4_v0 m c = id (w_cst_27 m c) := line.unary _ 139 main_cst_27 main_call4_v0 (id : FVec Ideal S_ .f32 → FVec Ideal S_ .f32) (hop := by sl_kernel_rfl) (h := rfl) (h1 := by decide)
def w_call4_v1 : FVec Ideal S8x1x2x128 .f32 := V m c main_call4_v1
theorem w_call4_v1_eq : w_call4_v1 m c = (broadcastInDim S8x1x2x128 ![] bcast_S_S8x1x2x128) (w_call4_v0 m c) := line.unary _ 140 main_call4_v0 main_call4_v1 (broadcastInDim S8x1x2x128 ![] bcast_S_S8x1x2x128 : FVec Ideal S_ .f32 → FVec Ideal S8x1x2x128 .f32) (hop := by sl_kernel_rfl) (h := rfl) (h1 := by decide)
def w_v96 : FVec Ideal S8x1x2x128 .f32 := V m c main_v96
theorem w_v96_eq : w_v96 m c = select (w_v95 m c) (w_call4_v1 m c) (w_v90 m c) := line.ternary _ 141 main_v95 main_call4_v1 main_v90 main_v96 (select : IVec S8x1x2x128 1 → FVec Ideal S8x1x2x128 .f32 → FVec Ideal S8x1x2x128 .f32 → FVec Ideal S8x1x2x128 .f32) (hop := by sl_kernel_rfl) (h := rfl) (h0 := by decide) (h1 := by decide) (h2 := by decide)
def w_v97 : FVec Ideal S8x1x2x128 .f32 := V m c main_v97
theorem w_v97_eq : w_v97 m c = (Host.negf) (w_v96 m c) := line.unary _ 142 main_v96 main_v97 (Host.negf : FVec Ideal S8x1x2x128 .f32 → FVec Ideal S8x1x2x128 .f32) (hop := by sl_kernel_rfl) (h := rfl) (h1 := by decide)
def w_v98 : FVec Ideal S8x1x2x128 .f32 := V m c main_v98
theorem w_v98_eq : w_v98 m c = (broadcastInDim S8x1x2x128 ![] bcast_S_S8x1x2x128) (w_v84 m c) := line.unary _ 143 main_v84 main_v98 (broadcastInDim S8x1x2x128 ![] bcast_S_S8x1x2x128 : FVec Ideal S_ .f32 → FVec Ideal S8x1x2x128 .f32) (hop := by sl_kernel_rfl) (h := rfl) (h1 := by decide)
def w_v99 : FVec Ideal S8x1x2x128 .f32 := V m c main_v99
theorem w_v99_eq : w_v99 m c = (mulf) (w_v97 m c) (w_v98 m c) := line.binary _ 144 main_v97 main_v98 main_v99 (mulf : FVec Ideal S8x1x2x128 .f32 → FVec Ideal S8x1x2x128 .f32 → FVec Ideal S8x1x2x128 .f32) (hop := by sl_kernel_rfl) (h := rfl) (h1 := by decide) (h2 := by decide)
def w_v100 : FVec Ideal S8x1x2x128 .f32 := V m c main_v100
theorem w_v100_eq : w_v100 m c = (Host.exp) (w_v99 m c) := line.unary _ 145 main_v99 main_v100 (Host.exp : FVec Ideal S8x1x2x128 .f32 → FVec Ideal S8x1x2x128 .f32) (hop := by sl_kernel_rfl) (h := rfl) (h1 := by decide)
def w_v101 : FVec Ideal S8x2048x2x128 .f32 := V m c main_v101
theorem w_v101_eq : w_v101 m c = (broadcastInDim S8x2048x2x128 ![0, 1, 2, 3] bcast_S8x1x2x128_S8x2048x2x128_0_1_2_3) (w_v100 m c) := line.unary _ 146 main_v100 main_v101 (broadcastInDim S8x2048x2x128 ![0, 1, 2, 3] bcast_S8x1x2x128_S8x2048x2x128_0_1_2_3 : FVec Ideal S8x1x2x128 .f32 → FVec Ideal S8x2048x2x128 .f32) (hop := by sl_kernel_rfl) (h := rfl) (h1 := by decide)
def w_v102 : FVec Ideal S8x2048x2x128 .f32 := V m c main_v102
theorem w_v102_eq : w_v102 m c = (mulf) (w_v78 m c) (w_v101 m c) := line.binary _ 147 main_v78 main_v101 main_v102 (mulf : FVec Ideal S8x2048x2x128 .f32 → FVec Ideal S8x2048x2x128 .f32 → FVec Ideal S8x2048x2x128 .f32) (hop := by sl_kernel_rfl) (h := rfl) (h1 := by decide) (h2 := by decide)
def w_cst_28 : FVec Ideal S_ .f32 := V m c main_cst_28
theorem w_cst_28_eq : w_cst_28 m c = (constant S_ .f32 0xC3E00000#32) := line.nullary _ 148 main_cst_28 (constant S_ .f32 0xC3E00000#32 : FVec Ideal S_ .f32) (hop := by sl_kernel_rfl) (h := rfl)
def w_cst_29 : FVec Ideal S_ .f32 := V m c main_cst_29
theorem w_cst_29_eq : w_cst_29 m c = (constant S_ .f32 0x43E00000#32) := line.nullary _ 149 main_cst_29 (constant S_ .f32 0x43E00000#32 : FVec Ideal S_ .f32) (hop := by sl_kernel_rfl) (h := rfl)
def w_call5_v0 : FVec Ideal S_ .f32 := V m c main_call5_v0
theorem w_call5_v0_eq : w_call5_v0 m c = id (w_cst_28 m c) := line.unary _ 150 main_cst_28 main_call5_v0 (id : FVec Ideal S_ .f32 → FVec Ideal S_ .f32) (hop := by sl_kernel_rfl) (h := rfl) (h1 := by decide)
def w_call5_v1 : FVec Ideal S8x2048x2x128 .f32 := V m c main_call5_v1
theorem w_call5_v1_eq : w_call5_v1 m c = (broadcastInDim S8x2048x2x128 ![] bcast_S_S8x2048x2x128) (w_call5_v0 m c) := line.unary _ 151 main_call5_v0 main_call5_v1 (broadcastInDim S8x2048x2x128 ![] bcast_S_S8x2048x2x128 : FVec Ideal S_ .f32 → FVec Ideal S8x2048x2x128 .f32) (hop := by sl_kernel_rfl) (h := rfl) (h1 := by decide)
def w_call5_v2 : FVec Ideal S8x2048x2x128 .f32 := V m c main_call5_v2
theorem w_call5_v2_eq : w_call5_v2 m c = maximumf (w_call5_v1 m c) (w_v102 m c) := line.binary _ 152 main_call5_v1 main_v102 main_call5_v2 (maximumf : FVec Ideal S8x2048x2x128 .f32 → FVec Ideal S8x2048x2x128 .f32 → FVec Ideal S8x2048x2x128 .f32) (hop := by sl_kernel_rfl) (h := rfl) (h1 := by decide) (h2 := by decide)
def w_call5_v3 : FVec Ideal S_ .f32 := V m c main_call5_v3
theorem w_call5_v3_eq : w_call5_v3 m c = id (w_cst_29 m c) := line.unary _ 153 main_cst_29 main_call5_v3 (id : FVec Ideal S_ .f32 → FVec Ideal S_ .f32) (hop := by sl_kernel_rfl) (h := rfl) (h1 := by decide)
def w_call5_v4 : FVec Ideal S8x2048x2x128 .f32 := V m c main_call5_v4
theorem w_call5_v4_eq : w_call5_v4 m c = (broadcastInDim S8x2048x2x128 ![] bcast_S_S8x2048x2x128) (w_call5_v3 m c) := line.unary _ 154 main_call5_v3 main_call5_v4 (broadcastInDim S8x2048x2x128 ![] bcast_S_S8x2048x2x128 : FVec Ideal S_ .f32 → FVec Ideal S8x2048x2x128 .f32) (hop := by sl_kernel_rfl) (h := rfl) (h1 := by decide)
def w_v103 : FVec Ideal S8x2048x2x128 .f32 := V m c main_v103
theorem w_v103_eq : w_v103 m c = minimumf (w_call5_v4 m c) (w_call5_v2 m c) := line.binary _ 155 main_call5_v4 main_call5_v2 main_v103 (minimumf : FVec Ideal S8x2048x2x128 .f32 → FVec Ideal S8x2048x2x128 .f32 → FVec Ideal S8x2048x2x128 .f32) (hop := by sl_kernel_rfl) (h := rfl) (h1 := by decide) (h2 := by decide)
def w_v104 : FVec Ideal S8x1x2x128 .f32 := V m c main_v104
theorem w_v104_eq : w_v104 m c = (broadcastInDim S8x1x2x128 ![] bcast_S_S8x1x2x128) (w_v84 m c) := line.unary _ 156 main_v84 main_v104 (broadcastInDim S8x1x2x128 ![] bcast_S_S8x1x2x128 : FVec Ideal S_ .f32 → FVec Ideal S8x1x2x128 .f32) (hop := by sl_kernel_rfl) (h := rfl) (h1 := by decide)
def w_v105 : FVec Ideal S8x1x2x128 .f32 := V m c main_v105
theorem w_v105_eq : w_v105 m c = (mulf) (w_v96 m c) (w_v104 m c) := line.binary _ 157 main_v96 main_v104 main_v105 (mulf : FVec Ideal S8x1x2x128 .f32 → FVec Ideal S8x1x2x128 .f32 → FVec Ideal S8x1x2x128 .f32) (hop := by sl_kernel_rfl) (h := rfl) (h1 := by decide) (h2 := by decide)
def w_v106 : FVec Ideal S8x1x2x128 .f32 := V m c main_v106
theorem w_v106_eq : w_v106 m c = (Host.exp) (w_v105 m c) := line.unary _ 158 main_v105 main_v106 (Host.exp : FVec Ideal S8x1x2x128 .f32 → FVec Ideal S8x1x2x128 .f32) (hop := by sl_kernel_rfl) (h := rfl) (h1 := by decide)
def w_v107 : FVec Ideal S8x2048x2x4x128 .f32 := V m c main_v107
theorem w_v107_eq : w_v107 m c = (fun u => shapeCast S8x2048x2x4x128 u shapeCasts_S8x16x128x8x128_S8x2048x2x4x128) (w_v34 m c) := line.reshape _ 159 main_v34 main_v107 rfl shapeCasts_S8x16x128x8x128_S8x2048x2x4x128 (hop := by sl_kernel_rfl) (h := rfl) (h1 := by decide)
def w_v108 : FVec Ideal S8x2048x2x4 .f32 := V m c main_v108
theorem w_v108_eq : w_v108 m c = (fun u => shapeCast S8x2048x2x4 u shapeCasts_S8x16x128x8x1_S8x2048x2x4) (w_v37 m c) := line.reshape _ 160 main_v37 main_v108 rfl shapeCasts_S8x16x128x8x1_S8x2048x2x4 (hop := by sl_kernel_rfl) (h := rfl) (h1 := by decide)
def w_v109 : FVec Ideal S8x2048x2x128 .f32 := V m c main_v109
theorem w_v109_eq : w_v109 m c = (fun u => shapeCast S8x2048x2x128 u shapeCasts_S8x32x64x2x128_S8x2048x2x128) (w_v73 m c) := line.reshape _ 161 main_v73 main_v109 rfl shapeCasts_S8x32x64x2x128_S8x2048x2x128 (hop := by sl_kernel_rfl) (h := rfl) (h1 := by decide)
def w_v110 : FVec Ideal S8x2x2048x2048x4 .f32 := V m c main_v110
theorem w_v110_eq : w_v110 m c = ((fun l r => Host.dotGeneral dot_S8x2048x2x128_S8x2048x2x4x128_S8x2x2048x2048x4_3_4_1_13_02_02 none l r)) (w_v109 m c) (w_v107 m c) := line.binary _ 162 main_v109 main_v107 main_v110 ((fun l r => Host.dotGeneral dot_S8x2048x2x128_S8x2048x2x4x128_S8x2x2048x2048x4_3_4_1_13_02_02 none l r) : FVec Ideal S8x2048x2x128 .f32 → FVec Ideal S8x2048x2x4x128 .f32 → FVec Ideal S8x2x2048x2048x4 .f32) (hop := by sl_kernel_rfl) (h := rfl) (h1 := by decide) (h2 := by decide)
def w_v111 : FVec Ideal S8x2x4x2048x2048 .f32 := V m c main_v111
theorem w_v111_eq : w_v111 m c = ((transpose S8x2x4x2048x2048 [0, 1, 4, 3, 2] · transposes_S8x2x2048x2048x4_S8x2x4x2048x2048_0_1_4_3_2)) (w_v110 m c) := line.unary _ 163 main_v110 main_v111 ((transpose S8x2x4x2048x2048 [0, 1, 4, 3, 2] · transposes_S8x2x2048x2048x4_S8x2x4x2048x2048_0_1_4_3_2) : FVec Ideal S8x2x2048x2048x4 .f32 → FVec Ideal S8x2x4x2048x2048 .f32) (hop := by sl_kernel_rfl) (h := rfl) (h1 := by decide)
def w_v112 : FVec Ideal S8x16x8x128 .f32 := V m c main_v112
theorem w_v112_eq : w_v112 m c = ((extf .f32 · bitsLt_bf16_f32)) (w_v5 m c) := line.unary _ 164 main_v5 main_v112 ((extf .f32 · bitsLt_bf16_f32) : FVec Ideal S8x16x8x128 .bf16 → FVec Ideal S8x16x8x128 .f32) (hop := by sl_kernel_rfl) (h := rfl) (h1 := by decide)
def w_v113 : FVec Ideal S8x16x2x4x128 .f32 := V m c main_v113
theorem w_v113_eq : w_v113 m c = (fun u => shapeCast S8x16x2x4x128 u shapeCasts_S8x16x8x128_S8x16x2x4x128) (w_v112 m c) := line.reshape _ 165 main_v112 main_v113 rfl shapeCasts_S8x16x8x128_S8x16x2x4x128 (hop := by sl_kernel_rfl) (h := rfl) (h1 := by decide)
def w_v114 : FVec Ideal S8x2x2048x16x4 .f32 := V m c main_v114
theorem w_v114_eq : w_v114 m c = ((fun l r => Host.dotGeneral dot_S8x2048x2x128_S8x16x2x4x128_S8x2x2048x16x4_3_4_1_13_02_02 none l r)) (w_v109 m c) (w_v113 m c) := line.binary _ 166 main_v109 main_v113 main_v114 ((fun l r => Host.dotGeneral dot_S8x2048x2x128_S8x16x2x4x128_S8x2x2048x16x4_3_4_1_13_02_02 none l r) : FVec Ideal S8x2048x2x128 .f32 → FVec Ideal S8x16x2x4x128 .f32 → FVec Ideal S8x2x2048x16x4 .f32) (hop := by sl_kernel_rfl) (h := rfl) (h1 := by decide) (h2 := by decide)
def w_v115 : FVec Ideal S8x2x4x16x2048 .f32 := V m c main_v115
theorem w_v115_eq : w_v115 m c = ((transpose S8x2x4x16x2048 [0, 1, 4, 3, 2] · transposes_S8x2x2048x16x4_S8x2x4x16x2048_0_1_4_3_2)) (w_v114 m c) := line.unary _ 167 main_v114 main_v115 ((transpose S8x2x4x16x2048 [0, 1, 4, 3, 2] · transposes_S8x2x2048x16x4_S8x2x4x16x2048_0_1_4_3_2) : FVec Ideal S8x2x2048x16x4 .f32 → FVec Ideal S8x2x4x16x2048 .f32) (hop := by sl_kernel_rfl) (h := rfl) (h1 := by decide)
def w_v116 : FVec Ideal S8x2x4x2048 .f32 := V m c main_v116
theorem w_v116_eq : w_v116 m c = ((transpose S8x2x4x2048 [0, 2, 3, 1] · transposes_S8x2048x2x4_S8x2x4x2048_0_2_3_1)) (w_v108 m c) := line.unary _ 168 main_v108 main_v116 ((transpose S8x2x4x2048 [0, 2, 3, 1] · transposes_S8x2048x2x4_S8x2x4x2048_0_2_3_1) : FVec Ideal S8x2048x2x4 .f32 → FVec Ideal S8x2x4x2048 .f32) (hop := by sl_kernel_rfl) (h := rfl) (h1 := by decide)
def w_v117 : FVec Ideal S8x2x4x2048x1 .f32 := V m c main_v117
theorem w_v117_eq : w_v117 m c = (broadcastInDim S8x2x4x2048x1 ![0, 1, 2, 3] bcast_S8x2x4x2048_S8x2x4x2048x1_0_1_2_3) (w_v116 m c) := line.unary _ 169 main_v116 main_v117 (broadcastInDim S8x2x4x2048x1 ![0, 1, 2, 3] bcast_S8x2x4x2048_S8x2x4x2048x1_0_1_2_3 : FVec Ideal S8x2x4x2048 .f32 → FVec Ideal S8x2x4x2048x1 .f32) (hop := by sl_kernel_rfl) (h := rfl) (h1 := by decide)
def w_v118 : FVec Ideal S8x2x4x2048x2048 .f32 := V m c main_v118
theorem w_v118_eq : w_v118 m c = (broadcastInDim S8x2x4x2048x2048 ![0, 1, 2, 3, 4] bcast_S8x2x4x2048x1_S8x2x4x2048x2048_0_1_2_3_4) (w_v117 m c) := line.unary _ 170 main_v117 main_v118 (broadcastInDim S8x2x4x2048x2048 ![0, 1, 2, 3, 4] bcast_S8x2x4x2048x1_S8x2x4x2048x2048_0_1_2_3_4 : FVec Ideal S8x2x4x2048x1 .f32 → FVec Ideal S8x2x4x2048x2048 .f32) (hop := by sl_kernel_rfl) (h := rfl) (h1 := by decide)
def w_v119 : FVec Ideal S8x2x4x2048x2048 .f32 := V m c main_v119
theorem w_v119_eq : w_v119 m c = (mulf) (w_v118 m c) (w_v111 m c) := line.binary _ 171 main_v118 main_v111 main_v119 (mulf : FVec Ideal S8x2x4x2048x2048 .f32 → FVec Ideal S8x2x4x2048x2048 .f32 → FVec Ideal S8x2x4x2048x2048 .f32) (hop := by sl_kernel_rfl) (h := rfl) (h1 := by decide) (h2 := by decide)
def w_v120 : FVec Ideal S8x2x4x16x128x2048 .f32 := V m c main_v120
theorem w_v120_eq : w_v120 m c = (fun u => shapeCast S8x2x4x16x128x2048 u shapeCasts_S8x2x4x2048x2048_S8x2x4x16x128x2048) (w_v119 m c) := line.reshape _ 172 main_v119 main_v120 rfl shapeCasts_S8x2x4x2048x2048_S8x2x4x16x128x2048 (hop := by sl_kernel_rfl) (h := rfl) (h1 := by decide)
def w_v121 : FVec Ideal S8x2x4x16x1x2048 .f32 := V m c main_v121
theorem w_v121_eq : w_v121 m c = (broadcastInDim S8x2x4x16x1x2048 ![0, 1, 2, 3, 5] bcast_S8x2x4x16x2048_S8x2x4x16x1x2048_0_1_2_3_5) (w_v115 m c) := line.unary _ 173 main_v115 main_v121 (broadcastInDim S8x2x4x16x1x2048 ![0, 1, 2, 3, 5] bcast_S8x2x4x16x2048_S8x2x4x16x1x2048_0_1_2_3_5 : FVec Ideal S8x2x4x16x2048 .f32 → FVec Ideal S8x2x4x16x1x2048 .f32) (hop := by sl_kernel_rfl) (h := rfl) (h1 := by decide)
def w_v122 : FVec Ideal S8x2x4x16x128x2048 .f32 := V m c main_v122
theorem w_v122_eq : w_v122 m c = (broadcastInDim S8x2x4x16x128x2048 ![0, 1, 2, 3, 4, 5] bcast_S8x2x4x16x1x2048_S8x2x4x16x128x2048_0_1_2_3_4_5) (w_v121 m c) := line.unary _ 174 main_v121 main_v122 (broadcastInDim S8x2x4x16x128x2048 ![0, 1, 2, 3, 4, 5] bcast_S8x2x4x16x1x2048_S8x2x4x16x128x2048_0_1_2_3_4_5 : FVec Ideal S8x2x4x16x1x2048 .f32 → FVec Ideal S8x2x4x16x128x2048 .f32) (hop := by sl_kernel_rfl) (h := rfl) (h1 := by decide)
def w_v123 : FVec Ideal S8x2x4x16x128x2048 .f32 := V m c main_v123
theorem w_v123_eq : w_v123 m c = (addf) (w_v120 m c) (w_v122 m c) := line.binary _ 175 main_v120 main_v122 main_v123 (addf : FVec Ideal S8x2x4x16x128x2048 .f32 → FVec Ideal S8x2x4x16x128x2048 .f32 → FVec Ideal S8x2x4x16x128x2048 .f32) (hop := by sl_kernel_rfl) (h := rfl) (h1 := by decide) (h2 := by decide)
def w_v124 : FVec Ideal S8x32x1x2 .f32 := V m c main_v124
theorem w_v124_eq : w_v124 m c = (fun u => shapeCast S8x32x1x2 u shapeCasts_S8x32x1x2x1_S8x32x1x2) (w_v76 m c) := line.reshape _ 176 main_v76 main_v124 rfl shapeCasts_S8x32x1x2x1_S8x32x1x2 (hop := by sl_kernel_rfl) (h := rfl) (h1 := by decide)
def w_v125 : FVec Ideal S8x32x64x2 .f32 := V m c main_v125
theorem w_v125_eq : w_v125 m c = (broadcastInDim S8x32x64x2 ![0, 1, 2, 3] bcast_S8x32x1x2_S8x32x64x2_0_1_2_3) (w_v124 m c) := line.unary _ 177 main_v124 main_v125 (broadcastInDim S8x32x64x2 ![0, 1, 2, 3] bcast_S8x32x1x2_S8x32x64x2_0_1_2_3 : FVec Ideal S8x32x1x2 .f32 → FVec Ideal S8x32x64x2 .f32) (hop := by sl_kernel_rfl) (h := rfl) (h1 := by decide)
def w_v126 : FVec Ideal S8x2048x2 .f32 := V m c main_v126
theorem w_v126_eq : w_v126 m c = (fun u => shapeCast S8x2048x2 u shapeCasts_S8x32x64x2_S8x2048x2) (w_v125 m c) := line.reshape _ 178 main_v125 main_v126 rfl shapeCasts_S8x32x64x2_S8x2048x2 (hop := by sl_kernel_rfl) (h := rfl) (h1 := by decide)
def w_v127 : FVec Ideal S8x2x2048 .f32 := V m c main_v127
theorem w_v127_eq : w_v127 m c = ((transpose S8x2x2048 [0, 2, 1] · transposes_S8x2048x2_S8x2x2048_0_2_1)) (w_v126 m c) := line.unary _ 179 main_v126 main_v127 ((transpose S8x2x2048 [0, 2, 1] · transposes_S8x2048x2_S8x2x2048_0_2_1) : FVec Ideal S8x2048x2 .f32 → FVec Ideal S8x2x2048 .f32) (hop := by sl_kernel_rfl) (h := rfl) (h1 := by decide)
def w_v128 : FVec Ideal S8x2x1x1x2048 .f32 := V m c main_v128
theorem w_v128_eq : w_v128 m c = (broadcastInDim S8x2x1x1x2048 ![0, 1, 4] bcast_S8x2x2048_S8x2x1x1x2048_0_1_4) (w_v127 m c) := line.unary _ 180 main_v127 main_v128 (broadcastInDim S8x2x1x1x2048 ![0, 1, 4] bcast_S8x2x2048_S8x2x1x1x2048_0_1_4 : FVec Ideal S8x2x2048 .f32 → FVec Ideal S8x2x1x1x2048 .f32) (hop := by sl_kernel_rfl) (h := rfl) (h1 := by decide)
def w_v129 : FVec Ideal S8x2x4x2048x2048 .f32 := V m c main_v129
theorem w_v129_eq : w_v129 m c = (fun u => shapeCast S8x2x4x2048x2048 u shapeCasts_S8x2x4x16x128x2048_S8x2x4x2048x2048) (w_v123 m c) := line.reshape _ 181 main_v123 main_v129 rfl shapeCasts_S8x2x4x16x128x2048_S8x2x4x2048x2048 (hop := by sl_kernel_rfl) (h := rfl) (h1 := by decide)
def w_v130 : FVec Ideal S8x2x4x2048x2048 .f32 := V m c main_v130
theorem w_v130_eq : w_v130 m c = (broadcastInDim S8x2x4x2048x2048 ![0, 1, 2, 3, 4] bcast_S8x2x1x1x2048_S8x2x4x2048x2048_0_1_2_3_4) (w_v128 m c) := line.unary _ 182 main_v128 main_v130 (broadcastInDim S8x2x4x2048x2048 ![0, 1, 2, 3, 4] bcast_S8x2x1x1x2048_S8x2x4x2048x2048_0_1_2_3_4 : FVec Ideal S8x2x1x1x2048 .f32 → FVec Ideal S8x2x4x2048x2048 .f32) (hop := by sl_kernel_rfl) (h := rfl) (h1 := by decide)
def w_v131 : FVec Ideal S8x2x4x2048x2048 .f32 := V m c main_v131
theorem w_v131_eq : w_v131 m c = (mulf) (w_v130 m c) (w_v129 m c) := line.binary _ 183 main_v130 main_v129 main_v131 (mulf : FVec Ideal S8x2x4x2048x2048 .f32 → FVec Ideal S8x2x4x2048x2048 .f32 → FVec Ideal S8x2x4x2048x2048 .f32) (hop := by sl_kernel_rfl) (h := rfl) (h1 := by decide) (h2 := by decide)
def w_cst_30 : FVec Ideal S_ .f32 := V m c main_cst_30
theorem w_cst_30_eq : w_cst_30 m c = (constant S_ .f32 0x43000000#32) := line.nullary _ 184 main_cst_30 (constant S_ .f32 0x43000000#32 : FVec Ideal S_ .f32) (hop := by sl_kernel_rfl) (h := rfl)
def w_v132 : FVec Ideal S_ .f32 := V m c main_v132
theorem w_v132_eq : w_v132 m c = (Host.sqrt) (w_cst_30 m c) := line.unary _ 185 main_cst_30 main_v132 (Host.sqrt : FVec Ideal S_ .f32 → FVec Ideal S_ .f32) (hop := by sl_kernel_rfl) (h := rfl) (h1 := by decide)
def w_v133 : FVec Ideal S8x2x4x2048x2048 .f32 := V m c main_v133
theorem w_v133_eq : w_v133 m c = (broadcastInDim S8x2x4x2048x2048 ![] bcast_S_S8x2x4x2048x2048) (w_v132 m c) := line.unary _ 186 main_v132 main_v133 (broadcastInDim S8x2x4x2048x2048 ![] bcast_S_S8x2x4x2048x2048 : FVec Ideal S_ .f32 → FVec Ideal S8x2x4x2048x2048 .f32) (hop := by sl_kernel_rfl) (h := rfl) (h1 := by decide)
def w_v134 : FVec Ideal S8x2x4x2048x2048 .f32 := V m c main_v134
theorem w_v134_eq : w_v134 m c = (Host.divf) (w_v131 m c) (w_v133 m c) := line.binary _ 187 main_v131 main_v133 main_v134 (Host.divf : FVec Ideal S8x2x4x2048x2048 .f32 → FVec Ideal S8x2x4x2048x2048 .f32 → FVec Ideal S8x2x4x2048x2048 .f32) (hop := by sl_kernel_rfl) (h := rfl) (h1 := by decide) (h2 := by decide)
def w_v135 : IVec S2048 32 := V m c main_v135
theorem w_v135_eq : w_v135 m c = (iotaInDim S2048 32 0) := line.nullary _ 188 main_v135 (iotaInDim S2048 32 0 : IVec S2048 32) (hop := by sl_kernel_rfl) (h := rfl)
def w_v136 : IVec S1x2048 32 := V m c main_v136
theorem w_v136_eq : w_v136 m c = (broadcastInDim S1x2048 ![1] bcast_S2048_S1x2048_1) (w_v135 m c) := line.unary _ 189 main_v135 main_v136 (broadcastInDim S1x2048 ![1] bcast_S2048_S1x2048_1 : IVec S2048 32 → IVec S1x2048 32) (hop := by sl_kernel_rfl) (h := rfl) (h1 := by decide)
def w_v137 : IVec S2048 32 := V m c main_v137
theorem w_v137_eq : w_v137 m c = (iotaInDim S2048 32 0) := line.nullary _ 190 main_v137 (iotaInDim S2048 32 0 : IVec S2048 32) (hop := by sl_kernel_rfl) (h := rfl)
def w_v138 : IVec S2048x1 32 := V m c main_v138
theorem w_v138_eq : w_v138 m c = (broadcastInDim S2048x1 ![0] bcast_S2048_S2048x1_0) (w_v137 m c) := line.unary _ 191 main_v137 main_v138 (broadcastInDim S2048x1 ![0] bcast_S2048_S2048x1_0 : IVec S2048 32 → IVec S2048x1 32) (hop := by sl_kernel_rfl) (h := rfl) (h1 := by decide)
def w_v139 : IVec S2048x2048 32 := V m c main_v139
theorem w_v139_eq : w_v139 m c = (broadcastInDim S2048x2048 ![0, 1] bcast_S1x2048_S2048x2048_0_1) (w_v136 m c) := line.unary _ 192 main_v136 main_v139 (broadcastInDim S2048x2048 ![0, 1] bcast_S1x2048_S2048x2048_0_1 : IVec S1x2048 32 → IVec S2048x2048 32) (hop := by sl_kernel_rfl) (h := rfl) (h1 := by decide)
def w_v140 : IVec S2048x2048 32 := V m c main_v140
theorem w_v140_eq : w_v140 m c = (broadcastInDim S2048x2048 ![0, 1] bcast_S2048x1_S2048x2048_0_1) (w_v138 m c) := line.unary _ 193 main_v138 main_v140 (broadcastInDim S2048x2048 ![0, 1] bcast_S2048x1_S2048x2048_0_1 : IVec S2048x1 32 → IVec S2048x2048 32) (hop := by sl_kernel_rfl) (h := rfl) (h1 := by decide)
def w_v141 : IVec S2048x2048 1 := V m c main_v141
theorem w_v141_eq : w_v141 m c = (cmpi .sle) (w_v139 m c) (w_v140 m c) := line.binary _ 194 main_v139 main_v140 main_v141 (cmpi .sle : IVec S2048x2048 32 → IVec S2048x2048 32 → IVec S2048x2048 1) (hop := by sl_kernel_rfl) (h := rfl) (h1 := by decide) (h2 := by decide)
def w_cst_31 : FVec Ideal S_ .f32 := V m c main_cst_31
theorem w_cst_31_eq : w_cst_31 m c = (constant S_ .f32 0xFF800000#32) := line.nullary _ 195 main_cst_31 (constant S_ .f32 0xFF800000#32 : FVec Ideal S_ .f32) (hop := by sl_kernel_rfl) (h := rfl)
def w_call6_v0 : FVec Ideal S_ .f32 := V m c main_call6_v0
theorem w_call6_v0_eq : w_call6_v0 m c = id (w_cst_31 m c) := line.unary _ 196 main_cst_31 main_call6_v0 (id : FVec Ideal S_ .f32 → FVec Ideal S_ .f32) (hop := by sl_kernel_rfl) (h := rfl) (h1 := by decide)
def w_call6_v1 : IVec S8x2x4x2048x2048 1 := V m c main_call6_v1
theorem w_call6_v1_eq : w_call6_v1 m c = (broadcastInDim S8x2x4x2048x2048 ![3, 4] bcast_S2048x2048_S8x2x4x2048x2048_3_4) (w_v141 m c) := line.unary _ 197 main_v141 main_call6_v1 (broadcastInDim S8x2x4x2048x2048 ![3, 4] bcast_S2048x2048_S8x2x4x2048x2048_3_4 : IVec S2048x2048 1 → IVec S8x2x4x2048x2048 1) (hop := by sl_kernel_rfl) (h := rfl) (h1 := by decide)
def w_call6_v2 : FVec Ideal S8x2x4x2048x2048 .f32 := V m c main_call6_v2
theorem w_call6_v2_eq : w_call6_v2 m c = (broadcastInDim S8x2x4x2048x2048 ![] bcast_S_S8x2x4x2048x2048) (w_call6_v0 m c) := line.unary _ 198 main_call6_v0 main_call6_v2 (broadcastInDim S8x2x4x2048x2048 ![] bcast_S_S8x2x4x2048x2048 : FVec Ideal S_ .f32 → FVec Ideal S8x2x4x2048x2048 .f32) (hop := by sl_kernel_rfl) (h := rfl) (h1 := by decide)
def w_v142 : FVec Ideal S8x2x4x2048x2048 .f32 := V m c main_v142
theorem w_v142_eq : w_v142 m c = select (w_call6_v1 m c) (w_v134 m c) (w_call6_v2 m c) := line.ternary _ 199 main_call6_v1 main_v134 main_call6_v2 main_v142 (select : IVec S8x2x4x2048x2048 1 → FVec Ideal S8x2x4x2048x2048 .f32 → FVec Ideal S8x2x4x2048x2048 .f32 → FVec Ideal S8x2x4x2048x2048 .f32) (hop := by sl_kernel_rfl) (h := rfl) (h0 := by decide) (h1 := by decide) (h2 := by decide)
def w_cst_32 : FVec Ideal S_ .f32 := V m c main_cst_32
theorem w_cst_32_eq : w_cst_32 m c = (constant S_ .f32 0xFF800000#32) := line.nullary _ 200 main_cst_32 (constant S_ .f32 0xFF800000#32 : FVec Ideal S_ .f32) (hop := by sl_kernel_rfl) (h := rfl)
def w_v143 : FVec Ideal S8x2x4x2048 .f32 := V m c main_v143
theorem w_v143_eq : w_v143 m c = ((fun x v => Host.reduce FloatOps.maximumf x v reducesTo_S8x2x4x2048x2048_S8x2x4x2048_d4 h_S_)) (w_v142 m c) (w_cst_32 m c) := line.binary _ 201 main_v142 main_cst_32 main_v143 ((fun x v => Host.reduce FloatOps.maximumf x v reducesTo_S8x2x4x2048x2048_S8x2x4x2048_d4 h_S_) : FVec Ideal S8x2x4x2048x2048 .f32 → FVec Ideal S_ .f32 → FVec Ideal S8x2x4x2048 .f32) (hop := by sl_kernel_rfl) (h := rfl) (h1 := by decide) (h2 := by decide)
def w_v144 : FVec Ideal S8x2x4x2048x1 .f32 := V m c main_v144
theorem w_v144_eq : w_v144 m c = (broadcastInDim S8x2x4x2048x1 ![0, 1, 2, 3] bcast_S8x2x4x2048_S8x2x4x2048x1_0_1_2_3) (w_v143 m c) := line.unary _ 202 main_v143 main_v144 (broadcastInDim S8x2x4x2048x1 ![0, 1, 2, 3] bcast_S8x2x4x2048_S8x2x4x2048x1_0_1_2_3 : FVec Ideal S8x2x4x2048 .f32 → FVec Ideal S8x2x4x2048x1 .f32) (hop := by sl_kernel_rfl) (h := rfl) (h1 := by decide)
def w_v145 : FVec Ideal S8x2x4x2048x2048 .f32 := V m c main_v145
theorem w_v145_eq : w_v145 m c = (broadcastInDim S8x2x4x2048x2048 ![0, 1, 2, 3, 4] bcast_S8x2x4x2048x1_S8x2x4x2048x2048_0_1_2_3_4) (w_v144 m c) := line.unary _ 203 main_v144 main_v145 (broadcastInDim S8x2x4x2048x2048 ![0, 1, 2, 3, 4] bcast_S8x2x4x2048x1_S8x2x4x2048x2048_0_1_2_3_4 : FVec Ideal S8x2x4x2048x1 .f32 → FVec Ideal S8x2x4x2048x2048 .f32) (hop := by sl_kernel_rfl) (h := rfl) (h1 := by decide)
def w_v146 : FVec Ideal S8x2x4x2048x2048 .f32 := V m c main_v146
theorem w_v146_eq : w_v146 m c = (subf) (w_v142 m c) (w_v145 m c) := line.binary _ 204 main_v142 main_v145 main_v146 (subf : FVec Ideal S8x2x4x2048x2048 .f32 → FVec Ideal S8x2x4x2048x2048 .f32 → FVec Ideal S8x2x4x2048x2048 .f32) (hop := by sl_kernel_rfl) (h := rfl) (h1 := by decide) (h2 := by decide)
def w_v147 : FVec Ideal S8x2x4x2048x2048 .f32 := V m c main_v147
theorem w_v147_eq : w_v147 m c = (Host.exp) (w_v146 m c) := line.unary _ 205 main_v146 main_v147 (Host.exp : FVec Ideal S8x2x4x2048x2048 .f32 → FVec Ideal S8x2x4x2048x2048 .f32) (hop := by sl_kernel_rfl) (h := rfl) (h1 := by decide)
def w_cst_33 : FVec Ideal S_ .f32 := V m c main_cst_33
theorem w_cst_33_eq : w_cst_33 m c = (constant S_ .f32 0x00000000#32) := line.nullary _ 206 main_cst_33 (constant S_ .f32 0x00000000#32 : FVec Ideal S_ .f32) (hop := by sl_kernel_rfl) (h := rfl)
def w_v148 : FVec Ideal S8x2x4x2048 .f32 := V m c main_v148
theorem w_v148_eq : w_v148 m c = ((fun x v => Host.reduceAdd x v reducesTo_S8x2x4x2048x2048_S8x2x4x2048_d4 h_S_)) (w_v147 m c) (w_cst_33 m c) := line.binary _ 207 main_v147 main_cst_33 main_v148 ((fun x v => Host.reduceAdd x v reducesTo_S8x2x4x2048x2048_S8x2x4x2048_d4 h_S_) : FVec Ideal S8x2x4x2048x2048 .f32 → FVec Ideal S_ .f32 → FVec Ideal S8x2x4x2048 .f32) (hop := by sl_kernel_rfl) (h := rfl) (h1 := by decide) (h2 := by decide)
def w_cst_34 : FVec Ideal S_ .f32 := V m c main_cst_34
theorem w_cst_34_eq : w_cst_34 m c = (constant S_ .f32 0x43800000#32) := line.nullary _ 208 main_cst_34 (constant S_ .f32 0x43800000#32 : FVec Ideal S_ .f32) (hop := by sl_kernel_rfl) (h := rfl)
def w_v149 : FVec Ideal S8x2x4x2048x2048 .f32 := V m c main_v149
theorem w_v149_eq : w_v149 m c = (broadcastInDim S8x2x4x2048x2048 ![] bcast_S_S8x2x4x2048x2048) (w_cst_34 m c) := line.unary _ 209 main_cst_34 main_v149 (broadcastInDim S8x2x4x2048x2048 ![] bcast_S_S8x2x4x2048x2048 : FVec Ideal S_ .f32 → FVec Ideal S8x2x4x2048x2048 .f32) (hop := by sl_kernel_rfl) (h := rfl) (h1 := by decide)
def w_v150 : FVec Ideal S8x2x4x2048x2048 .f32 := V m c main_v150
theorem w_v150_eq : w_v150 m c = (mulf) (w_v147 m c) (w_v149 m c) := line.binary _ 210 main_v147 main_v149 main_v150 (mulf : FVec Ideal S8x2x4x2048x2048 .f32 → FVec Ideal S8x2x4x2048x2048 .f32 → FVec Ideal S8x2x4x2048x2048 .f32) (hop := by sl_kernel_rfl) (h := rfl) (h1 := by decide) (h2 := by decide)
def w_cst_35 : FVec Ideal S_ .f32 := V m c main_cst_35
theorem w_cst_35_eq : w_cst_35 m c = (constant S_ .f32 0x43E00000#32) := line.nullary _ 211 main_cst_35 (constant S_ .f32 0x43E00000#32 : FVec Ideal S_ .f32) (hop := by sl_kernel_rfl) (h := rfl)
def w_v151 : FVec Ideal S8x2x4x2048x2048 .f32 := V m c main_v151
theorem w_v151_eq : w_v151 m c = (broadcastInDim S8x2x4x2048x2048 ![] bcast_S_S8x2x4x2048x2048) (w_cst_35 m c) := line.unary _ 212 main_cst_35 main_v151 (broadcastInDim S8x2x4x2048x2048 ![] bcast_S_S8x2x4x2048x2048 : FVec Ideal S_ .f32 → FVec Ideal S8x2x4x2048x2048 .f32) (hop := by sl_kernel_rfl) (h := rfl) (h1 := by decide)
def w_v152 : FVec Ideal S8x2x4x2048x2048 .f32 := V m c main_v152
theorem w_v152_eq : w_v152 m c = (minimumf) (w_v150 m c) (w_v151 m c) := line.binary _ 213 main_v150 main_v151 main_v152 (minimumf : FVec Ideal S8x2x4x2048x2048 .f32 → FVec Ideal S8x2x4x2048x2048 .f32 → FVec Ideal S8x2x4x2048x2048 .f32) (hop := by sl_kernel_rfl) (h := rfl) (h1 := by decide) (h2 := by decide)
def w_v153 : FVec Ideal S8x2x128x4x2048 .f32 := V m c main_v153
theorem w_v153_eq : w_v153 m c = ((fun l r => Host.dotGeneral dot_S8x2048x2x128_S8x2x4x2048x2048_S8x2x128x4x2048_1_4_3_23_02_01 none l r)) (w_v103 m c) (w_v152 m c) := line.binary _ 214 main_v103 main_v152 main_v153 ((fun l r => Host.dotGeneral dot_S8x2048x2x128_S8x2x4x2048x2048_S8x2x128x4x2048_1_4_3_23_02_01 none l r) : FVec Ideal S8x2048x2x128 .f32 → FVec Ideal S8x2x4x2048x2048 .f32 → FVec Ideal S8x2x128x4x2048 .f32) (hop := by sl_kernel_rfl) (h := rfl) (h1 := by decide) (h2 := by decide)
def w_v154 : FVec Ideal S8x2048x2x4x128 .f32 := V m c main_v154
theorem w_v154_eq : w_v154 m c = ((transpose S8x2048x2x4x128 [0, 4, 1, 3, 2] · transposes_S8x2x128x4x2048_S8x2048x2x4x128_0_4_1_3_2)) (w_v153 m c) := line.unary _ 215 main_v153 main_v154 ((transpose S8x2048x2x4x128 [0, 4, 1, 3, 2] · transposes_S8x2x128x4x2048_S8x2048x2x4x128_0_4_1_3_2) : FVec Ideal S8x2x128x4x2048 .f32 → FVec Ideal S8x2048x2x4x128 .f32) (hop := by sl_kernel_rfl) (h := rfl) (h1 := by decide)
def w_cst_36 : FVec Ideal S_ .f32 := V m c main_cst_36
theorem w_cst_36_eq : w_cst_36 m c = (constant S_ .f32 0x3B800000#32) := line.nullary _ 216 main_cst_36 (constant S_ .f32 0x3B800000#32 : FVec Ideal S_ .f32) (hop := by sl_kernel_rfl) (h := rfl)
def w_v155 : FVec Ideal S8x2048x2x4x128 .f32 := V m c main_v155
theorem w_v155_eq : w_v155 m c = (broadcastInDim S8x2048x2x4x128 ![] bcast_S_S8x2048x2x4x128) (w_cst_36 m c) := line.unary _ 217 main_cst_36 main_v155 (broadcastInDim S8x2048x2x4x128 ![] bcast_S_S8x2048x2x4x128 : FVec Ideal S_ .f32 → FVec Ideal S8x2048x2x4x128 .f32) (hop := by sl_kernel_rfl) (h := rfl) (h1 := by decide)
def w_v156 : FVec Ideal S8x2048x2x4x128 .f32 := V m c main_v156
theorem w_v156_eq : w_v156 m c = (mulf) (w_v154 m c) (w_v155 m c) := line.binary _ 218 main_v154 main_v155 main_v156 (mulf : FVec Ideal S8x2048x2x4x128 .f32 → FVec Ideal S8x2048x2x4x128 .f32 → FVec Ideal S8x2048x2x4x128 .f32) (hop := by sl_kernel_rfl) (h := rfl) (h1 := by decide) (h2 := by decide)
def w_v157 : FVec Ideal S8x1x2x1x128 .f32 := V m c main_v157
theorem w_v157_eq : w_v157 m c = (fun u => shapeCast S8x1x2x1x128 u shapeCasts_S8x1x2x128_S8x1x2x1x128) (w_v106 m c) := line.reshape _ 219 main_v106 main_v157 rfl shapeCasts_S8x1x2x128_S8x1x2x1x128 (hop := by sl_kernel_rfl) (h := rfl) (h1 := by decide)
def w_v158 : FVec Ideal S8x2048x2x4x128 .f32 := V m c main_v158
theorem w_v158_eq : w_v158 m c = (broadcastInDim S8x2048x2x4x128 ![0, 1, 2, 3, 4] bcast_S8x1x2x1x128_S8x2048x2x4x128_0_1_2_3_4) (w_v157 m c) := line.unary _ 220 main_v157 main_v158 (broadcastInDim S8x2048x2x4x128 ![0, 1, 2, 3, 4] bcast_S8x1x2x1x128_S8x2048x2x4x128_0_1_2_3_4 : FVec Ideal S8x1x2x1x128 .f32 → FVec Ideal S8x2048x2x4x128 .f32) (hop := by sl_kernel_rfl) (h := rfl) (h1 := by decide)
def w_v159 : FVec Ideal S8x2048x2x4x128 .f32 := V m c main_v159
theorem w_v159_eq : w_v159 m c = (mulf) (w_v156 m c) (w_v158 m c) := line.binary _ 221 main_v156 main_v158 main_v159 (mulf : FVec Ideal S8x2048x2x4x128 .f32 → FVec Ideal S8x2048x2x4x128 .f32 → FVec Ideal S8x2048x2x4x128 .f32) (hop := by sl_kernel_rfl) (h := rfl) (h1 := by decide) (h2 := by decide)
def w_cst_37 : FVec Ideal S_ .f32 := V m c main_cst_37
theorem w_cst_37_eq : w_cst_37 m c = (constant S_ .f32 0x3F800000#32) := line.nullary _ 222 main_cst_37 (constant S_ .f32 0x3F800000#32 : FVec Ideal S_ .f32) (hop := by sl_kernel_rfl) (h := rfl)
def w_v160 : FVec Ideal S8x2x4x2048 .f32 := V m c main_v160
theorem w_v160_eq : w_v160 m c = (broadcastInDim S8x2x4x2048 ![] bcast_S_S8x2x4x2048) (w_cst_37 m c) := line.unary _ 223 main_cst_37 main_v160 (broadcastInDim S8x2x4x2048 ![] bcast_S_S8x2x4x2048 : FVec Ideal S_ .f32 → FVec Ideal S8x2x4x2048 .f32) (hop := by sl_kernel_rfl) (h := rfl) (h1 := by decide)
def w_v161 : FVec Ideal S8x2x4x2048 .f32 := V m c main_v161
theorem w_v161_eq : w_v161 m c = (Host.divf) (w_v160 m c) (w_v148 m c) := line.binary _ 224 main_v160 main_v148 main_v161 (Host.divf : FVec Ideal S8x2x4x2048 .f32 → FVec Ideal S8x2x4x2048 .f32 → FVec Ideal S8x2x4x2048 .f32) (hop := by sl_kernel_rfl) (h := rfl) (h1 := by decide) (h2 := by decide)
def w_v162 : FVec Ideal S8x2048x2x4 .f32 := V m c main_v162
theorem w_v162_eq : w_v162 m c = ((transpose S8x2048x2x4 [0, 3, 1, 2] · transposes_S8x2x4x2048_S8x2048x2x4_0_3_1_2)) (w_v161 m c) := line.unary _ 225 main_v161 main_v162 ((transpose S8x2048x2x4 [0, 3, 1, 2] · transposes_S8x2x4x2048_S8x2048x2x4_0_3_1_2) : FVec Ideal S8x2x4x2048 .f32 → FVec Ideal S8x2048x2x4 .f32) (hop := by sl_kernel_rfl) (h := rfl) (h1 := by decide)
def w_v163 : FVec Ideal S8x2048x2x4x1 .f32 := V m c main_v163
theorem w_v163_eq : w_v163 m c = (broadcastInDim S8x2048x2x4x1 ![0, 1, 2, 3] bcast_S8x2048x2x4_S8x2048x2x4x1_0_1_2_3) (w_v162 m c) := line.unary _ 226 main_v162 main_v163 (broadcastInDim S8x2048x2x4x1 ![0, 1, 2, 3] bcast_S8x2048x2x4_S8x2048x2x4x1_0_1_2_3 : FVec Ideal S8x2048x2x4 .f32 → FVec Ideal S8x2048x2x4x1 .f32) (hop := by sl_kernel_rfl) (h := rfl) (h1 := by decide)
def w_v164 : FVec Ideal S8x2048x2x4x128 .f32 := V m c main_v164
theorem w_v164_eq : w_v164 m c = (broadcastInDim S8x2048x2x4x128 ![0, 1, 2, 3, 4] bcast_S8x2048x2x4x1_S8x2048x2x4x128_0_1_2_3_4) (w_v163 m c) := line.unary _ 227 main_v163 main_v164 (broadcastInDim S8x2048x2x4x128 ![0, 1, 2, 3, 4] bcast_S8x2048x2x4x1_S8x2048x2x4x128_0_1_2_3_4 : FVec Ideal S8x2048x2x4x1 .f32 → FVec Ideal S8x2048x2x4x128 .f32) (hop := by sl_kernel_rfl) (h := rfl) (h1 := by decide)
def w_v165 : FVec Ideal S8x2048x2x4x128 .f32 := V m c main_v165
theorem w_v165_eq : w_v165 m c = (mulf) (w_v159 m c) (w_v164 m c) := line.binary _ 228 main_v159 main_v164 main_v165 (mulf : FVec Ideal S8x2048x2x4x128 .f32 → FVec Ideal S8x2048x2x4x128 .f32 → FVec Ideal S8x2048x2x4x128 .f32) (hop := by sl_kernel_rfl) (h := rfl) (h1 := by decide) (h2 := by decide)
def w_v166 : FVec Ideal S8x2048x1024 .f32 := V m c main_v166
theorem w_v166_eq : w_v166 m c = (fun u => shapeCast S8x2048x1024 u shapeCasts_S8x2048x2x4x128_S8x2048x1024) (w_v165 m c) := line.reshape _ 229 main_v165 main_v166 rfl shapeCasts_S8x2048x2x4x128_S8x2048x1024 (hop := by sl_kernel_rfl) (h := rfl) (h1 := by decide)
def w_v167 : FVec Ideal S8x2048x1024 .bf16 := V m c main_v167
theorem w_v167_eq : w_v167 m c = ((truncf .bf16 · bitsLt_bf16_f32)) (w_v166 m c) := line.unary _ 230 main_v166 main_v167 ((truncf .bf16 · bitsLt_bf16_f32) : FVec Ideal S8x2048x1024 .f32 → FVec Ideal S8x2048x1024 .bf16) (hop := by sl_kernel_rfl) (h := rfl) (h1 := by decide)
def w_v168 : FVec Ideal S8x2048x8 .f32 := V m c main_v168
theorem w_v168_eq : w_v168 m c = (fun u => shapeCast S8x2048x8 u shapeCasts_S8x16x128x8x1_S8x2048x8) (w_v37 m c) := line.reshape _ 231 main_v37 main_v168 rfl shapeCasts_S8x16x128x8x1_S8x2048x8 (hop := by sl_kernel_rfl) (h := rfl) (h1 := by decide)
def w_v169 : FVec Ideal S8x8x2048 .f32 := V m c main_v169
theorem w_v169_eq : w_v169 m c = ((transpose S8x8x2048 [0, 2, 1] · transposes_S8x2048x8_S8x8x2048_0_2_1)) (w_v168 m c) := line.unary _ 232 main_v168 main_v169 ((transpose S8x8x2048 [0, 2, 1] · transposes_S8x2048x8_S8x8x2048_0_2_1) : FVec Ideal S8x2048x8 .f32 → FVec Ideal S8x8x2048 .f32) (hop := by sl_kernel_rfl) (h := rfl) (h1 := by decide)
def w_v170 : FVec Ideal S8x8x16x128 .bf16 := V m c main_v170
theorem w_v170_eq : w_v170 m c = ((transpose S8x8x16x128 [0, 2, 1, 3] · transposes_S8x16x8x128_S8x8x16x128_0_2_1_3)) (w_v5 m c) := line.unary _ 233 main_v5 main_v170 ((transpose S8x8x16x128 [0, 2, 1, 3] · transposes_S8x16x8x128_S8x8x16x128_0_2_1_3) : FVec Ideal S8x16x8x128 .bf16 → FVec Ideal S8x8x16x128 .bf16) (hop := by sl_kernel_rfl) (h := rfl) (h1 := by decide)
def w_v171 : FVec Ideal S8x32x2 .f32 := V m c main_v171
theorem w_v171_eq : w_v171 m c = (fun u => shapeCast S8x32x2 u shapeCasts_S8x32x1x2x1_S8x32x2) (w_v76 m c) := line.reshape _ 234 main_v76 main_v171 rfl shapeCasts_S8x32x1x2x1_S8x32x2 (hop := by sl_kernel_rfl) (h := rfl) (h1 := by decide)
def w_v172 : FVec Ideal S8x2x32 .f32 := V m c main_v172
theorem w_v172_eq : w_v172 m c = ((transpose S8x2x32 [0, 2, 1] · transposes_S8x32x2_S8x2x32_0_2_1)) (w_v171 m c) := line.unary _ 235 main_v171 main_v172 ((transpose S8x2x32 [0, 2, 1] · transposes_S8x32x2_S8x2x32_0_2_1) : FVec Ideal S8x32x2 .f32 → FVec Ideal S8x2x32 .f32) (hop := by sl_kernel_rfl) (h := rfl) (h1 := by decide)
def w_v173 : FVec Ideal S8x2x128 .f32 := V m c main_v173
theorem w_v173_eq : w_v173 m c = (fun u => shapeCast S8x2x128 u shapeCasts_S8x1x2x128_S8x2x128) (w_v106 m c) := line.reshape _ 236 main_v106 main_v173 rfl shapeCasts_S8x1x2x128_S8x2x128 (hop := by sl_kernel_rfl) (h := rfl) (h1 := by decide)
def w_v174 : FVec Ideal S8x2048x1024 .f32 := V m c main_v174
theorem w_v174_eq : w_v174 m c = (fun u => shapeCast S8x2048x1024 u shapeCasts_S8x16x128x8x128_S8x2048x1024) (w_v34 m c) := line.reshape _ 237 main_v34 main_v174 rfl shapeCasts_S8x16x128x8x128_S8x2048x1024 (hop := by sl_kernel_rfl) (h := rfl) (h1 := by decide)
def w_v175 : FVec Ideal S8x2x2048x128 .f32 := V m c main_v175
theorem w_v175_eq : w_v175 m c = ((transpose S8x2x2048x128 [0, 2, 1, 3] · transposes_S8x2048x2x128_S8x2x2048x128_0_2_1_3)) (w_v109 m c) := line.unary _ 238 main_v109 main_v175 ((transpose S8x2x2048x128 [0, 2, 1, 3] · transposes_S8x2048x2x128_S8x2x2048x128_0_2_1_3) : FVec Ideal S8x2048x2x128 .f32 → FVec Ideal S8x2x2048x128 .f32) (hop := by sl_kernel_rfl) (h := rfl) (h1 := by decide)
def w_v176 : FVec Ideal S8x2x2048x128 .f32 := V m c main_v176
theorem w_v176_eq : w_v176 m c = ((transpose S8x2x2048x128 [0, 2, 1, 3] · transposes_S8x2048x2x128_S8x2x2048x128_0_2_1_3)) (w_v103 m c) := line.unary _ 239 main_v103 main_v176 ((transpose S8x2x2048x128 [0, 2, 1, 3] · transposes_S8x2048x2x128_S8x2x2048x128_0_2_1_3) : FVec Ideal S8x2048x2x128 .f32 → FVec Ideal S8x2x2048x128 .f32) (hop := by sl_kernel_rfl) (h := rfl) (h1 := by decide)

end Cert.Attn.Ref

end
-- ==== Proof.RefMath.lean ====
module

public import proofs.«01_k».proof.Proof.Spec

/-! # The reference's scalar expressions, as the functions of `Math` -/

@[expose] public section

noncomputable section

namespace Cert.Attn

open Idealize.ShloMosaic

theorem c_two : Ideal.ofBits .f32 0x40000000#32 = ((2 : ℝ) : EReal) := by
  rw [show (0x40000000#32) = BitVec.ofNat 32 (128 * 2 ^ 23) from rfl, ofBits_field 128 (by norm_num) (by norm_num)]
  norm_num
theorem c_256 : Ideal.ofBits .f32 0x43800000#32 = ((256 : ℝ) : EReal) := by
  rw [show (0x43800000#32) = BitVec.ofNat 32 (135 * 2 ^ 23) from rfl, ofBits_field 135 (by norm_num) (by norm_num)]
  norm_num
theorem c_i256 : Ideal.ofBits .f32 0x3B800000#32 = (((256 : ℝ)⁻¹ : ℝ) : EReal) := by
  rw [show (0x3B800000#32) = BitVec.ofNat 32 (119 * 2 ^ 23) from rfl, ofBits_field 119 (by norm_num) (by norm_num)]
  norm_num
theorem c_128 : Ideal.ofBits .f32 0x43000000#32 = ((128 : ℝ) : EReal) := by
  rw [show (0x43000000#32) = BitVec.ofNat 32 (134 * 2 ^ 23) from rfl, ofBits_field 134 (by norm_num) (by norm_num)]
  norm_num
theorem c_2048 : Ideal.ofBits .f32 0x45000000#32 = ((2048 : ℝ) : EReal) := by
  rw [show (0x45000000#32) = BitVec.ofNat 32 (138 * 2 ^ 23) from rfl, ofBits_field 138 (by norm_num) (by norm_num)]
  norm_num
theorem c_i128 : Ideal.ofBits .f32 0x3C000000#32 = (((128 : ℝ)⁻¹ : ℝ) : EReal) := by
  rw [show (0x3C000000#32) = BitVec.ofNat 32 (120 * 2 ^ 23) from rfl, ofBits_field 120 (by norm_num) (by norm_num)]
  norm_num
theorem c_i2048 : Ideal.ofBits .f32 0x3A000000#32 = (((2048 : ℝ)⁻¹ : ℝ) : EReal) := by
  rw [show (0x3A000000#32) = BitVec.ofNat 32 (116 * 2 ^ 23) from rfl, ofBits_field 116 (by norm_num) (by norm_num)]
  norm_num
theorem c_8 : Ideal.ofBits .f32 0x41000000#32 = ((8 : ℝ) : EReal) := by
  rw [show (0x41000000#32) = BitVec.ofNat 32 (130 * 2 ^ 23) from rfl, ofBits_field 130 (by norm_num) (by norm_num)]
  norm_num

/-- Division by a nonzero real number. -/
theorem div_real (x : EReal) (r : ℝ) (h : r ≠ 0) : Ideal.div x (r : EReal) = x * ((r⁻¹ : ℝ) : EReal) := by
  unfold Ideal.div
  rw [if_neg (by exact_mod_cast h), EReal.coe_inv]

theorem log_two : Ideal.log (Ideal.ofBits .f32 0x40000000#32) = ((Real.log 2 : ℝ) : EReal) := by
  rw [c_two]
  show (if (2 : ℝ) ≤ 0 then (⊥ : EReal) else _) = _
  rw [if_neg (by norm_num)]

theorem div_log (t : EReal) : Ideal.div (Ideal.log t) (Ideal.log (Ideal.ofBits .f32 0x40000000#32)) = Ideal.log t * lg := by
  rw [log_two, div_real _ _ (Real.log_pos (by norm_num)).ne', lg]

/-- The reference's exponent of one number. -/
def rE (t : EReal) : EReal :=
  Scalar.select (IntOp.ori (Ideal.cmp .olt t (Ideal.ofBits .f32 0x00800000#32)) (Ideal.cmp .oge t (Ideal.ofBits .f32 0x7E800000#32)))
    (Ideal.ofBits .f32 0x00000000#32)
    (Ideal.liftRound Int.floor (Ideal.div (Ideal.log t) (Ideal.log (Ideal.ofBits .f32 0x40000000#32))) + Ideal.ofBits .f32 0x3F800000#32)

theorem rE_eq (t : EReal) : rE t = rExp t := by
  unfold rE rExp
  rw [c_lo, c_hi, div_log, show Ideal.ofBits .f32 0x00000000#32 = 0 by simp [Ideal.ofBits, Ideal.ieee], show Ideal.ofBits .f32 0x3F800000#32 = 1 from c_one]
  simp only [Ideal.cmp]
  by_cases h1 : t < (((2 : ℝ) ^ (-126 : ℤ) : ℝ) : EReal)
  · rw [decide_eq_true h1, if_pos (Or.inl h1)]
    by_cases h2 : (((2 : ℝ) ^ (126 : ℤ) : ℝ) : EReal) ≤ t
    · rw [decide_eq_true h2]; rfl
    · rw [decide_eq_false h2]; rfl
  · by_cases h2 : (((2 : ℝ) ^ (126 : ℤ) : ℝ) : EReal) ≤ t
    · rw [decide_eq_false h1, decide_eq_true h2, if_pos (Or.inr h2)]; rfl
    · rw [decide_eq_false h1, decide_eq_false h2, if_neg (by tauto)]; rfl

theorem exp_log_two (n : ℤ) : Ideal.exp (((n : ℝ) : EReal) * Ideal.log (Ideal.ofBits .f32 0x40000000#32)) = Ideal.exp2 ((n : ℝ) : EReal) := by
  have h : Real.log 2 ≠ 0 := (Real.log_pos (by norm_num)).ne'
  rw [← exp2_mul_lg, log_two, lg, ← EReal.coe_mul, ← EReal.coe_mul, mul_assoc, mul_inv_cancel₀ h, mul_one]

theorem scale_ref (t : EReal) : Ideal.exp (rE t * Ideal.log (Ideal.ofBits .f32 0x40000000#32)) = sScale t := by
  obtain ⟨n, -, -, h⟩ := scale_cases t
  rw [rE_eq, ← scale_eq, h, exp_log_two]

theorem inv_ref (t : EReal) : Ideal.exp (-rE t * Ideal.log (Ideal.ofBits .f32 0x40000000#32)) = sInv t := by
  obtain ⟨n, -, -, h⟩ := scale_cases t
  rw [rE_eq, ← inv_eq, h, ← EReal.coe_neg, ← Int.cast_neg, exp_log_two]

theorem div_128 (x : EReal) : Ideal.div x (Ideal.ofBits .f32 0x43000000#32) = x * Ideal.ofBits .f32 0x3C000000#32 := by
  rw [c_128, div_real _ _ (by norm_num), c_i128]
theorem div_2048 (x : EReal) : Ideal.div x (Ideal.ofBits .f32 0x45000000#32) = x * Ideal.ofBits .f32 0x3A000000#32 := by
  rw [c_2048, div_real _ _ (by norm_num), c_i2048]

end Cert.Attn

end
-- ==== Proof.RefVec.lean ====
module

public import proofs.«01_k».proof.Proof.RefMath
public import proofs.«01_k».proof.Proof.Ops
public import Idealize.ShloMosaic.Lib.Pointwise

/-! # The quantiser's vector operations on the reference's side, at an index

Each lemma is used for the queries, the keys and the values alike. -/

@[expose] public section

noncomputable section

namespace Cert.Attn

open Idealize.ShloMosaic

variable {S : Shape}

theorem exponent_vec (t lo hi zero one ln : FVec Ideal S .f32) (j : S.Idx)
    (hlo : lo j = Ideal.ofBits .f32 0x00800000#32) (hhi : hi j = Ideal.ofBits .f32 0x7E800000#32)
    (h0 : zero j = Ideal.ofBits .f32 0x00000000#32) (h1 : one j = Ideal.ofBits .f32 0x3F800000#32)
    (hln : ln j = Ideal.log (Ideal.ofBits .f32 0x40000000#32)) :
    select (ori (cmpf .olt t lo) (cmpf .oge t hi)) zero (addf (Host.floor (Host.divf (Host.log t) ln)) one) j = rE (t j) := by
  unfold rE
  rw [← hlo, ← hhi, ← h0, ← h1, ← hln]
  rfl

theorem scale_vec (t e ln : FVec Ideal S .f32) (j : S.Idx) (he : e j = rE (t j))
    (hln : ln j = Ideal.log (Ideal.ofBits .f32 0x40000000#32)) : Host.exp (mulf e ln) j = sScale (t j) := by
  rw [← scale_ref, ← he, ← hln]
  rfl

theorem inv_vec (t e ln : FVec Ideal S .f32) (j : S.Idx) (he : e j = rE (t j))
    (hln : ln j = Ideal.log (Ideal.ofBits .f32 0x40000000#32)) : Host.exp (mulf (Host.negf e) ln) j = sInv (t j) := by
  rw [← inv_ref, ← he, ← hln]
  rfl

theorem clip_vec (lo hi v i : FVec Ideal S .f32) (j : S.Idx) (hlo : lo j = Ideal.ofBits .f32 0xC3E00000#32)
    (hhi : hi j = Ideal.ofBits .f32 0x43E00000#32) : minimumf hi (maximumf lo (mulf v i)) j = clip (v j * i j) := by
  unfold clip
  rw [← hlo, ← hhi]
  rfl

end Cert.Attn

end
-- ==== Proof.Prep.lean ====
module

public import proofs.«01_k».proof.Proof.Ops

/-! # The keys and the values, quantised -/

@[expose] public section

set_option maxRecDepth 16384

noncomputable section

namespace Cert.Attn

open Idealize.ShloMosaic
open Cert.KernelIdeal hiding sig Λ₀
open Cert.KernelIdeal.Facts₀ Cert.KernelIdeal.Facts

variable [Facts] {X K V : ℕ → ℕ → EReal}

/-- A buffer holds the keys of the block. -/
def IsK (K : ℕ → ℕ → EReal) (y : S1x2048x128.Idx → EReal) : Prop := ∀ (r : Fin 2048) (d : Fin 128), y (ix3 0 r d) = K r d

theorem meanK_eq {y : FVec Ideal S1x2048x128 .bf16} (h : IsK K y) (d : Fin 128) : meanK y (ix2 0 d) = kMean K d := by
  rw [meanK_apply, kMean]
  congr 1
  exact Finset.sum_congr rfl fun r _ => h r d

section Group

variable {mean : FVec Ideal S1x128 .bf16} (hm : ∀ d : Fin 128, mean (ix2 0 d) = kMean K d)
  {j : ℕ} {x : FVec Ideal S1x64x128 .bf16} (hx : ∀ (a : Fin 64) (d : Fin 128), x (ix3 0 a d) = K (64 * j + a) d)

include hm hx

theorem kDev_eq (a : Fin 64) (d : Fin 128) : kDev mean x (ix2 a d) = kD K (64 * j + a) d := by
  rw [kDev_apply, hm, hx, kD]

theorem kMax_eq : kMax (kDev mean x) (ix2 0 0) = kT K j := by
  rw [kMax_apply, kT]
  congr 1
  exact iSup_congr fun a => iSup_congr fun d => by rw [kDev_eq hm hx]

theorem kCode_eq (a : Fin 64) (d : Fin 128) : kCode lg (kDev mean x) (ix2 a d) = KC K (64 * j + a) d := by
  rw [kCode_apply, kDev_eq hm hx, kMax_eq hm hx, KC, show (64 * j + a.val) / 64 = j by omega]

theorem kScale_eq : scaleOf S1x1 lg (kMax (kDev mean x)) (ix2 0 0) = KS K j := by
  rw [scaleOf_apply, kMax_eq hm hx, KS]

end Group

/-- After `n` groups of keys. -/
structure KInv (K : ℕ → ℕ → EReal) (n : ℕ) (row : FVec Ideal S1x32 .f32) (s : St Ideal) : Prop where
  k : IsK K (s .k)
  kc : ∀ (r : Fin 2048) (d : Fin 128), r.val < 64 * n → s .kc (ix4 0 0 r d) = KC K r d
  kb : ∀ (r : Fin 2048) (d : Fin 128), r.val < 64 * n → s .kb (ix2 r d) = KC K r d
  skc : ∀ (g : Fin 32) (a : Fin 8) (l : Fin 128), g.val < n → s .skc (ix3 g a l) = KS K g * sm
  row : ∀ g : Fin 32, g.val < n → row (ix2 0 g) = KS K g

theorem quantK_inv {mean : FVec Ideal S1x128 .bf16} (hm : ∀ d : Fin 128, mean (ix2 0 d) = kMean K d) (j : ℕ) (hj : j < 32)
    (row : FVec Ideal S1x32 .f32) (s : St Ideal) (h : KInv K j row s) :
    KInv K (j + 1) (eval (quantK lg sm mean j hj row) s).1 (eval (quantK lg sm mean j hj row) s).2 := by
  have hx : ∀ (a : Fin 64) (d : Fin 128), (fun i => s .k ((Rect.unit (s := S1x2048x128) ![0, 64 * j, 0] S1x64x128.size
      (inb3 (by decide) (by omega) (by decide))).emb i)) (ix3 0 a d) = K (64 * j + a) d := by
    intro a d
    refine (congrArg (s .k) (get3 _ 0 a d)).trans ?_
    refine (h.k ⟨64 * j + a, by omega⟩ ⟨0 + d, by omega⟩).trans ?_
    simp only [Nat.zero_add]
  refine ⟨fun r d => h.k r d, fun r d hr => ?_, fun r d hr => ?_, fun g a l hg => ?_, fun g hg => ?_⟩
  · refine (put4 _ _ _ 0 0 r d).trans ?_
    split
    · next hc =>
      pointwise
      refine (kCode_eq hm hx _ _).trans ?_
      congr 1
      show 64 * j + (r.val - 64 * j) = r; omega
    · next hc => exact h.kc r d (by have := r.isLt; have := d.isLt; simp at hc; omega)
  · refine (put2 _ _ _ r d).trans ?_
    split
    · next hc =>
      pointwise
      refine (kCode_eq hm hx _ _).trans ?_
      congr 1
      show 64 * j + (r.val - 64 * j) = r; omega
    · next hc => exact h.kb r d (by have := r.isLt; have := d.isLt; simp at hc; omega)
  · refine (put3 _ _ _ g a l).trans ?_
    split
    · next hc =>
      pointwise [kTile]
      rw [show g.val = j by omega]
      exact congrArg (· * sm) (kScale_eq hm hx)
    · next hc => exact h.skc g a l (by have := a.isLt; have := l.isLt; simp at hc; omega)
  · refine (kRow_apply _ _ _ _).trans ?_
    rw [select_eq _ _ (by omega) (by omega), kScale_eq hm hx]
    split
    · next hc => rw [hc]
    · next hc => exact h.row g (by omega)

/-! ## The values -/

section Values

theorem vMax_eq {y : FVec Ideal S1x2048x128 .bf16} (h : IsK V y) (d : Fin 128) : vMax y (ix2 0 d) = vT V d := by
  rw [vMax_apply, vT]
  congr 1
  exact iSup_congr fun r => by rw [h r d]

theorem vClip_eq {Y : ℕ → ℕ → EReal} {y : FVec Ideal S1x128x128 .bf16} {inv : FVec Ideal S1x128 .f32}
    (hy : ∀ a d : Fin 128, y (ix3 0 a d) = Y a d) (hi : ∀ d : Fin 128, inv (ix2 0 d) = sInv (vT V d)) (a d : Fin 128) :
    vClip inv y (ix2 a d) = clip (Y a d * sInv (vT V d)) := by
  rw [vClip_apply, hy, hi]

/-- After `n` groups of values. -/
structure VInv (V : ℕ → ℕ → EReal) (n : ℕ) (s : St Ideal) : Prop where
  v : IsK V (s .v)
  vc : ∀ (r : Fin 2048) (d : Fin 128), r.val < 128 * n → s .vc (ix4 0 0 r d) = VC V r d
  vt : ∀ (d : Fin 128) (r : Fin 2048), r.val < 128 * n → s .vt (ix2 d r) = VC V r d

theorem quantV_inv {inv : FVec Ideal S1x128 .f32} (hi : ∀ d : Fin 128, inv (ix2 0 d) = sInv (vT V d)) (j : ℕ) (hj : j < 16)
    (u : PUnit) (s : St Ideal) (h : VInv V j s) : VInv V (j + 1) (eval (quantV inv j hj u) s).2 := by
  have hx : ∀ (a : Fin 128) (d : Fin 128), (fun i => s .v ((Rect.unit (s := S1x2048x128) ![0, 128 * j, 0] S1x128x128.size
      (inb3 (by decide) (by omega) (by decide))).emb i)) (ix3 0 a d) = V (128 * j + a) d := by
    intro a d
    refine (congrArg (s .v) (get3 _ 0 a d)).trans ?_
    refine (h.v ⟨128 * j + a, by omega⟩ ⟨0 + d, by omega⟩).trans ?_
    simp only [Nat.zero_add]
  refine ⟨fun r d => h.v r d, fun r d hr => ?_, fun d r hr => ?_⟩
  · refine (put4 _ _ _ 0 0 r d).trans ?_
    split
    · next hc =>
      pointwise
      refine (vClip_eq (Y := fun a d => V (128 * j + a) d) hx hi _ _).trans ?_
      rw [VC]
      simp only [Nat.sub_zero]
      rw [show 128 * j + (r.val - 128 * j) = r.val by omega]
    · next hc => exact h.vc r d (by have := r.isLt; have := d.isLt; simp at hc; omega)
  · refine (put2 _ _ _ d r).trans ?_
    split
    · next hc =>
      pointwise
      refine (vClip_eq (Y := fun a d => V (128 * j + a) d) hx hi _ _).trans ?_
      rw [VC]
      simp only [Nat.sub_zero]
      rw [show 128 * j + (r.val - 128 * j) = r.val by omega]
    · next hc => exact h.vt d r (by have := r.isLt; have := d.isLt; simp at hc; omega)

end Values

/-! ## What the two loops leave alone -/

theorem eval_ld {F : FTy → Type} {b : Bf} {off size h hp} (s : St F) :
    eval (ld b off size h hp) s = (fun i => s b ((Rect.unit off size h).emb i), s) := rfl
theorem eval_st {F : FTy → Type} {b : Bf} {off size h hp hr w} (s : St F) :
    eval (st b off size h hp hr w) s = (⟨⟩, Function.update s b (put (Rect.unit off size h) Finset.univ w (s b))) := rfl
theorem eval_ld_bind {F : FTy → Type} {β : Type} {b : Bf} {off size h hp} (s : St F) (k : _ → Cmd F β) :
    eval (ld b off size h hp >>= k) s = eval (k fun i => s b ((Rect.unit off size h).emb i)) s := rfl
theorem eval_st_bind {F : FTy → Type} {β : Type} {b : Bf} {off size h hp hr w} (s : St F) (k : PUnit → Cmd F β) :
    eval (st b off size h hp hr w >>= k) s
      = eval (k ⟨⟩) (Function.update s b (put (Rect.unit off size h) Finset.univ w (s b))) := rfl
theorem eval_pure {F : FTy → Type} {α : Type} (a : α) (s : St F) : eval (pure a : Cmd F α) s = (a, s) := rfl

theorem quantK_keeps {b : Bf} (h1 : b ≠ .kc) (h2 : b ≠ .kb) (h3 : b ≠ .skc) (cl cs : Ideal .f32) (mean) (j hj row) :
    Keeps b (quantK (F := Ideal) cl cs mean j hj row) :=
  Keeps.bind Keeps.ld fun _ => Keeps.bind Keeps.ld fun _ => Keeps.bind (Keeps.st h1) fun _ => Keeps.bind Keeps.ld fun _ =>
    Keeps.bind (Keeps.st h2) fun _ => Keeps.bind Keeps.ld fun _ => Keeps.bind (Keeps.st h3) fun _ => Keeps.ret _

theorem quantV_keeps {b : Bf} (h1 : b ≠ .vc) (h2 : b ≠ .vt) (inv) (j hj u) :
    Keeps b (quantV (F := Ideal) inv j hj u) :=
  Keeps.bind Keeps.ld fun _ => Keeps.bind Keeps.ld fun _ => Keeps.bind (Keeps.st h1) fun _ => Keeps.bind Keeps.ld fun _ =>
    Keeps.st h2

theorem putMean_keeps {b : Bf} (h1 : b ≠ .mk) (kv : BitVec 32) (x) : Keeps b (putMean (F := Ideal) kv x) := by
  unfold putMean
  dsimp only
  split
  · refine Keeps.bind Keeps.ld fun _ => Keeps.bind (Keeps.st h1) fun _ => ?_
    split
    · exact Keeps.bind Keeps.ld fun _ => Keeps.bind Keeps.ld fun _ => Keeps.bind (Keeps.st h1) fun _ => Keeps.ret _
    · exact Keeps.ret _
  · split
    · exact Keeps.bind Keeps.ld fun _ => Keeps.bind Keeps.ld fun _ => Keeps.bind (Keeps.st h1) fun _ => Keeps.ret _
    · exact Keeps.ret _

/-- The mean's row is written; at the second key head the first row stays. -/
theorem putMean_spec (n : Fin 2) {x : FVec Ideal S1x2048x128 .bf16} (hx : IsK K x) (s : St Ideal) (a : Fin 2) (d : Fin 128) :
    (eval (putMean (BitVec.ofNat 32 n.val) x) s).2 .mk (ix3 0 a d)
      = if n.val ≤ a.val then kMean K d else s .mk (ix3 0 a d) := by
  fin_cases n
  · refine Eq.trans (b := put (Rect.unit (s := S1x2x128) ![0, 0, 0] S1x2x128.size (inb3 (by decide) (by decide) (by decide)))
      Finset.univ (shapeCast S1x2x128 (meanK2 x) shapeCasts_S2x128_S1x2x128) (s .mk) (ix3 0 a d)) rfl ?_
    refine (put3 _ _ _ 0 a d).trans ?_
    rw [dif_pos (by have := a.isLt; have := d.isLt; refine ⟨⟨?_, ?_⟩, ⟨?_, ?_⟩, ?_, ?_⟩ <;> simp <;> omega), if_pos (Nat.zero_le _)]
    pointwise
    exact (meanK2_apply _ _ _).trans (meanK_eq hx d)
  · refine Eq.trans (b := put (Rect.unit (s := S1x2x128) ![0, 0, 0] S1x2x128.size (inb3 (by decide) (by decide) (by decide)))
      Finset.univ (meanRow 1#32 x fun i => s .mk ((Rect.unit (s := S1x2x128) ![0, 0, 0] S1x2x128.size
        (inb3 (by decide) (by decide) (by decide))).emb i)) (s .mk) (ix3 0 a d)) rfl ?_
    refine (put3 _ _ _ 0 a d).trans ?_
    rw [dif_pos (by have := a.isLt; have := d.isLt; refine ⟨⟨?_, ?_⟩, ⟨?_, ?_⟩, ?_, ?_⟩ <;> simp <;> omega)]
    refine (meanRow_apply _ _ _ ⟨a.val - 0, by omega⟩ ⟨d.val - 0, by omega⟩).trans ?_
    rw [get3]
    simp only [Nat.sub_zero, Nat.zero_add]
    rw [show (1#32) = BitVec.ofNat 32 1 from rfl, select_eq _ _ (by omega) (by omega)]
    by_cases h : a.val = 1
    · rw [if_pos h, if_pos (by simp [h])]; exact meanK_eq hx d
    · rw [if_neg h, if_neg (by simp; omega)]; rfl

/-! ## All of it -/

/-- What holds once the keys and values are quantised. -/
structure Ready (K V : ℕ → ℕ → EReal) (s : St Ideal) : Prop where
  kc : ∀ (r : Fin 2048) (d : Fin 128), s .kc (ix4 0 0 r d) = KC K r d
  kb : ∀ (r : Fin 2048) (d : Fin 128), s .kb (ix2 r d) = KC K r d
  skc : ∀ (g : Fin 32) (a : Fin 8) (l : Fin 128), s .skc (ix3 g a l) = KS K g * sm
  vt : ∀ (d : Fin 128) (r : Fin 2048), s .vt (ix2 d r) = VC V r d

/-- The results that are done then. -/
structure KVOut (K V : ℕ → ℕ → EReal) (n : Fin 2) (s0 s : St Ideal) : Prop where
  intro ::
  kc : ∀ (r : Fin 2048) (d : Fin 128), s .kc (ix4 0 0 r d) = KC K r d
  vc : ∀ (r : Fin 2048) (d : Fin 128), s .vc (ix4 0 0 r d) = VC V r d
  ks : ∀ (a : Fin 2) (g : Fin 32), s .ks (ix3 0 a g) = if a = n then KS K g else s0 .ks (ix3 0 a g)
  vs : ∀ (a : Fin 2) (d : Fin 128), s .vs (ix3 0 a d) = if a = n then VS V d else s0 .vs (ix3 0 a d)
  mk : ∀ (a : Fin 2) (d : Fin 128), s .mk (ix3 0 a d) = if n.val ≤ a.val then kMean K d else s0 .mk (ix3 0 a d)

theorem index_val (n : Fin 2) : (Scalar.indexCast (BitVec.ofNat 32 n.val)).toNat = n.val := by
  fin_cases n <;> rfl

theorem kLoop {s : St Ideal} (hk : IsK K (s .k)) {mean : FVec Ideal S1x128 .bf16} (hm : ∀ d : Fin 128, mean (ix2 0 d) = kMean K d) (row0) :
    KInv K 32 (eval (loop 32 (quantK lg sm mean) row0) s).1 (eval (loop 32 (quantK lg sm mean) row0) s).2 :=
  loop_inv 32 _ (KInv K) _ s ⟨hk, fun _ _ h => absurd h (by omega), fun _ _ h => absurd h (by omega),
      fun _ _ _ h => absurd h (by omega), fun _ h => absurd h (by omega)⟩ fun j hj a s h => quantK_inv hm j hj a s h

theorem vLoop {s : St Ideal} (hv : IsK V (s .v)) {inv : FVec Ideal S1x128 .f32} (hi : ∀ d : Fin 128, inv (ix2 0 d) = sInv (vT V d)) :
    VInv V 16 (eval (loop 16 (quantV inv) ⟨⟩) s).2 :=
  loop_inv 16 _ (fun n _ s => VInv V n s) _ s ⟨hv, fun _ _ h => absurd h (by omega), fun _ _ h => absurd h (by omega)⟩
    fun j hj a s h => quantV_inv hi j hj a s h

/-- The steps of `prep`, one after the other. -/
theorem prep_eval (kv : BitVec 32) (h : (Scalar.indexCast kv).toNat < 2) (s : St Ideal) :
    ∃ x s1 r2 s3 v s4, x = (fun i => s .k ((Rect.unit (s := S1x2048x128) ![0, 0, 0] S1x2048x128.size
        (inb3 (by decide) (by decide) (by decide))).emb i))
      ∧ s1 = (eval (putMean kv x) s).2
      ∧ r2 = eval (loop 32 (quantK lg sm (meanK x)) (broadcast S1x32 (Scalar.ofBits .f32 0x00000000#32))) s1
      ∧ s3 = Function.update r2.2 .ks (put (Rect.unit (s := S1x2x32) ![0, (Scalar.indexCast kv).toNat, 0] S1x1x32.size
        (inb3 (by decide) (by omega) (by decide))) Finset.univ (shapeCast S1x1x32 r2.1 shapeCasts_S1x32_S1x1x32) (r2.2 .ks))
      ∧ v = (fun i => s3 .v ((Rect.unit (s := S1x2048x128) ![0, 0, 0] S1x2048x128.size
        (inb3 (by decide) (by decide) (by decide))).emb i))
      ∧ s4 = Function.update s3 .vs (put (Rect.unit (s := S1x2x128) ![0, (Scalar.indexCast kv).toNat, 0] S1x1x128.size
        (inb3 (by decide) (by omega) (by decide))) Finset.univ
          (shapeCast S1x1x128 (scaleOf S1x128 lg (vMax v)) shapeCasts_S1x128_S1x1x128 : FVec Ideal S1x1x128 .f32) (s3 .vs))
      ∧ eval (prep lg sm kv h) s
        = (vCol (scaleOf S1x128 lg (vMax v)), (eval (loop 16 (quantV (invOf S1x128 lg (vMax v))) ⟨⟩) s4).2) := by
  refine ⟨_, _, _, _, _, _, rfl, rfl, rfl, rfl, rfl, rfl, ?_⟩
  unfold prep
  refine (eval_ld_bind _ _).trans ?_
  refine (eval_bind _ _ _).trans ?_
  refine (eval_bind _ _ _).trans ?_
  refine (eval_ld_bind _ _).trans ?_
  refine (eval_st_bind _ _).trans ?_
  refine (eval_ld_bind _ _).trans ?_
  refine (eval_ld_bind _ _).trans ?_
  refine (eval_st_bind _ _).trans ?_
  refine (eval_bind _ _ _).trans ?_
  exact eval_pure _ _

theorem prep_spec (n : Fin 2) (s : St Ideal) (hk : IsK K (s .k)) (hv : IsK V (s .v)) :
    let r := eval (prep lg sm (BitVec.ofNat 32 n.val) (kv_lt n)) s
    (∀ a d : Fin 128, r.1 (ix2 a d) = VS V a) ∧ Ready K V r.2 ∧ KVOut K V n s r.2 ∧ r.2 .x = s .x ∧ r.2 .qs = s .qs := by
  intro r
  obtain ⟨x, s1, r2, s3, v, s4, ex, e1, e2, e3, ev, e4, er⟩ := prep_eval (BitVec.ofNat 32 n.val) (kv_lt n) s
  have hx : IsK K x := by
    intro a d
    rw [ex]
    refine (congrArg (s .k) (get3 _ 0 a d)).trans ?_
    refine (hk ⟨0 + a, by omega⟩ ⟨0 + d, by omega⟩).trans ?_
    simp only [Nat.zero_add]
  have k1 : ∀ b, b ≠ Bf.mk → s1 b = s b := fun b hb => by rw [e1]; exact putMean_keeps hb _ _ s
  have i2 : KInv K 32 r2.1 r2.2 := by
    rw [e2]; exact kLoop (by rw [k1 _ (by decide)]; exact hk) (meanK_eq hx) _
  have k2 : ∀ b, b ≠ Bf.kc → b ≠ Bf.kb → b ≠ Bf.skc → r2.2 b = s1 b := fun b h1 h2 h3 => by
    rw [e2]; exact Keeps.loop (fun j hj a => quantK_keeps h1 h2 h3 _ _ _ _ _ _) _ s1
  have k3 : ∀ b, b ≠ Bf.ks → s3 b = r2.2 b := fun b h => by rw [e3]; exact Function.update_of_ne h _ _
  have k4 : ∀ b, b ≠ Bf.vs → s4 b = s3 b := fun b h => by rw [e4]; exact Function.update_of_ne h _ _
  have k5 : ∀ b, b ≠ Bf.vc → b ≠ Bf.vt → r.2 b = s4 b := fun b h1 h2 => by
    refine (congrFun (congrArg Prod.snd er) b).trans ?_
    dsimp only
    exact Keeps.loop (fun j hj a => quantV_keeps h1 h2 _ _ _ _) _ s4
  have sv : s3 .v = s .v := by rw [k3 _ (by decide), k2 _ (by decide) (by decide) (by decide), k1 _ (by decide)]
  have hvv : IsK V v := by
    intro a d
    rw [ev]
    refine (congrArg (s3 .v) (get3 _ 0 a d)).trans ?_
    rw [sv]
    refine (hv ⟨0 + a, by omega⟩ ⟨0 + d, by omega⟩).trans ?_
    simp only [Nat.zero_add]
  have hs : ∀ d : Fin 128, (scaleOf S1x128 lg (vMax v) : FVec Ideal S1x128 .f32) (ix2 0 d) = VS V d := fun d => by
    rw [scaleOf_apply, vMax_eq hvv]; rfl
  have i5 : VInv V 16 r.2 := by
    rw [show r.2 = _ from congrArg Prod.snd er]
    exact vLoop (by rw [k4 _ (by decide), sv]; exact hv) fun d => by rw [invOf_apply, vMax_eq hvv]
  refine ⟨fun a d => ?_, ⟨fun r d => ?_, fun r d => ?_, fun g a l => ?_, fun d r => ?_⟩,
    ⟨fun r d => ?_, fun r d => ?_, fun a g => ?_, fun a d => ?_, fun a d => ?_⟩, ?_, ?_⟩
  · rw [show r.1 = _ from congrArg Prod.fst er]; dsimp only; rw [vCol_apply, hs]
  · rw [k5 _ (by decide) (by decide), k4 _ (by decide), k3 _ (by decide)]; exact i2.kc r d (by omega)
  · rw [k5 _ (by decide) (by decide), k4 _ (by decide), k3 _ (by decide)]; exact i2.kb r d (by omega)
  · rw [k5 _ (by decide) (by decide), k4 _ (by decide), k3 _ (by decide)]; exact i2.skc g a l (by omega)
  · exact i5.vt d r (by omega)
  · rw [k5 _ (by decide) (by decide), k4 _ (by decide), k3 _ (by decide)]; exact i2.kc r d (by omega)
  · exact i5.vc r d (by omega)
  · rw [k5 _ (by decide) (by decide), k4 _ (by decide), e3, Function.update_self]
    refine (put3 _ _ _ 0 a g).trans ?_
    split
    · next hc =>
      have := index_val n
      rw [if_pos (by ext; omega)]
      pointwise
      exact i2.row _ (by omega)
    · next hc =>
      rw [if_neg (fun h => hc (by subst h; have := index_val a; have := g.isLt; refine ⟨⟨?_, ?_⟩, ⟨?_, ?_⟩, ?_, ?_⟩ <;> simp at * <;> omega)),
        k2 _ (by decide) (by decide) (by decide), k1 _ (by decide)]
  · rw [k5 _ (by decide) (by decide), e4, Function.update_self]
    refine (put3 _ _ _ 0 a d).trans ?_
    split
    · next hc =>
      have := index_val n
      rw [if_pos (by ext; omega)]
      pointwise
      exact hs _
    · next hc =>
      rw [if_neg (fun h => hc (by subst h; have := index_val a; have := d.isLt; refine ⟨⟨?_, ?_⟩, ⟨?_, ?_⟩, ?_, ?_⟩ <;> simp at * <;> omega)),
        k3 _ (by decide), k2 _ (by decide) (by decide) (by decide), k1 _ (by decide)]
  · rw [k5 _ (by decide) (by decide), k4 _ (by decide), k3 _ (by decide), k2 _ (by decide) (by decide) (by decide), e1]
    exact putMean_spec n hx s a d
  · rw [k5 _ (by decide) (by decide), k4 _ (by decide), k3 _ (by decide), k2 _ (by decide) (by decide) (by decide), k1 _ (by decide)]
  · rw [k5 _ (by decide) (by decide), k4 _ (by decide), k3 _ (by decide), k2 _ (by decide) (by decide) (by decide), k1 _ (by decide)]

end Cert.Attn

end
-- ==== Proof.Query.lean ====
module

public import proofs.«01_k».proof.Proof.Prep

/-! # The queries, quantised -/

@[expose] public section

set_option maxRecDepth 16384

noncomputable section

namespace Cert.Attn

open Idealize.ShloMosaic
open Cert.KernelIdeal hiding sig Λ₀
open Cert.KernelIdeal.Facts₀ Cert.KernelIdeal.Facts

variable [Facts] {X K V : ℕ → ℕ → EReal}

/-! ## A masked store -/

theorem put_on_eq {s : Shape} {α : Type} (r : Rect s) (M : Finset r.shape.Idx) (w : r.shape.Idx → α) (Y : s.Idx → α) :
    put r M w Y = put r Finset.univ (fun i => haveI := Classical.propDecidable; if i ∈ M then w i else Y (r.emb i)) Y := by
  classical
  funext j
  by_cases h : ∃ i, r.emb i = j
  · obtain ⟨i, rfl⟩ := h
    rw [put_emb r Finset.univ _ Y (Finset.mem_univ i)]
    by_cases hi : i ∈ M
    · rw [put_emb r M w Y hi]; simp [hi]
    · rw [put_of_not r M w Y fun k hk e => hi (by have := r.emb.injective e; subst this; exact hk)]; simp [hi]
  · rw [put_of_not r M w Y fun i _ e => h ⟨i, e⟩, put_of_not r _ _ Y fun i _ e => h ⟨i, e⟩]

/-! ## One head -/

/-- A buffer holds the queries of the block. -/
def IsX (X : ℕ → ℕ → EReal) (y : S1x2048x512.Idx → EReal) : Prop := ∀ (r : Fin 2048) (d : Fin 512), y (ix3 0 r d) = X r d

section Head

variable {q h : ℕ} {x : FVec Ideal S1x128x128 .bf16} (hx : ∀ a d : Fin 128, x (ix3 0 a d) = X (128 * q + a) (128 * h + d))

include hx

theorem qMean_eq (d : Fin 128) : qMean x (ix2 0 d) = qM X q h d := by
  rw [qMean_apply, qM]
  congr 1
  exact Finset.sum_congr rfl fun r _ => hx r d

theorem qDev_eq (a d : Fin 128) : qDev x (ix2 a d) = qD X (128 * q + a) h d := by
  rw [qDev_apply, qMean_eq hx, hx, qD, show (128 * q + a.val) / 128 = q by omega]

theorem qMax_eq (a d : Fin 128) : qMax x (ix2 a d) * c448 = qT X (128 * q + a) h := by
  rw [qMax_apply, qT]
  congr 1
  exact iSup_congr fun e => by rw [qDev_eq hx]

theorem qCode_eq (z : Fin 1) (a d : Fin 128) : qCode lg x (ix3 z a d) = QC X (128 * q + a) h d := by
  obtain rfl : z = 0 := Subsingleton.elim _ _
  rw [qCode_apply, qDev_eq hx, qInv_apply, qMax_eq hx, QC]

theorem qMeanD_eq (z : Fin 1) (a d : Fin 128) : qMeanD lg x (ix3 z a d) = qM X q h d * sInv (qT X (128 * q + a) h) := by
  obtain rfl : z = 0 := Subsingleton.elim _ _
  rw [qMeanD_apply, qMean_eq hx, qInv_apply, qMax_eq hx]

theorem qScale_eq (a : Fin 8) (d : Fin 128) : qScale lg x (ix2 a d) = QS X (128 * q + d) h := by
  rw [qScale_apply, qMax_eq hx, QS]

end Head

theorem headRow_apply (a : Fin 8) (l : Fin 128) : headRow (ix2 a l) = BitVec.ofNat 32 (a.val % 4) := by
  pointwise [headRow]
  fin_cases a <;> rfl

theorem select_headRow (h : ℕ) (y z : FVec Ideal S8x128 .f32) (a : Fin 8) (l : Fin 128) :
    select (cmpi .eq headRow (broadcast S8x128 (BitVec.ofNat 32 h))) y z (ix2 a l)
      = Scalar.select (IntOp.cmpi .eq (BitVec.ofNat 32 (a.val % 4)) (BitVec.ofNat 32 h)) (y (ix2 a l)) (z (ix2 a l)) := by
  rw [← headRow_apply a l]; rfl

theorem ownRows_apply (n : Fin 2) (a : Fin 8) (l : Fin 128) : ownRows (BitVec.ofNat 32 n.val) (ix2 a l) = 1 ↔ a.val / 4 = n.val := by
  pointwise [ownRows]
  fin_cases n <;> fin_cases a <;> decide

theorem updRow_apply (old : FVec Ideal S1x1x2x128 .bf16) (w : FVec Ideal S1x1x1x128 .bf16) (p : ℕ) (h) (z y : Fin 1) (a : Fin 2) (d : Fin 128) :
    updateSlice old w ![0, 0, p, 0] h (ix4 z y a d) = if a.val = p then w (ix4 0 0 0 d) else old (ix4 z y a d) := by
  unfold updateSlice
  by_cases hp : a.val = p
  · rw [if_pos hp, dif_pos (by intro i; fin_cases i <;> simp [ix4, hp])]
    congr 1
    funext i
    apply Fin.ext
    fin_cases i <;> simp [ix4, hp]
  · rw [if_neg hp, dif_neg (fun hh => hp (by have := hh 2; simp [ix4] at this; omega))]

/-- The queries of block `qb` in their slot, `n` heads of them. -/
structure Slot (X : ℕ → ℕ → EReal) (qb n : ℕ) (s : St Ideal) : Prop where
  qd : ∀ (p : Fin 2) (l : Fin 512) (d : Fin 128), p.val = qb % 2 → l.val < 128 * n →
    s .qd (ix3 p l d) = QC X (tok qb l) (l / 128) d
  mqd : ∀ (p : Fin 2) (l : Fin 512) (d : Fin 128), p.val = qb % 2 → l.val < 128 * n →
    s .mqd (ix3 p l d) = qM X qb (l / 128) d * sInv (qT X (tok qb l) (l / 128))
  qsr : ∀ (p : Fin 2) (a : Fin 8) (l : Fin 512), p.val = qb % 2 → l.val < 128 * n →
    s .qsr (ix3 p a l) = QS X (tok qb l) (l / 128)

/-- The slot of parity `e` is as it was. -/
structure Same (e : ℕ) (s0 s : St Ideal) : Prop where
  qd : ∀ (p : Fin 2) (l : Fin 512) (d : Fin 128), p.val ≠ e → s .qd (ix3 p l d) = s0 .qd (ix3 p l d)
  mqd : ∀ (p : Fin 2) (l : Fin 512) (d : Fin 128), p.val ≠ e → s .mqd (ix3 p l d) = s0 .mqd (ix3 p l d)
  qsr : ∀ (p : Fin 2) (a : Fin 8) (l : Fin 512), p.val ≠ e → s .qsr (ix3 p a l) = s0 .qsr (ix3 p a l)

theorem Same.slot {e q n : ℕ} {s0 s : St Ideal} (h : Same e s0 s) (hq : q % 2 ≠ e) (h0 : Slot X q n s0) : Slot X q n s :=
  ⟨fun p l d hp hl => (h.qd p l d (by omega)).trans (h0.qd p l d hp hl),
    fun p l d hp hl => (h.mqd p l d (by omega)).trans (h0.mqd p l d hp hl),
    fun p a l hp hl => (h.qsr p a l (by omega)).trans (h0.qsr p a l hp hl)⟩

/-- After `n` heads of block `qb`. -/
structure QInv (X : ℕ → ℕ → EReal) (qb : ℕ) (s0 : St Ideal) (n : ℕ) (tk : FVec Ideal S8x128 .f32) (s : St Ideal) : Prop where
  x : IsX X (s .x)
  tk : ∀ (a : Fin 8) (l : Fin 128), a.val % 4 < n → tk (ix2 a l) = QS X (128 * qb + l) (a.val % 4)
  slot : Slot X qb n s
  same : Same (qb % 2) s0 s
  qc : ∀ (r : Fin 2048) (c : Fin 512), (r.val < 128 * qb ∨ (r.val < 128 * (qb + 1) ∧ c.val < 128 * n)) →
    s .qc (ix3 0 r c) = QC X r (c / 128) (c % 128)
  mq : ∀ (a : Fin 4) (g : Fin 16) (d : Fin 128), (g.val < qb ∨ (g.val = qb ∧ a.val < n)) → s .mq (ix4 (0 : Fin 1) a g d) = qM X g a d

theorem quantHead_inv {qb : ℕ} (hq : qb < 16) {s0 : St Ideal} (h : ℕ) (hh : h < 4) (tk : FVec Ideal S8x128 .f32) (s : St Ideal)
    (I : QInv X qb s0 h tk s) :
    QInv X qb s0 (h + 1) (eval (quantHead lg qb hq h hh tk) s).1 (eval (quantHead lg qb hq h hh tk) s).2 := by
  have hx : ∀ (a : Fin 128) (d : Fin 128), (fun i => s .x ((Rect.unit (s := S1x2048x512) ![0, 128 * qb, 128 * h] S1x128x128.size
      (inb3 (by decide) (by omega) (by omega))).emb i)) (ix3 0 a d) = X (128 * qb + a) (128 * h + d) := by
    intro a d
    refine (congrArg (s .x) (get3 _ 0 a d)).trans ?_
    exact I.x ⟨128 * qb + a, by omega⟩ ⟨128 * h + d, by omega⟩
  refine ⟨fun r d => I.x r d, fun a l ha => ?_, ⟨fun p l d hp hl => ?_, fun p l d hp hl => ?_, fun p a l hp hl => ?_⟩,
    ⟨fun p l d hp => ?_, fun p l d hp => ?_, fun p a l hp => ?_⟩, fun r c hc => ?_, fun a g d hg => ?_⟩
  · refine (select_headRow h _ tk a l).trans ?_
    rw [ select_eq _ _ (by omega) (by omega)]
    split
    · next e => refine (qScale_eq hx a l).trans ?_; rw [e]
    · next e => exact I.tk a l (by omega)
  · refine (put3 _ _ _ p l d).trans ?_
    split
    · next hc =>
      refine (qCode_eq hx _ _ _).trans ?_
      have e1 : l.val / 128 = h := by omega
      simp only [tok, e1, Nat.sub_zero]
      rw [show l.val - 128 * h = l.val % 128 by omega]
    · next hc => exact I.slot.qd p l d hp (by have := d.isLt; omega)
  · refine (put3 _ _ _ p l d).trans ?_
    split
    · next hc =>
      refine (qMeanD_eq hx _ _ _).trans ?_
      have e1 : l.val / 128 = h := by omega
      simp only [tok, e1, Nat.sub_zero]
      rw [show l.val - 128 * h = l.val % 128 by omega]
    · next hc => exact I.slot.mqd p l d hp (by have := d.isLt; omega)
  · refine (put3 _ _ _ p a l).trans ?_
    split
    · next hc =>
      pointwise
      refine (qScale_eq hx _ _).trans ?_
      have e1 : l.val / 128 = h := by omega
      simp only [tok, e1]
      rw [show l.val - 128 * h = l.val % 128 by omega]
    · next hc => exact I.slot.qsr p a l hp (by have := a.isLt; omega)
  · refine (put3 _ _ _ p l d).trans ?_
    rw [dif_neg (by omega)]
    exact I.same.qd p l d hp
  · refine (put3 _ _ _ p l d).trans ?_
    rw [dif_neg (by omega)]
    exact I.same.mqd p l d hp
  · refine (put3 _ _ _ p a l).trans ?_
    rw [dif_neg (by omega)]
    exact I.same.qsr p a l hp
  · refine (put3 _ _ _ 0 r c).trans ?_
    split
    · next hd =>
      refine (qCode_eq hx _ _ _).trans ?_
      have e1 : c.val / 128 = h := by omega
      simp only [e1]
      rw [show c.val - 128 * h = c.val % 128 by omega, show 128 * qb + (r.val - 128 * qb) = r.val by omega]
    · next hd => exact I.qc r c (by simp at hd; omega)
  · refine (put4 _ _ _ 0 a g d).trans ?_
    split
    · next hd =>
      refine (updRow_apply _ _ _ _ _ _ _ _).trans ?_
      split
      · next e =>
        simp only at e
        pointwise
        refine (qMean_eq hx _).trans ?_
        rw [show g.val = qb by omega, show a.val = h by omega]
      · next e =>
        simp only at e
        refine (congrArg (s .mq) (get4 _ _ _ _ _)).trans ?_
        refine (I.mq ⟨h + (a.val - h), by omega⟩ ⟨2 * (qb / 2) + (g.val - 2 * (qb / 2)), by omega⟩ ⟨0 + (d.val - 0), by omega⟩ (by simp only; omega)).trans ?_
        simp only [Nat.zero_add, Nat.sub_zero]
        rw [show h + (a.val - h) = a.val by omega, show 2 * (qb / 2) + (g.val - 2 * (qb / 2)) = g.val by omega]
    · next hd => exact I.mq a g d (by have := d.isLt; simp at hd; omega)

theorem quantHead_keeps {b : Bf} (h1 : b ≠ .mq) (h2 : b ≠ .qd) (h3 : b ≠ .mqd) (h4 : b ≠ .qsr) (h5 : b ≠ .qc) (cl : Ideal .f32) (qb hq h hh tk) :
    Keeps b (quantHead (F := Ideal) cl qb hq h hh tk) :=
  Keeps.bind Keeps.ld fun _ => Keeps.bind Keeps.ld fun _ => Keeps.bind Keeps.ld fun _ => Keeps.bind (Keeps.st h1) fun _ =>
    Keeps.bind Keeps.ld fun _ => Keeps.bind (Keeps.st h2) fun _ => Keeps.bind Keeps.ld fun _ => Keeps.bind (Keeps.st h3) fun _ =>
    Keeps.bind Keeps.ld fun _ => Keeps.bind (Keeps.st h4) fun _ => Keeps.bind Keeps.ld fun _ => Keeps.bind (Keeps.st h5) fun _ =>
    Keeps.ret _

/-! ## One block -/

/-- The results of the queries, up to block `qb`, at key head `n`; `s0` is what was there before. -/
structure QDone (X : ℕ → ℕ → EReal) (n : Fin 2) (s0 : St Ideal) (qb : ℕ) (s : St Ideal) : Prop where
  x : IsX X (s .x)
  qc : ∀ (r : Fin 2048) (c : Fin 512), r.val < 128 * qb → s .qc (ix3 0 r c) = QC X r (c / 128) (c % 128)
  mq : ∀ (a : Fin 4) (g : Fin 16) (d : Fin 128), g.val < qb → s .mq (ix4 0 a g d) = qM X g a d
  qs : ∀ (a : Fin 8) (r : Fin 2048), s .qs (ix3 0 a r)
    = if r.val < 128 * qb ∧ a.val / 4 = n.val then QS X r (a.val % 4) else s0 .qs (ix3 0 a r)

theorem quantQ_spec {n : Fin 2} {s0 : St Ideal} {qb : ℕ} (hq : qb < 16) {s : St Ideal} (D : QDone X n s0 qb s) :
    let s' := (eval (quantQ lg (BitVec.ofNat 32 n.val) qb hq) s).2
    QDone X n s0 (qb + 1) s' ∧ Slot X qb 4 s' ∧ Same (qb % 2) s s'
      ∧ ∀ b, b ≠ Bf.mq → b ≠ Bf.qd → b ≠ Bf.mqd → b ≠ Bf.qsr → b ≠ Bf.qc → b ≠ Bf.qs → s' b = s b := by
  obtain ⟨r, hr⟩ : ∃ r, r = eval (loop 4 (quantHead lg qb hq) (broadcast S8x128 (Scalar.ofBits .f32 0x3F800000#32))) s := ⟨_, rfl⟩
  have I : QInv X qb s 4 r.1 r.2 := by
    rw [hr]
    exact loop_inv 4 _ (QInv X qb s) _ s ⟨D.x, fun _ _ h => absurd h (by omega),
      ⟨fun _ _ _ _ h => absurd h (by omega), fun _ _ _ _ h => absurd h (by omega), fun _ _ _ _ h => absurd h (by omega)⟩,
      ⟨fun _ _ _ _ => rfl, fun _ _ _ _ => rfl, fun _ _ _ _ => rfl⟩,
      fun r c h => D.qc r c (by omega), fun a g d h => D.mq a g d (by omega)⟩ fun j hj a s h => quantHead_inv hq j hj a s h
  have k : ∀ b, b ≠ Bf.mq → b ≠ Bf.qd → b ≠ Bf.mqd → b ≠ Bf.qsr → b ≠ Bf.qc → r.2 b = s b := fun b h1 h2 h3 h4 h5 => by
    rw [hr]; exact Keeps.loop (fun j hj a => quantHead_keeps h1 h2 h3 h4 h5 _ _ _ _ _ _) _ s
  have e : (eval (quantQ lg (BitVec.ofNat 32 n.val) qb hq) s).2
      = Function.update r.2 .qs (put (Rect.unit (s := S1x8x2048) ![0, 0, 128 * qb] S1x8x128.size (inb3 (by decide) (by decide) (by omega)))
          (IVec.on (shapeCast S1x8x128 (ownRows (BitVec.ofNat 32 n.val)) shapeCasts_S8x128_S1x8x128))
          (shapeCast S1x8x128 r.1 shapeCasts_S8x128_S1x8x128 : FVec Ideal S1x8x128 .f32) (r.2 .qs)) := by
    rw [hr]
    refine (congrArg Prod.snd (eval_bind _ _ _)).trans ?_
    rfl
  have u : ∀ b, b ≠ Bf.qs → (eval (quantQ lg (BitVec.ofNat 32 n.val) qb hq) s).2 b = r.2 b := fun b hb => by
    rw [e]; exact Function.update_of_ne hb _ _
  refine ⟨⟨?_, fun r c h => ?_, fun a g d h => ?_, fun a t => ?_⟩, ⟨fun p l d hp hl => ?_, fun p l d hp hl => ?_, fun p a l hp hl => ?_⟩,
    ⟨fun p l d hp => ?_, fun p l d hp => ?_, fun p a l hp => ?_⟩, fun b h1 h2 h3 h4 h5 h6 => ?_⟩
  · rw [u _ (by decide)]; exact I.x
  · rw [u _ (by decide)]; exact I.qc r c (by omega)
  · rw [u _ (by decide)]; exact I.mq a g d (by omega)
  · rw [e, Function.update_self, put_on_eq]
    refine (put3 _ _ _ 0 a t).trans ?_
    have hs : r.2 .qs = s .qs := k _ (by decide) (by decide) (by decide) (by decide) (by decide)
    split
    · next hc =>
      have hm : (ix3 (⟨(0 : Fin 1).val - 0, by omega⟩ : Fin 1) (⟨a.val - 0, by omega⟩ : Fin 8) (⟨t.val - 128 * qb, by omega⟩ : Fin 128)
          ∈ IVec.on (shapeCast S1x8x128 (ownRows (BitVec.ofNat 32 n.val)) shapeCasts_S8x128_S1x8x128)) ↔ a.val / 4 = n.val := by
        rw [IVec.on, Finset.mem_filter]
        simp only [Finset.mem_univ, true_and]
        have : shapeCast S1x8x128 (ownRows (BitVec.ofNat 32 n.val)) shapeCasts_S8x128_S1x8x128
            (ix3 (⟨(0 : Fin 1).val - 0, by omega⟩ : Fin 1) (⟨a.val - 0, by omega⟩ : Fin 8) (⟨t.val - 128 * qb, by omega⟩ : Fin 128))
            = ownRows (BitVec.ofNat 32 n.val) (ix2 a ⟨t.val - 128 * qb, by omega⟩) := by
          pointwise
        rw [this]
        exact ownRows_apply n a _
      by_cases h : a.val / 4 = n.val
      · refine (if_pos (hm.mpr h)).trans ?_
        rw [if_pos ⟨by omega, h⟩]
        pointwise
        refine (I.tk ⟨a.val - 0, by omega⟩ ⟨t.val - 128 * qb, by omega⟩ (by omega)).trans ?_
        simp only [Nat.sub_zero]
        rw [show 128 * qb + (t.val - 128 * qb) = t.val by omega]
      · refine (if_neg (fun hh => h (hm.mp hh))).trans ?_
        rw [if_neg (fun hh => h hh.2)]
        refine (congrArg (r.2 .qs) (get3 _ _ _ _)).trans ?_
        rw [hs]
        refine Eq.trans (congrArg (s .qs) ?_) ((D.qs a t).trans (if_neg fun hh => h hh.2))
        congr 1
        · exact Fin.ext (by simp)
        · exact Fin.ext (by simp only; omega)
    · next hc =>
      have hlt := a.isLt
      rw [hs, D.qs a t]
      have : ¬ (128 * qb ≤ t.val ∧ t.val < 128 * qb + 128) := fun hh => hc ⟨⟨by simp, by simp⟩, ⟨by omega, by omega⟩, hh⟩
      by_cases h : t.val < 128 * qb ∧ a.val / 4 = n.val
      · rw [if_pos h, if_pos (by omega)]
      · rw [if_neg h, if_neg (by omega)]
  · rw [u _ (by decide)]; exact I.slot.qd p l d hp (by omega)
  · rw [u _ (by decide)]; exact I.slot.mqd p l d hp (by omega)
  · rw [u _ (by decide)]; exact I.slot.qsr p a l hp (by omega)
  · rw [u _ (by decide)]; exact I.same.qd p l d hp
  · rw [u _ (by decide)]; exact I.same.mqd p l d hp
  · rw [u _ (by decide)]; exact I.same.qsr p a l hp
  · rw [u _ h6, k b h1 h2 h3 h4 h5]

end Cert.Attn

end
-- ==== Proof.Score.lean ====
module

public import proofs.«01_k».proof.Proof.Query

/-! # The scores of a query block, chunk by chunk -/

@[expose] public section

set_option maxRecDepth 16384

noncomputable section

namespace Cert.Attn

open Idealize.ShloMosaic
open Cert.KernelIdeal hiding sig Λ₀
open Cert.KernelIdeal.Facts₀ Cert.KernelIdeal.Facts

variable [Facts] {X K V : ℕ → ℕ → EReal}

/-! ## Sixty-four keys at a time -/

theorem sup64 (f : ℕ → EReal) (g : ℕ) :
    max ((Finset.range (64 * g)).sup f) (⨆ a : Fin 8, ⨆ x : Fin 8, f (64 * g + (x.val * 8 + a.val))) = (Finset.range (64 * (g + 1))).sup f := by
  apply le_antisymm
  · refine max_le (Finset.sup_mono (Finset.range_mono (by omega))) (iSup_le fun a => iSup_le fun x => ?_)
    exact Finset.le_sup (f := f) (Finset.mem_range.mpr (by omega))
  · refine Finset.sup_le fun k hk => ?_
    rw [Finset.mem_range] at hk
    by_cases h : k < 64 * g
    · exact le_max_of_le_left (Finset.le_sup (f := f) (Finset.mem_range.mpr h))
    · refine le_max_of_le_right ?_
      refine le_trans ?_ (le_iSup_of_le (⟨(k - 64 * g) % 8, by omega⟩ : Fin 8) (le_iSup_of_le (⟨(k - 64 * g) / 8, by omega⟩ : Fin 8) le_rfl))
      simp only
      rw [show 64 * g + ((k - 64 * g) / 8 * 8 + (k - 64 * g) % 8) = k by omega]

theorem sum64 (f : ℕ → EReal) (g : ℕ) :
    ∑ k ∈ Finset.range (64 * (g + 1)), f k = ∑ k ∈ Finset.range (64 * g), f k + ∑ i : Fin 64, f (64 * g + i.val) := by
  rw [show 64 * (g + 1) = 64 * g + 64 by omega, Finset.sum_range_add, Finset.sum_range (fun x => f (64 * g + x))]

theorem sum8 (f : ℕ → EReal) (g : ℕ) :
    ∑ a : Fin 8, ∑ x : Fin 8, f (64 * g + (x.val * 8 + a.val)) = ∑ i : Fin 64, f (64 * g + i.val) := by
  rw [Finset.sum_comm, ← Finset.sum_product', ← finProdFinEquiv.sum_comp (fun i : Fin (8 * 8) => f (64 * g + i.val))]
  refine Finset.sum_congr rfl fun p _ => ?_
  rw [finProdFinEquiv_apply_val]
  congr 2
  omega

theorem iSup_mul {n : ℕ} (f : Fin n → EReal) {W : EReal} (hW : ∃ c : ℝ, 0 < c ∧ W = (c : EReal)) : (⨆ x, f x) * W = ⨆ x, f x * W := by
  obtain ⟨c, hc, rfl⟩ := hW
  rw [← Finset.sup_univ_eq_iSup, ← Finset.sup_univ_eq_iSup]
  refine Finset.comp_sup_eq_sup_comp (fun x : EReal => x * c) (fun a b => ?_) (EReal.bot_mul_coe_of_pos hc)
  show max a b * c = max (a * c) (b * c)
  rw [mul_comm, coe_mul_max c hc, mul_comm (c : EReal) a, mul_comm (c : EReal) b]

theorem wt_pos (q g l : ℕ) : ∃ c : ℝ, 0 < c ∧ wt X K q g l = (c : EReal) := by
  obtain ⟨a, ha, ea⟩ := scale_pos (qT X (tok q l) (l / 128))
  obtain ⟨b, hb, eb⟩ := scale_pos (kT K g)
  refine ⟨a * (b * ((Real.sqrt 128)⁻¹ * (Real.log 2)⁻¹)), ?_, ?_⟩
  · have : 0 < Real.log 2 := Real.log_pos (by norm_num)
    positivity
  · rw [wt, QS, KS, ea, eb, sm]
    push_cast
    rfl

/-- A comparison of small numbers, as words. -/
theorem select_sle (i o j : ℕ) (hi : i < 64) (ho : o < 128) (hj : j < 512) (x y : EReal) :
    Scalar.select (IntOp.cmpi .sle (IntOp.addi (BitVec.ofNat 32 i) (BitVec.ofNat 32 o)) (IntOp.andi (BitVec.ofNat 32 j) 127#32)) x y
      = if i + o ≤ j % 128 then x else y := by
  have e1 : IntOp.addi (BitVec.ofNat 32 i) (BitVec.ofNat 32 o) = BitVec.ofNat 32 (i + o) := by
    simp only [IntOp.addi, BitVec.ofNat_add]
  have e2 : IntOp.andi (BitVec.ofNat 32 j) 127#32 = BitVec.ofNat 32 (j % 128) := by
    apply BitVec.eq_of_toNat_eq
    simp only [IntOp.andi, BitVec.toNat_and, BitVec.toNat_ofNat]
    rw [Nat.mod_eq_of_lt (show j < 2 ^ 32 by omega), Nat.mod_eq_of_lt (show 127 < 2 ^ 32 by omega),
      Nat.mod_eq_of_lt (show j % 128 < 2 ^ 32 by omega)]
    exact Nat.and_two_pow_sub_one_eq_mod j 7
  rw [e1, e2]
  have : BitVec.sle (BitVec.ofNat 32 (i + o)) (BitVec.ofNat 32 (j % 128)) = decide (i + o ≤ j % 128) := by
    have e : ∀ n : ℕ, n < 2 ^ 20 → (BitVec.ofNat 32 n).toInt = n := fun n hn => by
      have : (BitVec.ofNat 32 n).toNat = n := by rw [BitVec.toNat_ofNat]; exact Nat.mod_eq_of_lt (by omega)
      rw [BitVec.toInt_eq_toNat_of_lt (by omega), this]
    rw [BitVec.sle, e _ (by omega), e _ (by omega)]
    congr 1
    exact propext (by omega)
  unfold IntOp.cmpi
  simp only [this]
  by_cases h : i + o ≤ j % 128 <;> simp [h, Scalar.select]

/-! ## What is kept of the scores -/

theorem Ready.of_keep {s0 s : St Ideal} (h : Ready K V s0) (e : ∀ b, b ≠ Bf.s → s b = s0 b) : Ready K V s :=
  ⟨fun r d => by rw [e _ (by decide)]; exact h.kc r d, fun r d => by rw [e _ (by decide)]; exact h.kb r d,
    fun g a l => by rw [e _ (by decide)]; exact h.skc g a l, fun d r => by rw [e _ (by decide)]; exact h.vt d r⟩

theorem Slot.of_keep {q n : ℕ} {s0 s : St Ideal} (h : Slot X q n s0) (e : ∀ b, b ≠ Bf.s → s b = s0 b) : Slot X q n s :=
  ⟨fun p l d hp hl => by rw [e _ (by decide)]; exact h.qd p l d hp hl, fun p l d hp hl => by rw [e _ (by decide)]; exact h.mqd p l d hp hl,
    fun p a l hp hl => by rw [e _ (by decide)]; exact h.qsr p a l hp hl⟩

/-- The scores of the first `n` keys are kept: as they are before the block, weighted and masked inside it. -/
def Rows (X K : ℕ → ℕ → EReal) (q n : ℕ) (s : St Ideal) : Prop :=
  ∀ (p : Fin 2) (k : Fin 2048) (l : Fin 512), p.val = q % 2 → k.val < n →
    s .s (ix3 p k l) = if k.val < 128 * q then raw X K q k l else zz X K q k l

/-- After `n` keys. -/
structure Scored (X K : ℕ → ℕ → EReal) (q : ℕ) (s0 : St Ideal) (n : ℕ) (m : FVec Ideal S8x512 .f32) (s : St Ideal) : Prop where
  keep : ∀ b, b ≠ Bf.s → s b = s0 b
  other : ∀ (p : Fin 2) (k : Fin 2048) (l : Fin 512), p.val ≠ q % 2 → s .s (ix3 p k l) = s0 .s (ix3 p k l)
  rows : Rows X K q n s
  sup : ∀ l : Fin 512, (⨆ a : Fin 8, m (ix2 a l)) = (Finset.range n).sup fun k => zz X K q k l

theorem Scored.start (q : ℕ) (s0 : St Ideal) : Scored X K q s0 0 m0 s0 := by
  refine ⟨fun _ _ => rfl, fun _ _ _ _ => rfl, fun _ _ _ _ h => absurd h (by omega), fun l => ?_⟩
  have : ∀ a : Fin 8, (m0 : FVec Ideal S8x512 .f32) (ix2 a l) = ⊥ := fun a => c_bot
  simp [this]

theorem Scored.cast {q n n' : ℕ} {s0 s : St Ideal} {m} (h : Scored X K q s0 n m s) (e : n = n') : Scored X K q s0 n' m s := e ▸ h

/-! ## One group of 64 keys -/

section Step

variable {q : ℕ} {s0 : St Ideal} (hR : Ready K V s0) (hS : Slot X q 4 s0)

include hR hS

theorem weight_eval (g : ℕ) (hg : g < 32) :
    ∃ w, eval (weight q g hg) s0 = (w, s0) ∧ ∀ (a : Fin 8) (l : Fin 512), w (ix2 a l) = wt X K q g l := by
  refine ⟨_, (eval_ld_bind _ _).trans ((eval_ld_bind _ _).trans (eval_pure _ _)), fun a l => ?_⟩
  refine (wgt_apply _ _ _ _).trans ?_
  refine (congrArg₂ (· * ·) (congrArg (s0 .qsr) (get3 _ _ _ _)) (congrArg (s0 .skc) (get3 _ _ _ _))).trans ?_
  refine (congrArg₂ (· * ·) (hS.qsr _ _ _ (by simp) (by simp only; omega)) (hR.skc _ _ _)).trans ?_
  simp only [wt, Nat.zero_add, Nat.add_zero]
  rfl

theorem tile256_eval (c : ℕ) (hc : c < 8) :
    ∃ t, eval (tile256 q c hc) s0 = (t, s0) ∧ ∀ (i : Fin 256) (l : Fin 512), t (ix2 i l) = raw X K q (256 * c + i) l := by
  refine ⟨_, (eval_ld_bind _ _).trans ((eval_ld_bind _ _).trans ((eval_ld_bind _ _).trans ((eval_ld_bind _ _).trans (eval_pure _ _)))),
    fun i l => ?_⟩
  refine (score256_apply _ _ _ _ _ _).trans ?_
  rw [raw]
  refine congrArg₂ (· + ·) (Finset.sum_congr rfl fun d _ => ?_) (Finset.sum_congr rfl fun d _ => ?_)
  · refine (congrArg₂ (· * ·) (congrArg (s0 .kc) (get4 _ _ _ _ _)) (congrArg (s0 .qd) (get3 _ _ _ _))).trans ?_
    refine (congrArg₂ (· * ·) (hR.kc _ _) (hS.qd _ _ _ (by simp) (by simp only; omega))).trans ?_
    simp only [Nat.zero_add, Nat.add_zero]
  · refine (congrArg₂ (· * ·) (congrArg (s0 .kb) (get2 _ _ _)) (congrArg (s0 .mqd) (get3 _ _ _ _))).trans ?_
    refine (congrArg₂ (· * ·) (hR.kb _ _) (hS.mqd _ _ _ (by simp) (by simp only; omega))).trans ?_
    simp only [Nat.zero_add, Nat.add_zero]

theorem tile128_eval (c : ℕ) (hc : c < 8) :
    ∃ t, eval (tile128 q c hc) s0 = (t, s0) ∧ ∀ (i : Fin 128) (l : Fin 512), t (ix2 i l) = raw X K q (256 * c + i) l := by
  refine ⟨_, (eval_ld_bind _ _).trans ((eval_ld_bind _ _).trans ((eval_ld_bind _ _).trans ((eval_ld_bind _ _).trans (eval_pure _ _)))),
    fun i l => ?_⟩
  refine (score128_apply _ _ _ _ _ _).trans ?_
  rw [raw]
  refine congrArg₂ (· + ·) (Finset.sum_congr rfl fun d _ => ?_) (Finset.sum_congr rfl fun d _ => ?_)
  · refine (congrArg₂ (· * ·) (congrArg (s0 .kc) (get4 _ _ _ _ _)) (congrArg (s0 .qd) (get3 _ _ _ _))).trans ?_
    refine (congrArg₂ (· * ·) (hR.kc _ _) (hS.qd _ _ _ (by simp) (by simp only; omega))).trans ?_
    simp only [Nat.zero_add, Nat.add_zero]
  · refine (congrArg₂ (· * ·) (congrArg (s0 .kb) (get2 _ _ _)) (congrArg (s0 .mqd) (get3 _ _ _ _))).trans ?_
    refine (congrArg₂ (· * ·) (hR.kb _ _) (hS.mqd _ _ _ (by simp) (by simp only; omega))).trans ?_
    simp only [Nat.zero_add, Nat.add_zero]

/-- Storing the rows of one group. -/
theorem putS_rows {g : ℕ} {s s' : St Ideal} {m m' : FVec Ideal S8x512 .f32} (S : Scored X K q s0 (64 * g) m s) (hg : g < 32) (y : FVec Ideal S64x512 .f32)
    (hs' : s' = (eval (putS q g hg y) s).2)
    (hy : ∀ (i : Fin 64) (l : Fin 512), y (ix2 i l) = if 64 * g + i.val < 128 * q then raw X K q (64 * g + i) l else zz X K q (64 * g + i) l)
    (hm : ∀ l : Fin 512, (⨆ a : Fin 8, m' (ix2 a l))
      = max (⨆ a : Fin 8, m (ix2 a l)) (⨆ a : Fin 8, ⨆ x : Fin 8, zz X K q (64 * g + (x.val * 8 + a.val)) l)) :
    Scored X K q s0 (64 * (g + 1)) m' s' := by
  have e : s' = Function.update s .s (put (Rect.unit (s := S2x2048x512) ![q % 2, 64 * g, 0] S1x64x512.size
      (inb3 (by omega) (by omega) (by decide))) Finset.univ (shapeCast S1x64x512 y shapeCasts_S64x512_S1x64x512 : FVec Ideal S1x64x512 .f32) (s .s)) := hs'
  refine ⟨fun b hb => ?_, fun p k l hp => ?_, fun p k l hp hk => ?_, fun l => ?_⟩
  · rw [e, Function.update_of_ne hb]; exact S.keep b hb
  · rw [e, Function.update_self]
    refine (put3 _ _ _ p k l).trans ?_
    rw [dif_neg (by omega)]
    exact S.other p k l hp
  · rw [e, Function.update_self]
    refine (put3 _ _ _ p k l).trans ?_
    split
    · next hc =>
      pointwise
      refine (hy _ _).trans ?_
      simp only [Nat.sub_zero]
      rw [show 64 * g + (k.val - 64 * g) = k.val by omega]
    · next hc => exact S.rows p k l hp (by have := l.isLt; omega)
  · rw [hm, S.sup, ← sup64]

theorem groupFull_step {g : ℕ} {s : St Ideal} {m : FVec Ideal S8x512 .f32} (S : Scored X K q s0 (64 * g) m s) (hg : g < 32)
    (hq : 64 * (g + 1) ≤ 128 * q) (sl : FVec Ideal S64x512 .f32) (hsl : ∀ (i : Fin 64) (l : Fin 512), sl (ix2 i l) = raw X K q (64 * g + i) l) :
    Scored X K q s0 (64 * (g + 1)) (eval (groupFull q g hg sl m) s).1 (eval (groupFull q g hg sl m) s).2 := by
  obtain ⟨w, hw, ew⟩ := weight_eval (hR.of_keep S.keep) (hS.of_keep S.keep) g hg
  have e : eval (groupFull q g hg sl m) s = (maxFull m w sl, (eval (putS q g hg sl) s).2) := by
    refine (eval_bind _ _ _).trans ?_
    rw [hw]
    exact (eval_bind _ _ _).trans (eval_pure _ _)
  refine putS_rows hR hS S hg sl (congrArg Prod.snd e) (fun i l => ?_) fun l => ?_
  · rw [hsl, if_pos (by omega)]
  · rw [e]
    simp only [maxFull_apply, iSup_sup_eq]
    congr 1
    refine iSup_congr fun a => ?_
    rw [ew, iSup_mul _ (wt_pos q g l)]
    refine iSup_congr fun x => ?_
    rw [hsl, zz, if_pos (by simp only [tok]; omega), show (64 * g + (x.val * 8 + a.val)) / 64 = g by omega]

theorem groupDiag_step {g o : ℕ} {s : St Ideal} {m : FVec Ideal S8x512 .f32} (S : Scored X K q s0 (64 * g) m s) (hg : g < 32)
    (ho : o < 128) (hq : 64 * g = 128 * q + o) (sl : FVec Ideal S64x512 .f32)
    (hsl : ∀ (i : Fin 64) (l : Fin 512), sl (ix2 i l) = raw X K q (64 * g + i) l) :
    Scored X K q s0 (64 * (g + 1)) (eval (groupDiag (BitVec.ofNat 32 o) q g hg sl m) s).1 (eval (groupDiag (BitVec.ofNat 32 o) q g hg sl m) s).2 := by
  obtain ⟨w, hw, ew⟩ := weight_eval (hR.of_keep S.keep) (hS.of_keep S.keep) g hg
  have e : eval (groupDiag (BitVec.ofNat 32 o) q g hg sl m) s
      = (maxDiag m (masked (BitVec.ofNat 32 o) w sl), (eval (putS q g hg (masked (BitVec.ofNat 32 o) w sl)) s).2) := by
    refine (eval_bind _ _ _).trans ?_
    rw [hw]
    exact (eval_bind _ _ _).trans (eval_pure _ _)
  have hy : ∀ (i : Fin 64) (l : Fin 512), masked (BitVec.ofNat 32 o) w sl (ix2 i l) = zz X K q (64 * g + i) l := fun i l => by
    rw [masked_apply, select_sle _ _ _ i.isLt ho l.isLt, ew, hsl, zz, show (64 * g + i.val) / 64 = g by omega]
    refine if_congr ?_ rfl rfl
    simp only [tok]
    omega
  refine putS_rows hR hS S hg _ (congrArg Prod.snd e) (fun i l => ?_) fun l => ?_
  · rw [hy, if_neg (by omega)]
  · rw [e]
    simp only [maxDiag_apply, iSup_sup_eq, hy]

/-! ## A chunk -/

theorem scoreFull_step {c : ℕ} {s : St Ideal} {m : FVec Ideal S8x512 .f32} (S : Scored X K q s0 (256 * c) m s) (hc : c < 8)
    (hq : 256 * (c + 1) ≤ 128 * q) :
    Scored X K q s0 (256 * (c + 1)) (eval (scoreFull q c hc m) s).1 (eval (scoreFull q c hc m) s).2 := by
  obtain ⟨t, ht, et⟩ := tile256_eval (hR.of_keep S.keep) (hS.of_keep S.keep) c hc
  unfold scoreFull
  rw [eval_bind, ht, eval_bind, eval_bind, eval_bind]
  refine Scored.cast (groupFull_step hR hS (g := 4 * c + 3) (groupFull_step hR hS (g := 4 * c + 2) (groupFull_step hR hS (g := 4 * c + 1)
    (groupFull_step hR hS (g := 4 * c) (S.cast (by omega)) _ (by omega) _ fun i l => ?_) _ (by omega) _ fun i l => ?_) _ (by omega) _ fun i l => ?_)
      _ (by omega) _ fun i l => ?_) (by omega)
  all_goals
    pointwise
    rw [et]
    congr 1
    simp only
    omega

theorem scoreOdd_step {c : ℕ} {s : St Ideal} {m : FVec Ideal S8x512 .f32} (S : Scored X K q s0 (256 * c) m s) (hc : c < 8)
    (hq : 128 * q = 256 * c + 128) :
    Scored X K q s0 (256 * (c + 1)) (eval (scoreOdd q c hc m) s).1 (eval (scoreOdd q c hc m) s).2 := by
  obtain ⟨t, ht, et⟩ := tile256_eval (hR.of_keep S.keep) (hS.of_keep S.keep) c hc
  unfold scoreOdd
  rw [eval_bind, ht, eval_bind, eval_bind, eval_bind]
  refine Scored.cast (groupDiag_step hR hS (g := 4 * c + 3) (o := 64) (groupDiag_step hR hS (g := 4 * c + 2) (o := 0) (groupFull_step hR hS (g := 4 * c + 1)
    (groupFull_step hR hS (g := 4 * c) (S.cast (by omega)) _ (by omega) _ fun i l => ?_) _ (by omega) _ fun i l => ?_) _ (by omega) (by omega) _ fun i l => ?_)
      _ (by omega) (by omega) _ fun i l => ?_) (by omega)
  all_goals
    pointwise
    rw [et]
    congr 1
    simp only
    omega

theorem scoreEven_step {c : ℕ} {s : St Ideal} {m : FVec Ideal S8x512 .f32} (S : Scored X K q s0 (256 * c) m s) (hc : c < 8)
    (hq : 128 * q = 256 * c) :
    Scored X K q s0 (256 * c + 128) (eval (scoreEven q c hc m) s).1 (eval (scoreEven q c hc m) s).2 := by
  obtain ⟨t, ht, et⟩ := tile128_eval (hR.of_keep S.keep) (hS.of_keep S.keep) c hc
  unfold scoreEven
  rw [eval_bind, ht, eval_bind]
  refine Scored.cast (groupDiag_step hR hS (g := 4 * c + 1) (o := 64) (groupDiag_step hR hS (g := 4 * c) (o := 0)
    (S.cast (by omega)) _ (by omega) (by omega) _ fun i l => ?_) _ (by omega) (by omega) _ fun i l => ?_) (by omega)
  all_goals
    pointwise
    rw [et]
    congr 1
    simp only
    omega

end Step

end Cert.Attn

end
-- ==== Proof.Prob.lean ====
module

public import proofs.«01_k».proof.Proof.Score

/-! # The exponentials of a query block and their products with the values -/

@[expose] public section

set_option maxRecDepth 16384

noncomputable section

namespace Cert.Attn

open Idealize.ShloMosaic
open Cert.KernelIdeal hiding sig Λ₀
open Cert.KernelIdeal.Facts₀ Cert.KernelIdeal.Facts

variable [Facts] {X K V : ℕ → ℕ → EReal}

theorem c_zero : Ideal.ofBits .f32 0x00000000#32 = 0 := by
  simp [Ideal.ofBits, Ideal.ieee]

/-- The exponentials of group `g`. -/
def IsP (X K : ℕ → ℕ → EReal) (q g : ℕ) (p : FVec Ideal S8x8x512 .f32) : Prop :=
  ∀ (x i : Fin 8) (l : Fin 512), p (ix3 x i l) = pp X K q (64 * g + (x.val * 8 + i.val)) l

theorem IsP.code {q g : ℕ} {p : FVec Ideal S8x8x512 .f32} (h : IsP X K q g p) (i : Fin 64) (l : Fin 512) :
    pCode p (ix2 i l) = pc X K q (64 * g + i) l := by
  rw [pCode_apply, h, pc]
  simp only
  rw [show i.val / 8 * 8 + i.val % 8 = i.val by omega]

/-- The first `n` keys are summed. -/
structure Summed (X K V : ℕ → ℕ → EReal) (q n : ℕ) (a : Acc Ideal) : Prop where
  l : ∀ l : Fin 512, ∑ i : Fin 8, a.1 (ix2 i l) = ∑ k ∈ Finset.range n, pp X K q k l
  v : ∀ (d : Fin 128) (l : Fin 512), (a.2.getD (constant S128x512 .f32 0x00000000#32) : FVec Ideal S128x512 .f32) (ix2 d l)
    = ∑ k ∈ Finset.range n, VC V k d * pc X K q k l

theorem Summed.start (q : ℕ) : Summed X K V q 0 (l0, none) := by
  refine ⟨fun l => ?_, fun d l => ?_⟩
  · have : ∀ i : Fin 8, (l0 : FVec Ideal S8x512 .f32) (ix2 i l) = 0 := fun i => c_zero
    simp [this]
  · simp only [Option.getD_none, Finset.range_zero, Finset.sum_empty]
    exact c_zero

theorem addL_sum {q g : ℕ} {m : FVec Ideal S8x512 .f32} {p : FVec Ideal S8x8x512 .f32} (hp : IsP X K q g p) {l : Fin 512}
    (hm : ∑ i : Fin 8, m (ix2 i l) = ∑ k ∈ Finset.range (64 * g), pp X K q k l) :
    ∑ i : Fin 8, addL m p (ix2 i l) = ∑ k ∈ Finset.range (64 * (g + 1)), pp X K q k l := by
  simp only [addL_apply, Finset.sum_add_distrib, hm, hp _ _ l]
  rw [sum64, sum8 fun k => pp X K q k l]

theorem accum_apply (a : Option (FVec Ideal S128x512 .f32)) (o : FVec Ideal S128x512 .f32) (d : Fin 128) (l : Fin 512) :
    accum a o (ix2 d l) = (a.getD (constant S128x512 .f32 0x00000000#32) : FVec Ideal S128x512 .f32) (ix2 d l) + o (ix2 d l) := by
  cases a with
  | none =>
    simp only [Option.getD_none]
    refine Eq.symm ((congrArg (· + o (ix2 d l)) (show (constant S128x512 .f32 0x00000000#32 : FVec Ideal S128x512 .f32) (ix2 d l) = 0 from c_zero)).trans ?_)
    exact zero_add _
  | some a => rfl

/-- What the exponentials of block `q` are made from. -/
structure Seen (X K V : ℕ → ℕ → EReal) (q : ℕ) (s : St Ideal) : Prop where
  ready : Ready K V s
  slot : Slot X q 4 s
  rows : Rows X K q (128 * (q + 1)) s

section Step

variable {q : ℕ} {s : St Ideal} (hS : Seen X K V q s)

include hS

theorem getS_eval (g : ℕ) (hg : g < 32) (h : 64 * (g + 1) ≤ 128 * (q + 1)) :
    ∃ x, eval (getS q g hg) s = (x, s) ∧ ∀ (i : Fin 64) (l : Fin 512),
      x (ix2 i l) = if 64 * g + i.val < 128 * q then raw X K q (64 * g + i) l else zz X K q (64 * g + i) l := by
  refine ⟨_, (eval_ld_bind _ _).trans (eval_pure _ _), fun i l => ?_⟩
  pointwise
  refine (congrArg (s .s) (get3 _ _ _ _)).trans ?_
  refine (hS.rows _ _ _ (by simp) (by simp only; omega)).trans ?_
  simp only [Nat.zero_add]

variable {mr : FVec Ideal S8x512 .f32} (hm : ∀ (i : Fin 8) (l : Fin 512), mr (ix2 i l) = mx X K q l - Ideal.ofBits .f32 0x41000000#32)

include hm

theorem expFull_eval (g : ℕ) (hg : g < 32) (h : 64 * (g + 1) ≤ 128 * q) :
    ∃ p, eval (expFull mr q g hg) s = (p, s) ∧ IsP X K q g p := by
  obtain ⟨x, hx, ex⟩ := getS_eval hS g hg (by omega)
  obtain ⟨w, hw, ew⟩ := weight_eval hS.ready hS.slot g hg
  refine ⟨expo mr (mulf (by8 x) (up8 w)), ?_, fun a i l => ?_⟩
  · unfold expFull
    rw [eval_bind, hx, eval_bind, hw]
    rfl
  · rw [expo_apply, hm, pp]
    have : (mulf (by8 x) (up8 w) : FVec Ideal S8x8x512 .f32) (ix3 a i l) = by8 x (ix3 a i l) * up8 w (ix3 a i l) := rfl
    rw [this, by8_apply, up8_apply, ex, ew, if_pos (by simp only; omega), zz, if_pos (by simp only [tok]; omega)]
    simp only
    rw [show (64 * g + (a.val * 8 + i.val)) / 64 = g by omega]

theorem expDiag_eval (g : ℕ) (hg : g < 32) (h : 64 * (g + 1) ≤ 128 * (q + 1)) (h' : 128 * q ≤ 64 * g) :
    ∃ p, eval (expDiag mr q g hg) s = (p, s) ∧ IsP X K q g p := by
  obtain ⟨x, hx, ex⟩ := getS_eval hS g hg h
  refine ⟨expo mr (by8 x), ?_, fun a i l => ?_⟩
  · unfold expDiag
    rw [eval_bind, hx]
    rfl
  · rw [expo_apply, hm, pp, by8_apply, ex, if_neg (by simp only; omega)]

omit hm in
theorem mulV_eval {c : ℕ} (hc : c < 8) {p0 p1 p2 p3 : FVec Ideal S8x8x512 .f32} (h0 : IsP X K q (4 * c) p0) (h1 : IsP X K q (4 * c + 1) p1)
    (h2 : IsP X K q (4 * c + 2) p2) (h3 : IsP X K q (4 * c + 3) p3) {a : Acc Ideal} (A : Summed X K V q (256 * c) a) :
    ∃ a', eval (mulV c hc p0 p1 p2 p3 a) s = (a', s) ∧ Summed X K V q (256 * (c + 1)) a' := by
  refine ⟨_, (eval_ld_bind _ _).trans (eval_pure _ _), fun l => ?_, fun d l => ?_⟩
  · rw [show 256 * (c + 1) = 64 * (4 * c + 3 + 1) by omega]
    refine addL_sum h3 ((addL_sum h2 ((addL_sum h1 ((addL_sum h0 ?_).trans ?_)).trans ?_)).trans ?_)
    · rw [A.l, show 256 * c = 64 * (4 * c) by omega]
    all_goals rfl
  · simp only [Option.getD_some]
    refine (accum_apply _ _ _ _).trans ?_
    rw [A.v, pv256_apply, show 256 * (c + 1) = 64 * (4 * c + 3 + 1) by omega, sum64, show 64 * (4 * c + 3) = 64 * (4 * c + 2 + 1) by omega, sum64,
      show 64 * (4 * c + 2) = 64 * (4 * c + 1 + 1) by omega, sum64, show 64 * (4 * c + 1) = 64 * (4 * c + 1) by omega, sum64,
      show 64 * (4 * c) = 256 * c by omega]
    simp only [add_assoc]
    congr 1
    have hv : ∀ (n : ℕ) (hn : n < 256) (h), (fun i => s .vt ((Rect.unit (s := S128x2048) ![0, 256 * c] S128x256.size h).emb i)) (ix2 d ⟨n, hn⟩)
        = VC V (256 * c + n) d := by
      intro n hn h
      refine (congrArg (s .vt) (get2 _ _ _)).trans ?_
      refine (hS.ready.vt _ _).trans ?_
      simp only [Nat.zero_add]
    refine congrArg₂ (· + ·) ?_ (congrArg₂ (· + ·) ?_ (congrArg₂ (· + ·) ?_ ?_))
    · refine Finset.sum_congr rfl fun x _ => ?_
      rw [h0.code, show 64 * (4 * c) = 256 * c by omega]
      congr 1
      refine (hv _ _ _).trans ?_
      first | rfl | (congr 1; omega)
    · refine Finset.sum_congr rfl fun x _ => ?_
      rw [h1.code]
      congr 1
      refine (hv _ _ _).trans ?_
      first | rfl | (congr 1; omega)
    · refine Finset.sum_congr rfl fun x _ => ?_
      rw [h2.code]
      congr 1
      refine (hv _ _ _).trans ?_
      first | rfl | (congr 1; omega)
    · refine Finset.sum_congr rfl fun x _ => ?_
      rw [h3.code]
      congr 1
      refine (hv _ _ _).trans ?_
      first | rfl | (congr 1; omega)

theorem probFull_eval {c : ℕ} (hc : c < 8) (h : 256 * (c + 1) ≤ 128 * q) {a : Acc Ideal} (A : Summed X K V q (256 * c) a) :
    ∃ a', eval (probFull mr q c hc a) s = (a', s) ∧ Summed X K V q (256 * (c + 1)) a' := by
  obtain ⟨p0, e0, i0⟩ := expFull_eval hS hm (4 * c) (by omega) (by omega)
  obtain ⟨p1, e1, i1⟩ := expFull_eval hS hm (4 * c + 1) (by omega) (by omega)
  obtain ⟨p2, e2, i2⟩ := expFull_eval hS hm (4 * c + 2) (by omega) (by omega)
  obtain ⟨p3, e3, i3⟩ := expFull_eval hS hm (4 * c + 3) (by omega) (by omega)
  obtain ⟨a', ea, ia⟩ := mulV_eval hS hc i0 i1 i2 i3 A
  refine ⟨a', ?_, ia⟩
  unfold probFull
  rw [eval_bind, e0, eval_bind, e1, eval_bind, e2, eval_bind, e3, ea]

theorem probOdd_eval {c : ℕ} (hc : c < 8) (h : 256 * c + 128 = 128 * q) {a : Acc Ideal} (A : Summed X K V q (256 * c) a) :
    ∃ a', eval (probOdd mr q c hc a) s = (a', s) ∧ Summed X K V q (256 * (c + 1)) a' := by
  obtain ⟨p0, e0, i0⟩ := expFull_eval hS hm (4 * c) (by omega) (by omega)
  obtain ⟨p1, e1, i1⟩ := expFull_eval hS hm (4 * c + 1) (by omega) (by omega)
  obtain ⟨p2, e2, i2⟩ := expDiag_eval hS hm (4 * c + 2) (by omega) (by omega) (by omega)
  obtain ⟨p3, e3, i3⟩ := expDiag_eval hS hm (4 * c + 3) (by omega) (by omega) (by omega)
  obtain ⟨a', ea, ia⟩ := mulV_eval hS hc i0 i1 i2 i3 A
  refine ⟨a', ?_, ia⟩
  unfold probOdd
  rw [eval_bind, e0, eval_bind, e1, eval_bind, e2, eval_bind, e3, ea]

theorem probEven_eval {c : ℕ} (hc : c < 8) (h : 256 * c = 128 * q) {a : Acc Ideal} (A : Summed X K V q (256 * c) a) :
    ∃ a', eval (probEven mr q c hc a) s = (a', s) ∧ Summed X K V q (256 * c + 128) a' := by
  obtain ⟨p0, e0, h0⟩ := expDiag_eval hS hm (4 * c) (by omega) (by omega) (by omega)
  obtain ⟨p1, e1, h1⟩ := expDiag_eval hS hm (4 * c + 1) (by omega) (by omega) (by omega)
  unfold probEven
  rw [eval_bind, e0, eval_bind, e1]
  refine ⟨_, (eval_ld_bind _ _).trans (eval_pure _ _), fun l => ?_, fun d l => ?_⟩
  · rw [show 256 * c + 128 = 64 * (4 * c + 1 + 1) by omega]
    refine addL_sum h1 ((addL_sum h0 ?_).trans ?_)
    · rw [A.l, show 256 * c = 64 * (4 * c) by omega]
    · rfl
  · simp only [Option.getD_some]
    refine (accum_apply _ _ _ _).trans ?_
    rw [A.v, pv128_apply, show 256 * c + 128 = 64 * (4 * c + 1 + 1) by omega, sum64, show 64 * (4 * c + 1) = 64 * (4 * c + 1) by omega, sum64,
      show 64 * (4 * c) = 256 * c by omega]
    simp only [add_assoc]
    congr 1
    have hv : ∀ (n : ℕ) (hn : n < 128) (h), (fun i => s .vt ((Rect.unit (s := S128x2048) ![0, 256 * c] S128x128.size h).emb i)) (ix2 d ⟨n, hn⟩)
        = VC V (256 * c + n) d := by
      intro n hn h
      refine (congrArg (s .vt) (get2 _ _ _)).trans ?_
      refine (hS.ready.vt _ _).trans ?_
      simp only [Nat.zero_add]
    refine congrArg₂ (· + ·) ?_ ?_
    · refine Finset.sum_congr rfl fun x _ => ?_
      rw [h0.code, show 64 * (4 * c) = 256 * c by omega]
      congr 1
      refine (hv _ _ _).trans ?_
      first | rfl | (congr 1; omega)
    · refine Finset.sum_congr rfl fun x _ => ?_
      rw [h1.code]
      congr 1
      refine (hv _ _ _).trans ?_
      first | rfl | (congr 1; omega)

end Step

end Cert.Attn

end
-- ==== Proof.Block.lean ====
module

public import proofs.«01_k».proof.Proof.Prob

/-! # The query blocks one after the other, and the whole body -/

@[expose] public section

set_option maxRecDepth 16384

noncomputable section

namespace Cert.Attn

open Idealize.ShloMosaic
open Cert.KernelIdeal hiding sig Λ₀
open Cert.KernelIdeal.Facts₀ Cert.KernelIdeal.Facts

variable [Facts] {X K V : ℕ → ℕ → EReal}

/-! ## The result of a block -/

theorem putOut_step {q : ℕ} (hq : q < 16) {h : ℕ} (hh : h < 4) {w : FVec Ideal S1x128x128 .bf16}
    (hw : ∀ (z : Fin 1) (i j : Fin 128), w (ix3 z i j) = oo X K V (128 * q + i) (128 * h + j)) {s : St Ideal}
    (H : ∀ (r : Fin 2048) (c : Fin 512), (r.val < 128 * q ∨ (r.val < 128 * (q + 1) ∧ c.val < 128 * h)) → s .o (ix3 0 r c) = oo X K V r c)
    (r : Fin 2048) (c : Fin 512) (hr : r.val < 128 * q ∨ (r.val < 128 * (q + 1) ∧ c.val < 128 * (h + 1))) :
    (eval (putOut q hq h hh w) s).2 .o (ix3 0 r c) = oo X K V r c := by
  refine (put3 _ _ _ 0 r c).trans ?_
  split
  · next hc =>
    refine (hw _ _ _).trans ?_
    simp only
    rw [show 128 * q + (r.val - 128 * q) = r.val by omega, show 128 * h + (c.val - 128 * h) = c.val by omega]
  · next hc => exact H r c (by simp at hc; omega)

theorem putOut_keeps {b : Bf} (hb : b ≠ .o) (q hq h hh w) : Keeps b (putOut (F := Ideal) q hq h hh w) :=
  Keeps.bind Keeps.ld fun _ => Keeps.st hb

theorem finish_keeps {b : Bf} (hb : b ≠ .o) (vcol q hq a) : Keeps b (finish (F := Ideal) vcol q hq a) :=
  Keeps.bind (putOut_keeps hb _ _ _ _ _) fun _ => Keeps.bind (putOut_keeps hb _ _ _ _ _) fun _ =>
    Keeps.bind (putOut_keeps hb _ _ _ _ _) fun _ => putOut_keeps hb _ _ _ _ _

section Finish

variable {vcol : FVec Ideal S128x128 .f32} (hv : ∀ a d : Fin 128, vcol (ix2 a d) = VS V a) {q : ℕ} (hq : q < 16) {a : Acc Ideal}
  (A : Summed X K V q (128 * (q + 1)) a)

include hv A

theorem outOf_eq {h : ℕ} (hh : h < 4) {x : FVec Ideal S128x128 .f32} {y : FVec Ideal S1x128 .f32}
    (hx : ∀ d i : Fin 128, x (ix2 d i) = (a.2.getD (constant S128x512 .f32 0x00000000#32) : FVec Ideal S128x512 .f32) (ix2 d ⟨128 * h + i, by omega⟩))
    (hy : ∀ i : Fin 128, y (ix2 0 i) = lInv a.1 (ix2 0 ⟨128 * h + i, by omega⟩)) (z : Fin 1) (i j : Fin 128) :
    outOf vcol x y (ix3 z i j) = oo X K V (128 * q + i) (128 * h + j) := by
  obtain rfl : z = 0 := Subsingleton.elim _ _
  rw [outOf_apply, hx, hy, hv, A.v, lInv_apply, A.l, oo]
  simp only [pa, ll]
  rw [show (128 * h + j.val) / 128 = h by omega, show (128 * q + i.val) % 128 = i.val by omega, show (128 * q + i.val) / 128 = q by omega,
    show (128 * h + j.val) % 128 = j.val by omega]

theorem finish_spec {s : St Ideal} (H : ∀ (r : Fin 2048) (c : Fin 512), r.val < 128 * q → s .o (ix3 0 r c) = oo X K V r c)
    (r : Fin 2048) (c : Fin 512) (hr : r.val < 128 * (q + 1)) :
    (eval (finish vcol q hq a) s).2 .o (ix3 0 r c) = oo X K V r c := by
  unfold finish
  simp only [eval_bind]
  refine putOut_step hq (h := 3) (by decide) (outOf_eq hv A (by decide) (fun d i => ?_) fun i => ?_)
    (putOut_step hq (h := 2) (by decide) (outOf_eq hv A (by decide) (fun d i => ?_) fun i => ?_)
      (putOut_step hq (h := 1) (by decide) (outOf_eq hv A (by decide) (fun d i => ?_) fun i => ?_)
        (putOut_step hq (h := 0) (by decide) (outOf_eq hv A (by decide) (fun d i => ?_) fun i => ?_)
          fun r c h => H r c (by omega)))) r c (by have := c.isLt; omega)
  all_goals pointwise

end Finish

/-! ## From block to block -/

/-- The buffers that the blocks leave alone. -/
def still : Bf → Bool
  | .mq | .qd | .mqd | .qsr | .qc | .qs | .s | .o => false
  | _ => true

/-- Block `q` has its scores; the results before it are there. -/
structure Global (X K V : ℕ → ℕ → EReal) (n : Fin 2) (s0 : St Ideal) (q : ℕ) (m : FVec Ideal S8x512 .f32) (s : St Ideal) : Prop where
  keep : ∀ b, still b = true → s b = s0 b
  done : QDone X n s0 (q + 1) s
  slot : Slot X q 4 s
  rows : Rows X K q (128 * (q + 1)) s
  sup : ∀ l : Fin 512, (⨆ a : Fin 8, m (ix2 a l)) = mx X K q l
  o : ∀ (r : Fin 2048) (c : Fin 512), r.val < 128 * q → s .o (ix3 0 r c) = oo X K V r c

theorem Ready.of_still {s0 s : St Ideal} (h : Ready K V s0) (e : ∀ b, still b = true → s b = s0 b) : Ready K V s :=
  ⟨fun r d => by rw [e _ rfl]; exact h.kc r d, fun r d => by rw [e _ rfl]; exact h.kb r d,
    fun g a l => by rw [e _ rfl]; exact h.skc g a l, fun d r => by rw [e _ rfl]; exact h.vt d r⟩

theorem QDone.of_eq {n : Fin 2} {s0 s s' : St Ideal} {q : ℕ} (h : QDone X n s0 q s) (e : ∀ b, b ≠ Bf.s → b ≠ Bf.o → s' b = s b) : QDone X n s0 q s' :=
  ⟨by rw [e _ (by decide) (by decide)]; exact h.x, fun r c hr => by rw [e _ (by decide) (by decide)]; exact h.qc r c hr,
    fun a g d hg => by rw [e _ (by decide) (by decide)]; exact h.mq a g d hg, fun a r => by rw [e _ (by decide) (by decide)]; exact h.qs a r⟩

theorem Seen.of_scored {q q' k : ℕ} (hp : q' % 2 ≠ q % 2) {s1 s : St Ideal} {m} (h : Seen X K V q s1) (S : Scored X K q' s1 k m s) : Seen X K V q s :=
  ⟨h.ready.of_keep S.keep, h.slot.of_keep S.keep, fun p k l hp' hk => by
    rw [S.other p k l (by omega)]; exact h.rows p k l hp' hk⟩

section Blocks

variable {n : Fin 2} {s0 : St Ideal} (hR : Ready K V s0) {vcol : FVec Ideal S128x128 .f32} (hv : ∀ a d : Fin 128, vcol (ix2 a d) = VS V a)

theorem mr_eq {q : ℕ} {m : FVec Ideal S8x512 .f32} {s : St Ideal} (G : Global X K V n s0 q m s) (i : Fin 8) (l : Fin 512) :
    rowMax m (ix2 i l) = mx X K q l - Ideal.ofBits .f32 0x41000000#32 := by
  rw [rowMax_apply, G.sup]

/-- One trip of the loop that scores one block and sums up another. -/
theorem pair_step {q q' : ℕ} (hp : q' % 2 ≠ q % 2) {s1 : St Ideal} (H : Seen X K V q s1) (hR1 : Ready K V s1) (hS1 : Slot X q' 4 s1)
    {mr : FVec Ideal S8x512 .f32} (hm : ∀ (i : Fin 8) (l : Fin 512), mr (ix2 i l) = mx X K q l - Ideal.ofBits .f32 0x41000000#32)
    {c : ℕ} (hc : c < 8) (hq : 256 * (c + 1) ≤ 128 * q) (hq' : 256 * (c + 1) ≤ 128 * q') (r : FVec Ideal S8x512 .f32 × Acc Ideal) (s : St Ideal)
    (J : Scored X K q' s1 (256 * c) r.1 s ∧ Summed X K V q (256 * c) r.2) :
    let e := eval (do
      let m' ← scoreFull q' c hc r.1
      let a' ← probFull mr q c hc r.2
      pure (m', a')) s
    Scored X K q' s1 (256 * (c + 1)) e.1.1 e.2 ∧ Summed X K V q (256 * (c + 1)) e.1.2 := by
  intro e
  have S := scoreFull_step hR1 hS1 J.1 hc hq'
  obtain ⟨a', ea, ia⟩ := probFull_eval (H.of_scored hp S) hm hc hq J.2
  have : e = (((eval (scoreFull q' c hc r.1) s).1, a'), (eval (scoreFull q' c hc r.1) s).2) := by
    refine (eval_bind _ _ _).trans ((eval_bind _ _ _).trans ?_)
    rw [ea]
    rfl
  rw [this]
  exact ⟨S, ia⟩

/-- What holds once the queries of the next block are there. -/
theorem quantQ_next {q q' : ℕ} (e : q' = q + 1) (hq : q' < 16) {m : FVec Ideal S8x512 .f32} {s : St Ideal} (G : Global X K V n s0 q m s)
    (hR : Ready K V s0) :
    let s1 := (eval (quantQ lg (BitVec.ofNat 32 n.val) q' hq) s).2
    QDone X n s0 (q' + 1) s1 ∧ Slot X q' 4 s1 ∧ Seen X K V q s1 ∧ (∀ b, still b = true → s1 b = s0 b) ∧ s1 .o = s .o := by
  subst e
  obtain ⟨D, S, M, k⟩ := quantQ_spec hq G.done
  have kk : ∀ b, still b = true → (eval (quantQ lg (BitVec.ofNat 32 n.val) (q + 1) hq) s).2 b = s0 b := fun b hb => by
    rw [k b, G.keep b hb] <;> (rintro rfl; cases hb)
  refine ⟨D, S, ⟨hR.of_still kk, M.slot (by omega) G.slot, ?_⟩, kk, k _ (by decide) (by decide) (by decide) (by decide) (by decide) (by decide)⟩
  intro p r l hp hr
  rw [k _ (by decide) (by decide) (by decide) (by decide) (by decide) (by decide)]
  exact G.rows p r l hp hr

include hv in
theorem block_end {q q' : ℕ} (e : q' = q + 1) (hq : q < 16) {s s1 s2 : St Ideal} {m : FVec Ideal S8x512 .f32}
    (ho : ∀ (r : Fin 2048) (c : Fin 512), r.val < 128 * q → s .o (ix3 0 r c) = oo X K V r c)
    (D : QDone X n s0 (q' + 1) s1) (S1 : Slot X q' 4 s1) (k1 : ∀ b, still b = true → s1 b = s0 b) (o1 : s1 .o = s .o)
    (S : Scored X K q' s1 (128 * (q' + 1)) m s2) {a : Acc Ideal} (A : Summed X K V q (128 * (q + 1)) a) :
    Global X K V n s0 q' m (eval (finish vcol q hq a) s2).2 := by
  subst e
  have f : ∀ b, b ≠ Bf.o → (eval (finish vcol q hq a) s2).2 b = s2 b := fun b hb => finish_keeps hb _ _ _ _ _
  refine ⟨fun b hb => ?_, D.of_eq fun b h1 h2 => ?_, ?_, fun p k l hp hk => ?_, S.sup, finish_spec hv hq A fun r c hr => ?_⟩
  · rw [f b (by rintro rfl; cases hb), S.keep b (by rintro rfl; cases hb), k1 b hb]
  · rw [f b h2, S.keep b h1]
  · have S2 := S1.of_keep S.keep
    exact ⟨fun p l d hp hl => by rw [f _ (by decide)]; exact S2.qd p l d hp hl, fun p l d hp hl => by rw [f _ (by decide)]; exact S2.mqd p l d hp hl,
      fun p a l hp hl => by rw [f _ (by decide)]; exact S2.qsr p a l hp hl⟩
  · rw [f _ (by decide)]; exact S.rows p k l hp hk
  · rw [S.keep _ (by decide), o1]; exact ho r c hr

include hR hv in
theorem evenBlock_step {t : ℕ} (ht : t < 8) {m : FVec Ideal S8x512 .f32} {s : St Ideal} (G : Global X K V n s0 (2 * t) m s) :
    Global X K V n s0 (2 * t + 1) (eval (evenBlock lg (BitVec.ofNat 32 n.val) vcol t ht m) s).1
      (eval (evenBlock lg (BitVec.ofNat 32 n.val) vcol t ht m) s).2 := by
  obtain ⟨D, S1, H, k1, o1⟩ := quantQ_next (q' := 2 * t + 1) rfl (by omega) G hR
  unfold evenBlock
  rw [eval_bind, eval_bind]
  generalize (eval (quantQ lg (BitVec.ofNat 32 n.val) (2 * t + 1) _) s).2 = s1 at D S1 H k1 o1 ⊢
  have hR1 := hR.of_still k1
  obtain ⟨J1, J2⟩ := loop_inv t (fun i hi (r : FVec Ideal S8x512 .f32 × Acc Ideal) => do
    let m' ← scoreFull (2 * t + 1) i (by omega) r.1
    let a' ← probFull (rowMax m) (2 * t) i (by omega) r.2
    pure (m', a')) (fun i r s => Scored X K (2 * t + 1) s1 (256 * i) r.1 s ∧ Summed X K V (2 * t) (256 * i) r.2) (m0, l0, none) s1
      ⟨Scored.start _ _, Summed.start _⟩
      fun i hi r s J => pair_step (by omega) H hR1 S1 (mr_eq G) (by omega) (by omega) (by omega) r s J
  generalize eval (loop t _ _) s1 = r at J1 J2 ⊢
  have J3 := scoreOdd_step hR1 S1 J1 ht (by omega)
  rw [eval_bind]
  generalize eval (scoreOdd (2 * t + 1) t ht r.1.1) r.2 = r3 at J3 ⊢
  obtain ⟨a, ea, ia⟩ := probEven_eval (H.of_scored (by omega) J3) (mr_eq G) ht (by omega) J2
  rw [eval_bind, ea, eval_bind]
  exact block_end hv rfl (by omega) G.o D S1 k1 o1 (J3.cast (by omega)) (by rw [show 128 * (2 * t + 1) = 256 * t + 128 by omega]; exact ia)

include hR hv in
theorem oddBlock_step {t : ℕ} (ht : t < 7) {m : FVec Ideal S8x512 .f32} {s : St Ideal} (G : Global X K V n s0 (2 * t + 1) m s) :
    Global X K V n s0 (2 * t + 2) (eval (oddBlock lg (BitVec.ofNat 32 n.val) vcol t ht m) s).1
      (eval (oddBlock lg (BitVec.ofNat 32 n.val) vcol t ht m) s).2 := by
  obtain ⟨D, S1, H, k1, o1⟩ := quantQ_next (q' := 2 * t + 2) rfl (by omega) G hR
  unfold oddBlock
  rw [eval_bind, eval_bind]
  generalize (eval (quantQ lg (BitVec.ofNat 32 n.val) (2 * t + 2) _) s).2 = s1 at D S1 H k1 o1 ⊢
  have hR1 := hR.of_still k1
  obtain ⟨J1, J2⟩ := loop_inv t (fun i hi (r : FVec Ideal S8x512 .f32 × Acc Ideal) => do
    let m' ← scoreFull (2 * t + 2) i (by omega) r.1
    let a' ← probFull (rowMax m) (2 * t + 1) i (by omega) r.2
    pure (m', a')) (fun i r s => Scored X K (2 * t + 2) s1 (256 * i) r.1 s ∧ Summed X K V (2 * t + 1) (256 * i) r.2) (m0, l0, none) s1
      ⟨Scored.start _ _, Summed.start _⟩
      fun i hi r s J => pair_step (by omega) H hR1 S1 (mr_eq G) (by omega) (by omega) (by omega) r s J
  generalize eval (loop t _ _) s1 = r at J1 J2 ⊢
  have J3 := scoreFull_step hR1 S1 J1 (by omega) (by omega)
  rw [eval_bind]
  generalize eval (scoreFull (2 * t + 2) t _ r.1.1) r.2 = r3 at J3 ⊢
  obtain ⟨a, ea, ia⟩ := probOdd_eval (H.of_scored (by omega) J3) (mr_eq G) (show t < 8 by omega) (by omega) J2
  rw [eval_bind, ea, eval_bind]
  have J4 := scoreEven_step hR1 S1 J3 (show t + 1 < 8 by omega) (by omega)
  generalize eval (scoreEven (2 * t + 2) (t + 1) _ r3.1) r3.2 = r4 at J4 ⊢
  rw [eval_bind]
  exact block_end hv rfl (by omega) G.o D S1 k1 o1 (J4.cast (by omega)) (by rw [show 128 * (2 * t + 1 + 1) = 256 * (t + 1) by omega]; exact ia)

include hR hv in
theorem lastBlock_step {m : FVec Ideal S8x512 .f32} {s : St Ideal} (G : Global X K V n s0 15 m s) :
    (∀ (r : Fin 2048) (c : Fin 512), (eval (lastBlock vcol m) s).2 .o (ix3 0 r c) = oo X K V r c)
      ∧ ∀ b, b ≠ Bf.o → (eval (lastBlock vcol m) s).2 b = s b := by
  have H : Seen X K V 15 s := ⟨hR.of_still G.keep, G.slot, G.rows⟩
  have J : (eval (loop 7 (fun i hi a => probFull (rowMax m) 15 i (by omega) a) (l0, none)) s).2 = s
      ∧ Summed X K V 15 (256 * 7) (eval (loop 7 (fun i hi a => probFull (rowMax m) 15 i (by omega) a) (l0, none)) s).1 := by
    refine loop_inv 7 (fun i hi a => probFull (rowMax m) 15 i (by omega) a) (fun i a s' => s' = s ∧ Summed X K V 15 (256 * i) a) (l0, none) s
      ⟨rfl, Summed.start _⟩ ?_
    rintro i hi a s' ⟨rfl, A⟩
    obtain ⟨a', ea, ia⟩ := probFull_eval H (mr_eq G) (show i < 8 by omega) (by omega) A
    rw [ea]
    exact ⟨rfl, ia⟩
  unfold lastBlock
  rw [eval_bind, J.1]
  obtain ⟨a, ea, ia⟩ := probOdd_eval H (mr_eq G) (c := 7) (by decide) (by omega) J.2
  rw [eval_bind, ea]
  exact ⟨fun r c => finish_spec hv (by decide) ia G.o r c (by omega), fun b hb => finish_keeps hb _ _ _ _ _⟩

include hR hv in
theorem blocks_spec (hx : IsX X (s0 .x)) :
    let s' := (eval (blocks lg (BitVec.ofNat 32 n.val) vcol) s0).2
    (∀ (r : Fin 2048) (c : Fin 512), s' .o (ix3 0 r c) = oo X K V r c) ∧ QDone X n s0 16 s' ∧ ∀ b, still b = true → s' b = s0 b := by
  have D0 : QDone X n s0 0 s0 := ⟨hx, fun _ _ h => absurd h (by omega), fun _ _ _ h => absurd h (by omega), fun a r => by
    rw [if_neg (by omega)]⟩
  obtain ⟨D, S1, -, k⟩ := quantQ_spec (qb := 0) (by decide) D0
  unfold blocks
  rw [eval_bind, eval_bind]
  generalize (eval (quantQ lg (BitVec.ofNat 32 n.val) 0 _) s0).2 = s1 at D S1 k ⊢
  have k1 : ∀ b, still b = true → s1 b = s0 b := fun b hb => by
    rw [k b] <;> (rintro rfl; cases hb)
  have J := scoreEven_step (hR.of_still k1) S1 (Scored.start (K := K) 0 s1) (c := 0) (by decide) rfl
  generalize eval (scoreEven 0 0 _ m0) s1 = r at J ⊢
  have G0 : Global X K V n s0 (2 * 0) r.1 r.2 := by
    refine ⟨fun b hb => ?_, D.of_eq fun b h1 h2 => J.keep b h1, S1.of_keep J.keep, J.rows, J.sup, fun r c h => absurd h (by omega)⟩
    rw [J.keep b (by rintro rfl; cases hb), k1 b hb]
  rw [eval_bind]
  have G1 := loop_inv 7 (fun t ht m => do
    let m ← evenBlock lg (BitVec.ofNat 32 n.val) vcol t (by omega) m
    oddBlock lg (BitVec.ofNat 32 n.val) vcol t ht m) (fun t m s => Global X K V n s0 (2 * t) m s) r.1 r.2 G0
    fun t ht m s G => by
      rw [eval_bind]
      exact oddBlock_step hR hv ht (evenBlock_step hR hv (by omega) G)
  generalize eval (loop 7 _ r.1) r.2 = r1 at G1 ⊢
  have G2 := evenBlock_step hR hv (t := 7) (by decide) G1
  rw [eval_bind]
  generalize eval (evenBlock lg (BitVec.ofNat 32 n.val) vcol 7 _ r1.1) r1.2 = r2 at G2 ⊢
  obtain ⟨O, k2⟩ := lastBlock_step hR hv G2
  exact ⟨O, G2.done.of_eq fun b h1 h2 => k2 b h2, fun b hb => by rw [k2 b (by rintro rfl; cases hb), G2.keep b hb]⟩

end Blocks

/-! ## The body -/

/-- What the body leaves at key head `n`, from a state `s` to a state `s'`. -/
structure BodyOut (X K V : ℕ → ℕ → EReal) (n : Fin 2) (s s' : St Ideal) : Prop where
  kv : KVOut K V n s s'
  o : ∀ (r : Fin 2048) (c : Fin 512), s' .o (ix3 0 r c) = oo X K V r c
  qc : ∀ (r : Fin 2048) (c : Fin 512), s' .qc (ix3 0 r c) = QC X r (c / 128) (c % 128)
  mq : ∀ (a : Fin 4) (g : Fin 16) (d : Fin 128), s' .mq (ix4 0 a g d) = qM X g a d
  qs : ∀ (a : Fin 8) (r : Fin 2048), s' .qs (ix3 0 a r) = if a.val / 4 = n.val then QS X r (a.val % 4) else s .qs (ix3 0 a r)

theorem body_spec (n : Fin 2) (s : St Ideal) (hx : IsX X (s .x)) (hk : IsK K (s .k)) (hv : IsK V (s .v)) :
    BodyOut X K V n s (eval (body lg sm (BitVec.ofNat 32 n.val) (kv_lt n)) s).2 := by
  obtain ⟨P1, P2, P3, P4, P5⟩ := prep_spec n s hk hv
  unfold body
  rw [eval_bind]
  generalize eval (prep lg sm (BitVec.ofNat 32 n.val) _) s = r at P1 P2 P3 P4 P5 ⊢
  obtain ⟨B1, B2, B3⟩ := blocks_spec (n := n) P2 P1 (by rw [P4]; exact hx)
  refine ⟨⟨fun r d => ?_, fun r d => ?_, fun a g => ?_, fun a d => ?_, fun a d => ?_⟩, B1, fun r c => B2.qc r c (by omega),
    fun a g d => B2.mq a g d (by omega), fun a t => ?_⟩
  · rw [B3 _ rfl]; exact P3.kc r d
  · rw [B3 _ rfl]; exact P3.vc r d
  · rw [B3 _ rfl]; exact P3.ks a g
  · rw [B3 _ rfl]; exact P3.vs a d
  · rw [B3 _ rfl]; exact P3.mk a d
  · rw [B2.qs a t, P5]
    exact if_congr ⟨fun h => h.2, fun h => ⟨by omega, h⟩⟩ rfl rfl

end Cert.Attn

end
-- ==== Proof.Arrays.lean ====
module

public import proofs.«01_k».proof.Proof.Block
public import proofs.«01_k».proof.Proof.PipeIdeal
public import Idealize.ShloMosaic.Lib.Pipeline.ValueKit.Geometry
public import Idealize.ShloMosaic.Lib.Pipeline.ArrRel

/-! # What the kernel leaves in its nine result arrays

Each array is a function of the three argument arrays: the grid point of batch `b` and key head `n` fills the blocks of
that batch and head, and the blocks shared by the two heads of a batch are filled by the two points in turn. -/

@[expose] public section

set_option maxRecDepth 16384

noncomputable section

namespace Cert.Attn

open Idealize.ShloMosaic
open Cert.KernelIdeal

/-- The queries of batch `b` that belong to key head `n`: row by row, four heads of 128. -/
def XX (x : S8x2048x1024.Idx → EReal) (b n : ℕ) (r d : ℕ) : EReal :=
  if h : b < 8 ∧ r < 2048 ∧ 512 * n + d < 1024 then x (ix3 ⟨b, h.1⟩ ⟨r, h.2.1⟩ ⟨512 * n + d, h.2.2⟩) else 0

/-- The keys (or the values) of batch `b` and key head `n`. -/
def KK (k : S8x2048x256.Idx → EReal) (b n : ℕ) (r d : ℕ) : EReal :=
  if h : b < 8 ∧ r < 2048 ∧ 128 * n + d < 256 then k (ix3 ⟨b, h.1⟩ ⟨r, h.2.1⟩ ⟨128 * n + d, h.2.2⟩) else 0

variable (x : S8x2048x1024.Idx → EReal) (k v : S8x2048x256.Idx → EReal)

/-- The nine results, at an index. -/
def oA : S8x2048x1024.Idx → EReal := fun i =>
  oo (XX x (i 0).val ((i 2).val / 512)) (KK k (i 0).val ((i 2).val / 512)) (KK v (i 0).val ((i 2).val / 512)) (i 1).val ((i 2).val % 512)
def qcA : S8x2048x1024.Idx → EReal := fun i =>
  QC (XX x (i 0).val ((i 2).val / 512)) (i 1).val ((i 2).val % 512 / 128) ((i 2).val % 512 % 128)
def qsA : S8x8x2048.Idx → EReal := fun i => QS (XX x (i 0).val ((i 1).val / 4)) (i 2).val ((i 1).val % 4)
def mqA : S8x8x16x128.Idx → EReal := fun i => qM (XX x (i 0).val ((i 1).val / 4)) (i 2).val ((i 1).val % 4) (i 3).val
def kcA : S8x2x2048x128.Idx → EReal := fun i => KC (KK k (i 0).val (i 1).val) (i 2).val (i 3).val
def ksA : S8x2x32.Idx → EReal := fun i => KS (KK k (i 0).val (i 1).val) (i 2).val
def mkA : S8x2x128.Idx → EReal := fun i => kMean (KK k (i 0).val (i 1).val) (i 2).val
def vcA : S8x2x2048x128.Idx → EReal := fun i => VC (KK v (i 0).val (i 1).val) (i 2).val (i 3).val
def vsA : S8x2x128.Idx → EReal := fun i => VS (KK v (i 0).val (i 1).val) (i 2).val

end Cert.Attn

namespace Cert.Attn

open Idealize.ShloMosaic Idealize.ShloMosaic.TcCoe
open Idealize.SL Idealize.SL.Sem
open Idealize.ShloMosaic.Pipeline
open Cert.KernelIdeal Cert.KernelIdeal.Gen Cert.Attn.Ideal

variable (m : (ℓ : Loc nD τ sig) → Buf (Elt Ideal) ℓ) (ρ : Dev nD → PrngReg)

/-- The argument arrays of a core. -/
abbrev ax (c : Dev nD) : S8x2048x1024.Idx → EReal := m ((c : Thread nD τ).loc main_arg0)
abbrev ak (c : Dev nD) : S8x2048x256.Idx → EReal := m ((c : Thread nD τ).loc main_arg1)
abbrev av (c : Dev nD) : S8x2048x256.Idx → EReal := m ((c : Thread nD τ).loc main_arg2)

theorem coord1 : ∀ t : Fin cfg0.N, (cfg0.grid.coords t 1).val = t.val % 2 :=
  (by decide +kernel : ∀ t : Fin grid0.N, (grid0.coords t 1).val = t.val % 2)

theorem ix_0 : ∀ t : Fin cfg0.N, win0_0.index t = ![t.val / 2, 0, t.val % 2] := (by decide +kernel : ∀ t : Fin grid0.N, _)
theorem ix_1 : ∀ t : Fin cfg0.N, win0_1.index t = ![t.val / 2, 0, t.val % 2] := (by decide +kernel : ∀ t : Fin grid0.N, _)
theorem ix_2 : ∀ t : Fin cfg0.N, win0_2.index t = ![t.val / 2, 0, t.val % 2] := (by decide +kernel : ∀ t : Fin grid0.N, _)
theorem ix_3 : ∀ t : Fin cfg0.N, win0_3.index t = ![t.val / 2, 0, t.val % 2] := (by decide +kernel : ∀ t : Fin grid0.N, _)
theorem ix_4 : ∀ t : Fin cfg0.N, win0_4.index t = ![t.val / 2, 0, t.val % 2] := (by decide +kernel : ∀ t : Fin grid0.N, _)
theorem ix_5 : ∀ t : Fin cfg0.N, win0_5.index t = ![t.val / 2, 0, 0] := (by decide +kernel : ∀ t : Fin grid0.N, _)
theorem ix_6 : ∀ t : Fin cfg0.N, win0_6.index t = ![t.val / 2, t.val % 2, 0, 0] := (by decide +kernel : ∀ t : Fin grid0.N, _)
theorem ix_7 : ∀ t : Fin cfg0.N, win0_7.index t = ![t.val / 2, t.val % 2, 0, 0] := (by decide +kernel : ∀ t : Fin grid0.N, _)
theorem ix_8 : ∀ t : Fin cfg0.N, win0_8.index t = ![t.val / 2, 0, 0] := (by decide +kernel : ∀ t : Fin grid0.N, _)
theorem ix_9 : ∀ t : Fin cfg0.N, win0_9.index t = ![t.val / 2, 0, 0] := (by decide +kernel : ∀ t : Fin grid0.N, _)
theorem ix_10 : ∀ t : Fin cfg0.N, win0_10.index t = ![t.val / 2, t.val % 2, 0, 0] := (by decide +kernel : ∀ t : Fin grid0.N, _)
theorem ix_11 : ∀ t : Fin cfg0.N, win0_11.index t = ![t.val / 2, 0, 0] := (by decide +kernel : ∀ t : Fin grid0.N, _)

theorem blkX (c : Dev nD) (t : Fin cfg0.N) : IsX (XX (ax m c) (t.val / 2) (t.val % 2)) (iblk m c 0 t) := by
  intro r d
  have ht : t.val < 16 := t.isLt
  rw [XX, dif_pos ⟨by omega, r.isLt, by omega⟩]
  refine congrArg (ax m c) ?_
  blk_ext [ix_0]

theorem blkK (c : Dev nD) (t : Fin cfg0.N) : IsK (KK (ak m c) (t.val / 2) (t.val % 2)) (iblk m c 1 t) := by
  intro r d
  have ht : t.val < 16 := t.isLt
  rw [KK, dif_pos ⟨by omega, r.isLt, by omega⟩]
  refine congrArg (ak m c) ?_
  blk_ext [ix_1]

theorem blkV (c : Dev nD) (t : Fin cfg0.N) : IsK (KK (av m c) (t.val / 2) (t.val % 2)) (iblk m c 2 t) := by
  intro r d
  have ht : t.val < 16 := t.isLt
  rw [KK, dif_pos ⟨by omega, r.isLt, by omega⟩]
  refine congrArg (av m c) ?_
  blk_ext [ix_2]

theorem bodyAt_eq (t : Fin cfg0.N) :
    bodyAt (F := Ideal) t = body lg sm (BitVec.ofNat 32 (cfg0.grid.coords t 1).val) (kv_lt (cfg0.grid.coords t 1)) := by
  unfold bodyAt
  rw [IdealRules.named_const.ideal_named_scalar KernelIdeal.κ "log2_e" _ _ rfl,
    IdealRules.named_const.ideal_named_scalar KernelIdeal.κ "score_log2" _ _ rfl]
  rfl

/-- What a point leaves in a buffer: one of the states the body's results hold of. -/
theorem left_out {c : Dev nD} {t : Fin cfg0.N} {b : Bf} {Y X : Vec Ideal b.shape b.elt} (h : Left m c t b Y X) :
    ∃ s s' : St Ideal, s b = Y ∧ X = s' b ∧ BodyOut (XX (ax m c) (t.val / 2) (t.val % 2)) (KK (ak m c) (t.val / 2) (t.val % 2))
      (KK (av m c) (t.val / 2) (t.val % 2)) (cfg0.grid.coords t 1) s s' := by
  obtain ⟨s, hx, hk, hv, hY, hX⟩ := h
  refine ⟨s, _, hY, hX, ?_⟩
  rw [bodyAt_eq]
  exact body_spec _ s (hx ▸ blkX m c t) (hk ▸ blkK m c t) (hv ▸ blkV m c t)

variable {m} {c : Dev nD} {after : (w : Fin cfg0.W) → Fin cfg0.N → (cfg0.win w).block.Idx → Elt Ideal (cfg0.win w).elt}
  (hL : ∀ (w : Fin cfg0.W) (u : Fin cfg0.N), (cfg0.win w).flush u = true → (rdat m c).Leaves w u (after w u))

include hL

theorem arr_o : ((rdat m c).withAfter after).arrAt 3 cfg0.N = oA (ax m c) (ak m c) (av m c) := by
  refine Dat.arrAt_eq_of_covers _ 3 _ (by decide +kernel) fun t hf y => ?_
  obtain ⟨Y, -, hl⟩ := hL 3 t hf
  obtain ⟨s, s', -, hX, H⟩ := left_out m hl
  rw [RDat.withAfter_after]
  have hy0 : (y 0).val < 1 := (y 0).isLt
  have hy2 : (y 2).val < 512 := (y 2).isLt
  have e0 : (((win0_3.blk t).view.emb y) 0).val = t.val / 2 := by blk_simp [ix_3]
  have e1 : (((win0_3.blk t).view.emb y) 1).val = (y 1).val := by blk_simp [ix_3]
  have e2 : (((win0_3.blk t).view.emb y) 2).val = 512 * (t.val % 2) + (y 2).val := by blk_simp [ix_3]; try omega
  have hy : y = ix3 (0 : Fin 1) (y 1 : Fin 2048) (y 2 : Fin 512) := by blk_ext []
  refine (congrFun hX _).trans ?_
  refine ((congrArg (s' .o) hy).trans (H.o (y 1) (y 2))).trans ?_
  show _ = oA _ _ _ ((win0_3.blk t).view.emb y)
  unfold oA
  rw [e0, e1, e2, show (512 * (t.val % 2) + (y 2).val) / 512 = t.val % 2 by omega, show (512 * (t.val % 2) + (y 2).val) % 512 = (y 2).val by omega]

theorem arr_qc : ((rdat m c).withAfter after).arrAt 4 cfg0.N = qcA (ax m c) := by
  refine Dat.arrAt_eq_of_covers _ 4 _ (by decide +kernel) fun t hf y => ?_
  obtain ⟨Y, -, hl⟩ := hL 4 t hf
  obtain ⟨s, s', -, hX, H⟩ := left_out m hl
  rw [RDat.withAfter_after]
  have hy0 : (y 0).val < 1 := (y 0).isLt
  have hy1 : (y 1).val < 2048 := (y 1).isLt
  have hy2 : (y 2).val < 512 := (y 2).isLt
  have e0 : (((win0_4.blk t).view.emb y) 0).val = t.val / 2 := by blk_simp [ix_4]; try omega
  have e1 : (((win0_4.blk t).view.emb y) 1).val = (y 1).val := by blk_simp [ix_4]; try omega
  have e2 : (((win0_4.blk t).view.emb y) 2).val = 512 * (t.val % 2) + (y 2).val := by blk_simp [ix_4]; try omega
  have hy : y = ix3 (0 : Fin 1) (y 1 : Fin 2048) (y 2 : Fin 512) := by blk_ext []
  refine (congrFun hX _).trans ?_
  refine ((congrArg (s' .qc) hy).trans (H.qc (y 1) (y 2))).trans ?_
  show _ = qcA _ ((win0_4.blk t).view.emb y)
  unfold qcA
  rw [e0, e1, e2, show (512 * (t.val % 2) + (y 2).val) / 512 = t.val % 2 by omega, show (512 * (t.val % 2) + (y 2).val) % 512 = (y 2).val by omega]

theorem arr_mq : ((rdat m c).withAfter after).arrAt 6 cfg0.N = mqA (ax m c) := by
  refine Dat.arrAt_eq_of_covers _ 6 _ (by decide +kernel) fun t hf y => ?_
  obtain ⟨Y, -, hl⟩ := hL 6 t hf
  obtain ⟨s, s', -, hX, H⟩ := left_out m hl
  rw [RDat.withAfter_after]
  have hy0 : (y 0).val < 1 := (y 0).isLt
  have hy1 : (y 1).val < 4 := (y 1).isLt
  have hy2 : (y 2).val < 16 := (y 2).isLt
  have hy3 : (y 3).val < 128 := (y 3).isLt
  have e0 : (((win0_6.blk t).view.emb y) 0).val = t.val / 2 := by blk_simp [ix_6]; try omega
  have e1 : (((win0_6.blk t).view.emb y) 1).val = 4 * (t.val % 2) + (y 1).val := by blk_simp [ix_6]; try omega
  have e2 : (((win0_6.blk t).view.emb y) 2).val = (y 2).val := by blk_simp [ix_6]; try omega
  have e3 : (((win0_6.blk t).view.emb y) 3).val = (y 3).val := by blk_simp [ix_6]; try omega
  have hy : y = ix4 (0 : Fin 1) (y 1 : Fin 4) (y 2 : Fin 16) (y 3 : Fin 128) := by blk_ext []
  refine (congrFun hX _).trans ?_
  refine ((congrArg (s' .mq) hy).trans (H.mq (y 1) (y 2) (y 3))).trans ?_
  show _ = mqA _ ((win0_6.blk t).view.emb y)
  unfold mqA
  rw [e0, e1, e2, e3, show (4 * (t.val % 2) + (y 1).val) / 4 = t.val % 2 by omega, show (4 * (t.val % 2) + (y 1).val) % 4 = (y 1).val by omega]

theorem arr_kc : ((rdat m c).withAfter after).arrAt 7 cfg0.N = kcA (ak m c) := by
  refine Dat.arrAt_eq_of_covers _ 7 _ (by decide +kernel) fun t hf y => ?_
  obtain ⟨Y, -, hl⟩ := hL 7 t hf
  obtain ⟨s, s', -, hX, H⟩ := left_out m hl
  rw [RDat.withAfter_after]
  have hy0 : (y 0).val < 1 := (y 0).isLt
  have hy1 : (y 1).val < 1 := (y 1).isLt
  have hy2 : (y 2).val < 2048 := (y 2).isLt
  have hy3 : (y 3).val < 128 := (y 3).isLt
  have e0 : (((win0_7.blk t).view.emb y) 0).val = t.val / 2 := by blk_simp [ix_7]; try omega
  have e1 : (((win0_7.blk t).view.emb y) 1).val = t.val % 2 := by blk_simp [ix_7]; try omega
  have e2 : (((win0_7.blk t).view.emb y) 2).val = (y 2).val := by blk_simp [ix_7]; try omega
  have e3 : (((win0_7.blk t).view.emb y) 3).val = (y 3).val := by blk_simp [ix_7]; try omega
  have hy : y = ix4 (0 : Fin 1) (0 : Fin 1) (y 2 : Fin 2048) (y 3 : Fin 128) := by blk_ext []
  refine (congrFun hX _).trans ?_
  refine ((congrArg (s' .kc) hy).trans (H.kv.kc (y 2) (y 3))).trans ?_
  show _ = kcA _ ((win0_7.blk t).view.emb y)
  unfold kcA
  rw [e0, e1, e2, e3]

theorem arr_vc : ((rdat m c).withAfter after).arrAt 10 cfg0.N = vcA (av m c) := by
  refine Dat.arrAt_eq_of_covers _ 10 _ (by decide +kernel) fun t hf y => ?_
  obtain ⟨Y, -, hl⟩ := hL 10 t hf
  obtain ⟨s, s', -, hX, H⟩ := left_out m hl
  rw [RDat.withAfter_after]
  have hy0 : (y 0).val < 1 := (y 0).isLt
  have hy1 : (y 1).val < 1 := (y 1).isLt
  have hy2 : (y 2).val < 2048 := (y 2).isLt
  have hy3 : (y 3).val < 128 := (y 3).isLt
  have e0 : (((win0_10.blk t).view.emb y) 0).val = t.val / 2 := by blk_simp [ix_10]; try omega
  have e1 : (((win0_10.blk t).view.emb y) 1).val = t.val % 2 := by blk_simp [ix_10]; try omega
  have e2 : (((win0_10.blk t).view.emb y) 2).val = (y 2).val := by blk_simp [ix_10]; try omega
  have e3 : (((win0_10.blk t).view.emb y) 3).val = (y 3).val := by blk_simp [ix_10]; try omega
  have hy : y = ix4 (0 : Fin 1) (0 : Fin 1) (y 2 : Fin 2048) (y 3 : Fin 128) := by blk_ext []
  refine (congrFun hX _).trans ?_
  refine ((congrArg (s' .vc) hy).trans (H.kv.vc (y 2) (y 3))).trans ?_
  show _ = vcA _ ((win0_10.blk t).view.emb y)
  unfold vcA
  rw [e0, e1, e2, e3]

omit hL in
/-- Two points that share a block: what the second leaves is made from what the first left. -/
theorem left_two {w : Fin cfg0.W} {t : Fin cfg0.N} (hfe : (cfg0.win w).fetch t = false) (ht : t.val % 2 = 1)
    (hfl : ∀ u : Fin cfg0.N, (cfg0.win w).flush u = true ↔ u.val % 2 = 1) {X : (cfg0.win w).block.Idx → Elt Ideal (cfg0.win w).elt}
    (h : (rdat m c).Leaves w t X) :
    ∃ (t' : Fin cfg0.N) (Y Y' : _), t'.val % 2 = 0 ∧ t'.val / 2 = t.val / 2 ∧ (rdat m c).after w t' Y' Y ∧ (rdat m c).after w t Y X := by
  obtain ⟨Y, hF, hl⟩ := h
  rcases ((rdat m c).finds_of_pos hfe (by omega) Y).mp hF with hf | ⟨Y', -, hl'⟩
  · have := (hfl _).mp hf
    simp only at this
    omega
  · exact ⟨_, Y, Y', by simp only; omega, by simp only; omega, hl', hl⟩

omit hL in
theorem coord_eq (t : Fin cfg0.N) (n : Fin 2) (h : t.val % 2 = n.val) : (cfg0.grid.coords t 1 : Fin 2) = n :=
  Fin.ext ((coord1 t).trans h)

theorem arr_qs : ((rdat m c).withAfter after).arrAt 5 cfg0.N = qsA (ax m c) := by
  refine Dat.arrAt_eq_of_covers _ 5 _ (by decide +kernel) fun t hf y => ?_
  have ht : t.val % 2 = 1 := (flush0_5 t).mp hf
  obtain ⟨t', Y, Y', ht', hb, hl', hl⟩ := left_two (w := 5) rfl ht flush0_5 (hL 5 t hf)
  obtain ⟨s, s', hY, hX, H⟩ := left_out m hl
  obtain ⟨s₀, s₀', -, hX₀, H₀⟩ := left_out m hl'
  have hn := coord_eq t 1 ht
  have hn' := coord_eq t' 0 ht'
  rw [RDat.withAfter_after]
  have hy0 : (y 0).val < 1 := (y 0).isLt
  have hy1 : (y 1).val < 8 := (y 1).isLt
  have hy2 : (y 2).val < 2048 := (y 2).isLt
  have e0 : (((win0_5.blk t).view.emb y) 0).val = t.val / 2 := by blk_simp [ix_5]; try omega
  have e1 : (((win0_5.blk t).view.emb y) 1).val = (y 1).val := by blk_simp [ix_5]; try omega
  have e2 : (((win0_5.blk t).view.emb y) 2).val = (y 2).val := by blk_simp [ix_5]; try omega
  have hy : y = ix3 (0 : Fin 1) (y 1 : Fin 8) (y 2 : Fin 2048) := by blk_ext []
  have h1 := H.qs (y 1) (y 2)
  have h0 := H₀.qs (y 1) (y 2)
  have hk : s .qs (ix3 (0 : Fin 1) (y 1 : Fin 8) (y 2 : Fin 2048)) = s₀' .qs (ix3 (0 : Fin 1) (y 1 : Fin 8) (y 2 : Fin 2048)) := congrFun (hY.trans hX₀) _
  rw [hk, h0, hn, hn', ht, ht', hb] at h1
  refine (congrFun hX _).trans ?_
  refine ((congrArg (s' .qs) hy).trans h1).trans ?_
  show _ = qsA _ ((win0_5.blk t).view.emb y)
  unfold qsA
  rw [e0, e1, e2]
  have ha : (y 1).val / 4 = 0 ∨ (y 1).val / 4 = 1 := by omega
  rcases ha with ha | ha <;> simp [ha]

theorem arr_ks : ((rdat m c).withAfter after).arrAt 8 cfg0.N = ksA (ak m c) := by
  refine Dat.arrAt_eq_of_covers _ 8 _ (by decide +kernel) fun t hf y => ?_
  have ht : t.val % 2 = 1 := (flush0_8 t).mp hf
  obtain ⟨t', Y, Y', ht', hb, hl', hl⟩ := left_two (w := 8) rfl ht flush0_8 (hL 8 t hf)
  obtain ⟨s, s', hY, hX, H⟩ := left_out m hl
  obtain ⟨s₀, s₀', -, hX₀, H₀⟩ := left_out m hl'
  have hn := coord_eq t 1 ht
  have hn' := coord_eq t' 0 ht'
  rw [RDat.withAfter_after]
  have hy0 : (y 0).val < 1 := (y 0).isLt
  have hy1 : (y 1).val < 2 := (y 1).isLt
  have hy2 : (y 2).val < 32 := (y 2).isLt
  have e0 : (((win0_8.blk t).view.emb y) 0).val = t.val / 2 := by blk_simp [ix_8]; try omega
  have e1 : (((win0_8.blk t).view.emb y) 1).val = (y 1).val := by blk_simp [ix_8]; try omega
  have e2 : (((win0_8.blk t).view.emb y) 2).val = (y 2).val := by blk_simp [ix_8]; try omega
  have hy : y = ix3 (0 : Fin 1) (y 1 : Fin 2) (y 2 : Fin 32) := by blk_ext []
  have h1 := H.kv.ks (y 1) (y 2)
  have h0 := H₀.kv.ks (y 1) (y 2)
  have hk : s .ks (ix3 (0 : Fin 1) (y 1 : Fin 2) (y 2 : Fin 32)) = s₀' .ks (ix3 (0 : Fin 1) (y 1 : Fin 2) (y 2 : Fin 32)) := congrFun (hY.trans hX₀) _
  rw [hk, h0, hn, hn', ht, ht', hb] at h1
  refine (congrFun hX _).trans ?_
  refine ((congrArg (s' .ks) hy).trans h1).trans ?_
  show _ = ksA _ ((win0_8.blk t).view.emb y)
  unfold ksA
  rw [e0, e1, e2]
  have ha : (y 1).val = 0 ∨ (y 1).val = 1 := by omega
  rcases ha with ha | ha
  · refine (if_neg fun h => Nat.zero_ne_one (ha.symm.trans (congrArg Fin.val h))).trans ((if_pos (Fin.ext ha)).trans ?_)
    rw [ha]
  · refine (if_pos (Fin.ext ha)).trans ?_
    rw [ha]

theorem arr_mk : ((rdat m c).withAfter after).arrAt 9 cfg0.N = mkA (ak m c) := by
  refine Dat.arrAt_eq_of_covers _ 9 _ (by decide +kernel) fun t hf y => ?_
  have ht : t.val % 2 = 1 := (flush0_9 t).mp hf
  obtain ⟨t', Y, Y', ht', hb, hl', hl⟩ := left_two (w := 9) rfl ht flush0_9 (hL 9 t hf)
  obtain ⟨s, s', hY, hX, H⟩ := left_out m hl
  obtain ⟨s₀, s₀', -, hX₀, H₀⟩ := left_out m hl'
  have hn := coord_eq t 1 ht
  have hn' := coord_eq t' 0 ht'
  rw [RDat.withAfter_after]
  have hy0 : (y 0).val < 1 := (y 0).isLt
  have hy1 : (y 1).val < 2 := (y 1).isLt
  have hy2 : (y 2).val < 128 := (y 2).isLt
  have e0 : (((win0_9.blk t).view.emb y) 0).val = t.val / 2 := by blk_simp [ix_9]; try omega
  have e1 : (((win0_9.blk t).view.emb y) 1).val = (y 1).val := by blk_simp [ix_9]; try omega
  have e2 : (((win0_9.blk t).view.emb y) 2).val = (y 2).val := by blk_simp [ix_9]; try omega
  have hy : y = ix3 (0 : Fin 1) (y 1 : Fin 2) (y 2 : Fin 128) := by blk_ext []
  have h1 := H.kv.mk (y 1) (y 2)
  have h0 := H₀.kv.mk (y 1) (y 2)
  have hk : s .mk (ix3 (0 : Fin 1) (y 1 : Fin 2) (y 2 : Fin 128)) = s₀' .mk (ix3 (0 : Fin 1) (y 1 : Fin 2) (y 2 : Fin 128)) := congrFun (hY.trans hX₀) _
  rw [hk, h0, hn, hn', ht, ht', hb] at h1
  refine (congrFun hX _).trans ?_
  refine ((congrArg (s' .mk) hy).trans h1).trans ?_
  show _ = mkA _ ((win0_9.blk t).view.emb y)
  unfold mkA
  rw [e0, e1, e2]
  have ha : (y 1).val = 0 ∨ (y 1).val = 1 := by omega
  rcases ha with ha | ha <;> simp [ha, Fin.ext_iff]

theorem arr_vs : ((rdat m c).withAfter after).arrAt 11 cfg0.N = vsA (av m c) := by
  refine Dat.arrAt_eq_of_covers _ 11 _ (by decide +kernel) fun t hf y => ?_
  have ht : t.val % 2 = 1 := (flush0_11 t).mp hf
  obtain ⟨t', Y, Y', ht', hb, hl', hl⟩ := left_two (w := 11) rfl ht flush0_11 (hL 11 t hf)
  obtain ⟨s, s', hY, hX, H⟩ := left_out m hl
  obtain ⟨s₀, s₀', -, hX₀, H₀⟩ := left_out m hl'
  have hn := coord_eq t 1 ht
  have hn' := coord_eq t' 0 ht'
  rw [RDat.withAfter_after]
  have hy0 : (y 0).val < 1 := (y 0).isLt
  have hy1 : (y 1).val < 2 := (y 1).isLt
  have hy2 : (y 2).val < 128 := (y 2).isLt
  have e0 : (((win0_11.blk t).view.emb y) 0).val = t.val / 2 := by blk_simp [ix_11]; try omega
  have e1 : (((win0_11.blk t).view.emb y) 1).val = (y 1).val := by blk_simp [ix_11]; try omega
  have e2 : (((win0_11.blk t).view.emb y) 2).val = (y 2).val := by blk_simp [ix_11]; try omega
  have hy : y = ix3 (0 : Fin 1) (y 1 : Fin 2) (y 2 : Fin 128) := by blk_ext []
  have h1 := H.kv.vs (y 1) (y 2)
  have h0 := H₀.kv.vs (y 1) (y 2)
  have hk : s .vs (ix3 (0 : Fin 1) (y 1 : Fin 2) (y 2 : Fin 128)) = s₀' .vs (ix3 (0 : Fin 1) (y 1 : Fin 2) (y 2 : Fin 128)) := congrFun (hY.trans hX₀) _
  rw [hk, h0, hn, hn', ht, ht', hb] at h1
  refine (congrFun hX _).trans ?_
  refine ((congrArg (s' .vs) hy).trans h1).trans ?_
  show _ = vsA _ ((win0_11.blk t).view.emb y)
  unfold vsA
  rw [e0, e1, e2]
  have ha : (y 1).val = 0 ∨ (y 1).val = 1 := by omega
  rcases ha with ha | ha
  · refine (if_neg fun h => Nat.zero_ne_one (ha.symm.trans (congrArg Fin.val h))).trans ((if_pos (Fin.ext ha)).trans ?_)
    rw [ha]
  · refine (if_pos (Fin.ext ha)).trans ?_
    rw [ha]

omit hL
variable (m)

/-- THE KERNEL'S RUN, with what each result array holds and the arguments as launched. -/
theorem run_values : θ_run defs (onTc (τ := τ) (main (F := Ideal))) ⟨m, fun _ => 0, ρ⟩ (fun r => ∀ c : Dev nD,
      r.2.mem ((c.tc : Thread nD τ).loc main_v0_0) = oA (ax m c) (ak m c) (av m c)
      ∧ r.2.mem ((c.tc : Thread nD τ).loc main_v0_1) = qcA (ax m c)
      ∧ r.2.mem ((c.tc : Thread nD τ).loc main_v0_2) = qsA (ax m c)
      ∧ r.2.mem ((c.tc : Thread nD τ).loc main_v0_3) = mqA (ax m c)
      ∧ r.2.mem ((c.tc : Thread nD τ).loc main_v0_4) = kcA (ak m c)
      ∧ r.2.mem ((c.tc : Thread nD τ).loc main_v0_5) = ksA (ak m c)
      ∧ r.2.mem ((c.tc : Thread nD τ).loc main_v0_6) = mkA (ak m c)
      ∧ r.2.mem ((c.tc : Thread nD τ).loc main_v0_7) = vcA (av m c)
      ∧ r.2.mem ((c.tc : Thread nD τ).loc main_v0_8) = vsA (av m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨after, hL, hA⟩ := h.1.exists_exact c
    exact ⟨(hA 3).trans (arr_o hL), (hA 4).trans (arr_qc hL), (hA 5).trans (arr_qs hL), (hA 6).trans (arr_mq hL),
      (hA 7).trans (arr_kc hL), (hA 8).trans (arr_ks hL), (hA 9).trans (arr_mk hL), (hA 10).trans (arr_vc hL),
      (hA 11).trans (arr_vs hL), (h.1.arr_in c 0 rfl).trans (A_eq m c 0), (h.1.arr_in c 1 rfl).trans (A_eq m c 1),
      (h.1.arr_in c 2 rfl).trans (A_eq m c 2)⟩) (run m ρ)

end Cert.Attn

end
-- ==== Proof.RefQ.lean ====
module

public import proofs.«01_k».proof.Proof.Reads
public import proofs.«01_k».proof.Proof.RefVec
public import proofs.«01_k».proof.Proof.Arrays

/-! # The reference's queries -/

@[expose] public section

set_option maxRecDepth 16384

noncomputable section

namespace Cert.Attn.Ref

open Idealize.ShloMosaic Idealize.ShloMosaic.TcCoe
open Cert.ReferenceIdeal Cert.ReferenceIdeal.Gen

variable (m : (ℓ : Loc nD τ sig) → Buf (Elt Ideal) ℓ) (c : Dev nD)

theorem r_v1 (b : Fin 8) (g : Fin 16) (a : Fin 128) (h : Fin 8) (d : Fin 128) :
    w_v1 m c (ix5 b g a h d) = w_arg0 m c (ix3 b ⟨128 * g.val + a.val, by omega⟩ ⟨128 * h.val + d.val, by omega⟩) := by
  rw [w_v1_eq, w_v0_eq]
  pointwise []
  simp only [mul_comm]

theorem r_v4 (b : Fin 8) (g : Fin 16) (h : Fin 8) (d : Fin 128) :
    w_v4 m c (ix4 b g h d) = (∑ a : Fin 128, w_v1 m c (ix5 b g a h d)) * Ideal.ofBits .f32 0x3C000000#32 := by
  rw [w_v4_eq, w_v3_eq, w_v2_eq, w_cst_eq, w_cst_0_eq]
  generalize w_v1 m c = w
  pointwise []
  rw [div_128]

theorem r_v9 (b : Fin 8) (g : Fin 16) (a : Fin 128) (h : Fin 8) (d : Fin 128) :
    w_v9 m c (ix5 b g a h d) = w_v1 m c (ix5 b g a h d) - w_v4 m c (ix4 b g h d) := by
  rw [w_v9_eq, w_v8_eq, w_v7_eq, w_v6_eq, w_v5_eq]
  generalize w_v1 m c = w
  generalize w_v4 m c = w'
  pointwise []

theorem r_v14 (b : Fin 8) (g : Fin 16) (a : Fin 128) (h : Fin 8) (z : Fin 1) :
    w_v14 m c (ix5 b g a h z) = (⨆ d : Fin 128, ab (w_v9 m c (ix5 b g a h d))) * c448 := by
  rw [w_v14_eq, w_v13_eq, w_v12_eq, w_v11_eq, w_v10_eq, w_cst_1_eq, w_cst_2_eq]
  generalize w_v9 m c = w
  refine (mulf_apply _ _ _).trans (congrArg₂ (· * ·) ?_ rfl)
  pointwise []
  rw [fold_max]
  rfl

theorem r_v17 (j : S8x16x128x8x1.Idx) : w_v17 m c j = Ideal.log (Ideal.ofBits .f32 0x40000000#32) := by
  rw [w_v17_eq, w_v15_eq, w_cst_3_eq]; rfl
theorem r_v29 (j : S8x16x128x8x1.Idx) : w_v29 m c j = Ideal.log (Ideal.ofBits .f32 0x40000000#32) := by
  rw [w_v29_eq, w_v15_eq, w_cst_3_eq]; rfl
theorem r_v35 (j : S8x16x128x8x1.Idx) : w_v35 m c j = Ideal.log (Ideal.ofBits .f32 0x40000000#32) := by
  rw [w_v35_eq, w_v15_eq, w_cst_3_eq]; rfl

theorem r_v27 (j : S8x16x128x8x1.Idx) : w_v27 m c j = rE (w_v14 m c j) := by
  rw [w_v27_eq, w_v26_eq, w_v25_eq, w_v23_eq, w_v21_eq, w_v19_eq, w_v18_eq, w_v16_eq]
  refine exponent_vec _ _ _ _ _ _ j ?_ ?_ ?_ ?_ (r_v17 m c j)
  · rw [w_v22_eq, w_cst_5_eq]; rfl
  · rw [w_v24_eq, w_cst_6_eq]; rfl
  · rw [w_call0_v1_eq, w_call0_v0_eq, w_cst_7_eq]; rfl
  · rw [w_v20_eq, w_cst_4_eq]; rfl

theorem r_v31 (j : S8x16x128x8x1.Idx) : w_v31 m c j = sInv (w_v14 m c j) := by
  rw [w_v31_eq, w_v30_eq, w_v28_eq]
  exact inv_vec _ _ _ j (r_v27 m c j) (r_v29 m c j)

theorem r_v37 (j : S8x16x128x8x1.Idx) : w_v37 m c j = sScale (w_v14 m c j) := by
  rw [w_v37_eq, w_v36_eq]
  exact scale_vec _ _ _ j (r_v27 m c j) (r_v35 m c j)

theorem r_v32 (b : Fin 8) (g : Fin 16) (a : Fin 128) (h : Fin 8) (d : Fin 128) :
    w_v32 m c (ix5 b g a h d) = w_v31 m c (ix5 b g a h 0) := by
  rw [w_v32_eq]
  generalize w_v31 m c = w
  pointwise []

theorem r_v34 (b : Fin 8) (g : Fin 16) (a : Fin 128) (h : Fin 8) (d : Fin 128) :
    w_v34 m c (ix5 b g a h d) = clip (w_v9 m c (ix5 b g a h d) * w_v31 m c (ix5 b g a h 0)) := by
  rw [w_v34_eq, w_call1_v2_eq, w_v33_eq, ← r_v32]
  refine clip_vec _ _ _ _ _ ?_ ?_
  · rw [w_call1_v1_eq, w_call1_v0_eq, w_cst_8_eq]; rfl
  · rw [w_call1_v4_eq, w_call1_v3_eq, w_cst_9_eq]; rfl

/-! ## In terms of the argument -/

/-- The queries of key head `n`, and the head within it. -/
theorem XX_at (x : Cert.KernelIdeal.S8x2048x1024.Idx → EReal) (b : Fin 8) (r : Fin 2048) (h : Fin 8) (d : Fin 128) :
    x (ix3 b r ⟨128 * h.val + d.val, by omega⟩) = XX x b.val (h.val / 4) r.val (128 * (h.val % 4) + d.val) := by
  unfold XX
  rw [dif_pos ⟨b.2, r.2, by omega⟩]
  congr 2
  apply Fin.ext
  show 128 * h.val + d.val = 512 * (h.val / 4) + (128 * (h.val % 4) + d.val)
  omega

/-- The reference's first argument. -/
abbrev rx : Cert.KernelIdeal.S8x2048x1024.Idx → EReal := m ((c : Thread nD τ).loc main_arg0)

theorem q_at (b : Fin 8) (g : Fin 16) (a : Fin 128) (h : Fin 8) (d : Fin 128) :
    w_v1 m c (ix5 b g a h d) = XX (rx m c) b.val (h.val / 4) (128 * g.val + a.val) (128 * (h.val % 4) + d.val) := by
  rw [r_v1, w_arg0_eq]
  exact XX_at (rx m c) b ⟨128 * g.val + a.val, by omega⟩ h d

theorem q_mean (b : Fin 8) (g : Fin 16) (h : Fin 8) (d : Fin 128) :
    w_v4 m c (ix4 b g h d) = qM (XX (rx m c) b.val (h.val / 4)) g.val (h.val % 4) d.val := by
  rw [r_v4]
  unfold qM
  congr 1
  exact Finset.sum_congr rfl fun a _ => q_at m c b g a h d

theorem q_diff (b : Fin 8) (g : Fin 16) (a : Fin 128) (h : Fin 8) (d : Fin 128) :
    w_v9 m c (ix5 b g a h d) = qD (XX (rx m c) b.val (h.val / 4)) (128 * g.val + a.val) (h.val % 4) d.val := by
  rw [r_v9, q_at, q_mean]
  unfold qD
  rw [show (128 * g.val + a.val) / 128 = g.val by omega]

theorem q_max (b : Fin 8) (g : Fin 16) (a : Fin 128) (h : Fin 8) (z : Fin 1) :
    w_v14 m c (ix5 b g a h z) = qT (XX (rx m c) b.val (h.val / 4)) (128 * g.val + a.val) (h.val % 4) := by
  rw [r_v14]
  unfold qT
  congr 1
  exact iSup_congr fun d => by rw [q_diff]

theorem q_scale (b : Fin 8) (g : Fin 16) (a : Fin 128) (h : Fin 8) (z : Fin 1) :
    w_v37 m c (ix5 b g a h z) = QS (XX (rx m c) b.val (h.val / 4)) (128 * g.val + a.val) (h.val % 4) := by
  rw [r_v37, q_max]; rfl

theorem q_code (b : Fin 8) (g : Fin 16) (a : Fin 128) (h : Fin 8) (d : Fin 128) :
    w_v34 m c (ix5 b g a h d) = QC (XX (rx m c) b.val (h.val / 4)) (128 * g.val + a.val) (h.val % 4) d.val := by
  rw [r_v34, r_v31, q_diff, q_max]; rfl

end Cert.Attn.Ref

end
-- ==== Proof.RefK.lean ====
module

public import proofs.«01_k».proof.Proof.RefQ

/-! # The reference's keys -/

@[expose] public section

set_option maxRecDepth 16384

noncomputable section

namespace Cert.Attn.Ref

open Idealize.ShloMosaic Idealize.ShloMosaic.TcCoe
open Cert.ReferenceIdeal Cert.ReferenceIdeal.Gen

variable (m : (ℓ : Loc nD τ sig) → Buf (Elt Ideal) ℓ) (c : Dev nD)

theorem r_v39 (b : Fin 8) (r : Fin 2048) (n : Fin 2) (d : Fin 128) :
    w_v39 m c (ix4 b r n d) = w_arg1 m c (ix3 b r ⟨128 * n.val + d.val, by omega⟩) := by
  rw [w_v39_eq, w_v38_eq]
  pointwise []
  simp only [mul_comm]

theorem r_v42 (b : Fin 8) (n : Fin 2) (d : Fin 128) :
    w_v42 m c (ix3 b n d) = (∑ r : Fin 2048, w_v39 m c (ix4 b r n d)) * Ideal.ofBits .f32 0x3A000000#32 := by
  rw [w_v42_eq, w_v41_eq, w_v40_eq, w_cst_10_eq, w_cst_11_eq]
  generalize w_v39 m c = w
  pointwise []
  rw [div_2048]

theorem r_v47 (b : Fin 8) (r : Fin 2048) (n : Fin 2) (d : Fin 128) :
    w_v47 m c (ix4 b r n d) = w_v39 m c (ix4 b r n d) - w_v42 m c (ix3 b n d) := by
  rw [w_v47_eq, w_v46_eq, w_v45_eq, w_v44_eq, w_v43_eq]
  generalize w_v39 m c = w
  generalize w_v42 m c = w'
  pointwise []

theorem r_v48 (b : Fin 8) (g : Fin 32) (a : Fin 64) (n : Fin 2) (d : Fin 128) :
    w_v48 m c (ix5 b g a n d) = w_v47 m c (ix4 b ⟨64 * g.val + a.val, by omega⟩ n d) := by
  rw [w_v48_eq]
  generalize w_v47 m c = w
  pointwise []
  simp only [mul_comm]

/-- The entries that a reduction over rows and columns takes to one place. -/
theorem drop_block (b : Fin 8) (g : Fin 32) (a : Fin 64) (n : Fin 2) (d : Fin 128) :
    reducesTo_S8x32x64x2x128_S8x32x2_d2_4.drop (ix5 b g a n d) = ix3 b g n := by
  funext i
  fin_cases i <;> rfl

theorem sup_block (w : S8x32x64x2x128.Idx → EReal) (b : Fin 8) (g : Fin 32) (n : Fin 2) :
    (Finset.univ.filter fun i => reducesTo_S8x32x64x2x128_S8x32x2_d2_4.drop i = ix3 b g n).sup (fun i => FloatOps.absf (F := Ideal) (φ := .f32) (w i))
      = ⨆ a : Fin 64, ⨆ d : Fin 128, ab (w (ix5 b g a n d)) := by
  apply le_antisymm
  · refine Finset.sup_le fun i hi => ?_
    obtain ⟨b', g', a, n', d, rfl⟩ : ∃ b' g' a n' d, i = ix5 b' g' a n' d := ⟨i 0, i 1, i 2, i 3, i 4, eq_ix5 i⟩
    have h := (Finset.mem_filter.1 hi).2
    rw [drop_block] at h
    have h0 : b' = b := congrFun h 0
    have h1 : g' = g := congrFun h 1
    have h2 : n' = n := congrFun h 2
    subst h0 h1 h2
    exact le_iSup_of_le a (le_iSup_of_le d le_rfl)
  · exact iSup_le fun a => iSup_le fun d =>
      Finset.le_sup (f := fun i => FloatOps.absf (F := Ideal) (φ := .f32) (w i)) (b := ix5 b g a n d)
        (Finset.mem_filter.2 ⟨Finset.mem_univ _, drop_block b g a n d⟩)

theorem fold_max_fin {ι : Type} (s : Finset ι) (f : ι → EReal) : Finset.fold max (Ideal.ofBits .f32 4286578688#32) f s = s.sup f := by
  rw [show Ideal.ofBits .f32 4286578688#32 = ⊥ from c_bot]
  rfl

theorem r_v50 (b : Fin 8) (g : Fin 32) (n : Fin 2) :
    w_v50 m c (ix3 b g n) = ⨆ a : Fin 64, ⨆ d : Fin 128, ab (w_v48 m c (ix5 b g a n d)) := by
  rw [w_v50_eq, w_v49_eq, w_cst_12_eq]
  generalize w_v48 m c = w
  pointwise []
  exact (fold_max_fin _ _).trans (sup_block w b g n)

theorem r_v53 (b : Fin 8) (g : Fin 32) (z : Fin 1) (n : Fin 2) (z' : Fin 1) :
    w_v53 m c (ix5 b g z n z') = (⨆ a : Fin 64, ⨆ d : Fin 128, ab (w_v48 m c (ix5 b g a n d))) * c448 := by
  rw [w_v53_eq, w_v52_eq, w_v51_eq, w_cst_13_eq, ← r_v50]
  generalize w_v50 m c = w
  refine (mulf_apply _ _ _).trans (congrArg₂ (· * ·) ?_ rfl)
  pointwise []

theorem r_v56 (j : S8x32x1x2x1.Idx) : w_v56 m c j = Ideal.log (Ideal.ofBits .f32 0x40000000#32) := by
  rw [w_v56_eq, w_v54_eq, w_cst_14_eq]; rfl
theorem r_v68 (j : S8x32x1x2x1.Idx) : w_v68 m c j = Ideal.log (Ideal.ofBits .f32 0x40000000#32) := by
  rw [w_v68_eq, w_v54_eq, w_cst_14_eq]; rfl
theorem r_v74 (j : S8x32x1x2x1.Idx) : w_v74 m c j = Ideal.log (Ideal.ofBits .f32 0x40000000#32) := by
  rw [w_v74_eq, w_v54_eq, w_cst_14_eq]; rfl

theorem r_v66 (j : S8x32x1x2x1.Idx) : w_v66 m c j = rE (w_v53 m c j) := by
  rw [w_v66_eq, w_v65_eq, w_v64_eq, w_v62_eq, w_v60_eq, w_v58_eq, w_v57_eq, w_v55_eq]
  refine exponent_vec _ _ _ _ _ _ j ?_ ?_ ?_ ?_ (r_v56 m c j)
  · rw [w_v61_eq, w_cst_16_eq]; rfl
  · rw [w_v63_eq, w_cst_17_eq]; rfl
  · rw [w_call2_v1_eq, w_call2_v0_eq, w_cst_18_eq]; rfl
  · rw [w_v59_eq, w_cst_15_eq]; rfl

theorem r_v70 (j : S8x32x1x2x1.Idx) : w_v70 m c j = sInv (w_v53 m c j) := by
  rw [w_v70_eq, w_v69_eq, w_v67_eq]
  exact inv_vec _ _ _ j (r_v66 m c j) (r_v68 m c j)

theorem r_v76 (j : S8x32x1x2x1.Idx) : w_v76 m c j = sScale (w_v53 m c j) := by
  rw [w_v76_eq, w_v75_eq]
  exact scale_vec _ _ _ j (r_v66 m c j) (r_v74 m c j)

theorem r_v71 (b : Fin 8) (g : Fin 32) (a : Fin 64) (n : Fin 2) (d : Fin 128) :
    w_v71 m c (ix5 b g a n d) = w_v70 m c (ix5 b g 0 n 0) := by
  rw [w_v71_eq]
  generalize w_v70 m c = w
  pointwise []

theorem r_v73 (b : Fin 8) (g : Fin 32) (a : Fin 64) (n : Fin 2) (d : Fin 128) :
    w_v73 m c (ix5 b g a n d) = clip (w_v48 m c (ix5 b g a n d) * w_v70 m c (ix5 b g 0 n 0)) := by
  rw [w_v73_eq, w_call3_v2_eq, w_v72_eq, ← r_v71]
  refine clip_vec _ _ _ _ _ ?_ ?_
  · rw [w_call3_v1_eq, w_call3_v0_eq, w_cst_19_eq]; rfl
  · rw [w_call3_v4_eq, w_call3_v3_eq, w_cst_20_eq]; rfl

/-! ## In terms of the argument -/

/-- The keys (or the values) of key head `n`. -/
theorem KK_at (x : Cert.KernelIdeal.S8x2048x256.Idx → EReal) (b : Fin 8) (r : Fin 2048) (n : Fin 2) (d : Fin 128) :
    x (ix3 b r ⟨128 * n.val + d.val, by omega⟩) = KK x b.val n.val r.val d.val := by
  unfold KK
  rw [dif_pos ⟨b.2, r.2, by omega⟩]

/-- The reference's second argument. -/
abbrev rk : Cert.KernelIdeal.S8x2048x256.Idx → EReal := m ((c : Thread nD τ).loc main_arg1)

theorem k_at (b : Fin 8) (r : Fin 2048) (n : Fin 2) (d : Fin 128) :
    w_v39 m c (ix4 b r n d) = KK (rk m c) b.val n.val r.val d.val := by
  rw [r_v39, w_arg1_eq]
  exact KK_at (rk m c) b r n d

theorem k_mean (b : Fin 8) (n : Fin 2) (d : Fin 128) :
    w_v42 m c (ix3 b n d) = kMean (KK (rk m c) b.val n.val) d.val := by
  rw [r_v42]
  unfold kMean
  refine congrArg (· * Ideal.ofBits .f32 0x3A000000#32) ?_
  exact Finset.sum_congr rfl fun a _ => k_at m c b a n d

theorem k_diff (b : Fin 8) (g : Fin 32) (a : Fin 64) (n : Fin 2) (d : Fin 128) :
    w_v48 m c (ix5 b g a n d) = kD (KK (rk m c) b.val n.val) (64 * g.val + a.val) d.val := by
  rw [r_v48, r_v47, k_at, k_mean]; rfl

theorem k_max (b : Fin 8) (g : Fin 32) (z : Fin 1) (n : Fin 2) (z' : Fin 1) :
    w_v53 m c (ix5 b g z n z') = kT (KK (rk m c) b.val n.val) g.val := by
  rw [r_v53]
  unfold kT
  refine congrArg (· * c448) ?_
  exact iSup_congr fun a => iSup_congr fun d => by rw [k_diff]

theorem k_scale (b : Fin 8) (g : Fin 32) (z : Fin 1) (n : Fin 2) (z' : Fin 1) :
    w_v76 m c (ix5 b g z n z') = KS (KK (rk m c) b.val n.val) g.val := by
  rw [r_v76, k_max]; rfl

theorem k_code (b : Fin 8) (g : Fin 32) (a : Fin 64) (n : Fin 2) (d : Fin 128) :
    w_v73 m c (ix5 b g a n d) = KC (KK (rk m c) b.val n.val) (64 * g.val + a.val) d.val := by
  rw [r_v73, r_v70, k_diff, k_max]
  unfold KC
  rw [show (64 * g.val + a.val) / 64 = g.val by omega]

/-! ## The values -/

theorem r_v78 (b : Fin 8) (r : Fin 2048) (n : Fin 2) (d : Fin 128) :
    w_v78 m c (ix4 b r n d) = w_arg2 m c (ix3 b r ⟨128 * n.val + d.val, by omega⟩) := by
  rw [w_v78_eq, w_v77_eq]
  pointwise []
  simp only [mul_comm]

theorem r_v80 (b : Fin 8) (n : Fin 2) (d : Fin 128) :
    w_v80 m c (ix3 b n d) = ⨆ r : Fin 2048, ab (w_v78 m c (ix4 b r n d)) := by
  rw [w_v80_eq, w_v79_eq, w_cst_21_eq]
  generalize w_v78 m c = w
  pointwise []
  rw [fold_max]
  rfl

theorem r_v83 (b : Fin 8) (z : Fin 1) (n : Fin 2) (d : Fin 128) :
    w_v83 m c (ix4 b z n d) = (⨆ r : Fin 2048, ab (w_v78 m c (ix4 b r n d))) * c448 := by
  rw [w_v83_eq, w_v82_eq, w_v81_eq, w_cst_22_eq, ← r_v80]
  generalize w_v80 m c = w
  refine (mulf_apply _ _ _).trans (congrArg₂ (· * ·) ?_ rfl)
  pointwise []

theorem r_v86 (j : S8x1x2x128.Idx) : w_v86 m c j = Ideal.log (Ideal.ofBits .f32 0x40000000#32) := by
  rw [w_v86_eq, w_v84_eq, w_cst_23_eq]; rfl
theorem r_v98 (j : S8x1x2x128.Idx) : w_v98 m c j = Ideal.log (Ideal.ofBits .f32 0x40000000#32) := by
  rw [w_v98_eq, w_v84_eq, w_cst_23_eq]; rfl
theorem r_v104 (j : S8x1x2x128.Idx) : w_v104 m c j = Ideal.log (Ideal.ofBits .f32 0x40000000#32) := by
  rw [w_v104_eq, w_v84_eq, w_cst_23_eq]; rfl

theorem r_v96 (j : S8x1x2x128.Idx) : w_v96 m c j = rE (w_v83 m c j) := by
  rw [w_v96_eq, w_v95_eq, w_v94_eq, w_v92_eq, w_v90_eq, w_v88_eq, w_v87_eq, w_v85_eq]
  refine exponent_vec _ _ _ _ _ _ j ?_ ?_ ?_ ?_ (r_v86 m c j)
  · rw [w_v91_eq, w_cst_25_eq]; rfl
  · rw [w_v93_eq, w_cst_26_eq]; rfl
  · rw [w_call4_v1_eq, w_call4_v0_eq, w_cst_27_eq]; rfl
  · rw [w_v89_eq, w_cst_24_eq]; rfl

theorem r_v100 (j : S8x1x2x128.Idx) : w_v100 m c j = sInv (w_v83 m c j) := by
  rw [w_v100_eq, w_v99_eq, w_v97_eq]
  exact inv_vec _ _ _ j (r_v96 m c j) (r_v98 m c j)

theorem r_v106 (j : S8x1x2x128.Idx) : w_v106 m c j = sScale (w_v83 m c j) := by
  rw [w_v106_eq, w_v105_eq]
  exact scale_vec _ _ _ j (r_v96 m c j) (r_v104 m c j)

theorem r_v101 (b : Fin 8) (r : Fin 2048) (n : Fin 2) (d : Fin 128) :
    w_v101 m c (ix4 b r n d) = w_v100 m c (ix4 b 0 n d) := by
  rw [w_v101_eq]
  generalize w_v100 m c = w
  pointwise []

theorem r_v103 (b : Fin 8) (r : Fin 2048) (n : Fin 2) (d : Fin 128) :
    w_v103 m c (ix4 b r n d) = clip (w_v78 m c (ix4 b r n d) * w_v100 m c (ix4 b 0 n d)) := by
  rw [w_v103_eq, w_call5_v2_eq, w_v102_eq, ← r_v101]
  refine clip_vec _ _ _ _ _ ?_ ?_
  · rw [w_call5_v1_eq, w_call5_v0_eq, w_cst_28_eq]; rfl
  · rw [w_call5_v4_eq, w_call5_v3_eq, w_cst_29_eq]; rfl

/-- The reference's third argument. -/
abbrev rv : Cert.KernelIdeal.S8x2048x256.Idx → EReal := m ((c : Thread nD τ).loc main_arg2)

theorem v_at (b : Fin 8) (r : Fin 2048) (n : Fin 2) (d : Fin 128) :
    w_v78 m c (ix4 b r n d) = KK (rv m c) b.val n.val r.val d.val := by
  rw [r_v78, w_arg2_eq]
  exact KK_at (rv m c) b r n d

theorem v_max (b : Fin 8) (z : Fin 1) (n : Fin 2) (d : Fin 128) :
    w_v83 m c (ix4 b z n d) = vT (KK (rv m c) b.val n.val) d.val := by
  rw [r_v83]
  unfold vT
  refine congrArg (· * c448) ?_
  exact iSup_congr fun r => by rw [v_at]

theorem v_scale (b : Fin 8) (z : Fin 1) (n : Fin 2) (d : Fin 128) :
    w_v106 m c (ix4 b z n d) = VS (KK (rv m c) b.val n.val) d.val := by
  rw [r_v106, v_max]; rfl

theorem v_code (b : Fin 8) (r : Fin 2048) (n : Fin 2) (d : Fin 128) :
    w_v103 m c (ix4 b r n d) = VC (KK (rv m c) b.val n.val) r.val d.val := by
  rw [r_v103, r_v100, v_at, v_max]; rfl

end Cert.Attn.Ref

end
-- ==== Proof.RefSoft.lean ====
module

public import proofs.«01_k».proof.Proof.RefMath

/-! # The reference's attention in numbers, and the kernel's

Everything is about one batch and one key head: `t` is the query, `h` the head, `s` the key, `d` the column. -/

@[expose] public section

noncomputable section

namespace Cert.Attn

open Idealize.ShloMosaic

variable (X K V : ℕ → ℕ → EReal)

/-- The score before its division. -/
def rs (t h s : ℕ) : EReal :=
  KS K (s / 64) * (QS X t h * (∑ d : Fin 128, KC K s d * QC X t h d) + ∑ d : Fin 128, KC K s d * qM X (t / 128) h d)
/-- The masked score. -/
def rz (t h s : ℕ) : EReal := if s ≤ t then Ideal.div (rs X K t h s) (Ideal.sqrt (Ideal.ofBits .f32 0x43000000#32)) else ⊥
/-- The largest score. -/
def rM (t h : ℕ) : EReal := ⨆ s : Fin 2048, rz X K t h s
/-- The exponentials. -/
def rP (t h s : ℕ) : EReal := Ideal.exp (rz X K t h s - rM X K t h)
/-- Their sum. -/
def rL (t h : ℕ) : EReal := ∑ s : Fin 2048, rP X K t h s
/-- Their codes. -/
def rC (t h s : ℕ) : EReal := min (rP X K t h s * Ideal.ofBits .f32 0x43800000#32) (Ideal.ofBits .f32 0x43E00000#32)
/-- The result. -/
def rO (t h d : ℕ) : EReal :=
  (∑ s : Fin 2048, VC V s d * rC X K t h s) * Ideal.ofBits .f32 0x3B800000#32 * VS V d
    * Ideal.div (Ideal.ofBits .f32 0x3F800000#32) (rL X K t h)

theorem sqrt_128 : Ideal.sqrt (Ideal.ofBits .f32 0x43000000#32) = ((Real.sqrt 128 : ℝ) : EReal) := by
  rw [c_128]
  show (if (128 : ℝ) < 0 then (⊥ : EReal) else _) = _
  rw [if_neg (by norm_num)]

theorem lg_pos : 0 < (Real.log 2)⁻¹ := inv_pos.2 (Real.log_pos (by norm_num))

variable {X K V}

theorem raw_wt (t h s : ℕ) (hh : h < 4) :
    raw X K (t / 128) s (128 * h + t % 128) * wt X K (t / 128) (s / 64) (128 * h + t % 128) = rs X K t h s * sm := by
  have h1 : tok (t / 128) (128 * h + t % 128) = t := by unfold tok; omega
  have h2 : (128 * h + t % 128) / 128 = h := by omega
  unfold raw wt rs
  rw [h1, h2]
  obtain ⟨c, hc, hs⟩ := scale_pos (qT X t h)
  have hq : QS X t h = (c : EReal) := hs
  have hi : (c : EReal) * sInv (qT X t h) = 1 := by rw [← hs, scale_mul_inv]
  generalize KS K (s / 64) = ks
  have e : (c : EReal) * ((∑ d : Fin 128, KC K s d * QC X t h d) + ∑ d : Fin 128, KC K s d * (qM X (t / 128) h d * sInv (qT X t h)))
      = (c : EReal) * (∑ d : Fin 128, KC K s d * QC X t h d) + ∑ d : Fin 128, KC K s d * qM X (t / 128) h d := by
    rw [coe_mul_add c hc, coe_mul_sum _ c hc (fun d : Fin 128 => KC K s d * (qM X (t / 128) h d * sInv (qT X t h)))]
    refine congrArg (fun y : EReal => (c : EReal) * (∑ d : Fin 128, KC K s d * QC X t h d) + y) (Finset.sum_congr rfl fun d _ => ?_)
    rw [show (c : EReal) * (KC K s d * (qM X (t / 128) h d * sInv (qT X t h)))
      = KC K s d * qM X (t / 128) h d * ((c : EReal) * sInv (qT X t h)) by ac_rfl, hi, mul_one]
  rw [hq, ← e]
  ac_rfl

theorem zz_eq (t h s : ℕ) (hh : h < 4) : zz X K (t / 128) s (128 * h + t % 128) = rz X K t h s * lg := by
  have h1 : tok (t / 128) (128 * h + t % 128) = t := by unfold tok; omega
  unfold zz rz
  rw [h1]
  by_cases hs : s ≤ t
  · rw [if_pos hs, if_pos hs, raw_wt t h s hh, sqrt_128, div_real _ _ (by positivity), mul_assoc, sm, lg, EReal.coe_mul]
  · rw [if_neg hs, if_neg hs, lg, EReal.bot_mul_coe_of_pos lg_pos]

theorem mx_eq (t h : ℕ) (ht : t < 2048) (hh : h < 4) : mx X K (t / 128) (128 * h + t % 128) = rM X K t h * lg := by
  have hmono : Monotone fun x : EReal => x * lg := fun x y hxy => by
    show x * lg ≤ y * lg
    rw [lg, mul_comm x, mul_comm y]
    exact mul_le_mul_of_nonneg_left hxy (by exact_mod_cast lg_pos.le)
  have h3 : rM X K t h * lg = Finset.univ.sup fun s : Fin 2048 => rz X K t h s * lg := by
    unfold rM
    rw [← Finset.sup_univ_eq_iSup]
    exact Finset.comp_sup_eq_sup_comp (fun x : EReal => x * lg) (fun x y => hmono.map_max)
      (by show (⊥ : EReal) * lg = ⊥; rw [lg, EReal.bot_mul_coe_of_pos lg_pos])
  rw [h3]
  unfold mx
  apply le_antisymm
  · refine Finset.sup_le fun s hs => ?_
    have hs' := Finset.mem_range.1 hs
    rw [zz_eq t h s hh]
    exact Finset.le_sup (f := fun s : Fin 2048 => rz X K t h s * lg) (b := ⟨s, by omega⟩) (Finset.mem_univ _)
  · refine Finset.sup_le fun s _ => ?_
    by_cases hs : s.val < 128 * (t / 128 + 1)
    · rw [← zz_eq t h s hh]
      exact Finset.le_sup (f := fun k => zz X K (t / 128) k (128 * h + t % 128)) (Finset.mem_range.2 hs)
    · have : rz X K t h s = ⊥ := if_neg (by omega)
      rw [this, lg, EReal.bot_mul_coe_of_pos lg_pos]
      exact bot_le

theorem rP_zero (t h s : ℕ) (hs : t < s) : rP X K t h s = 0 := by
  unfold rP rz
  rw [if_neg (by omega), EReal.bot_sub]
  rfl

theorem pp_eq (t h s : ℕ) (ht : t < 2048) (hh : h < 4) :
    pp X K (t / 128) s (128 * h + t % 128) = ((256 : ℝ) : EReal) * rP X K t h s := by
  unfold pp rP
  rw [c_8, exp2_sub_eight, zz_eq t h s hh, mx_eq t h ht hh, ← exp2_mul_lg]
  congr 2
  rw [sub_eq_add_neg, sub_eq_add_neg, mul_comm (_ + _), lg, coe_mul_add _ lg_pos, mul_comm _ (rz X K t h s), mul_comm _ (-rM X K t h), EReal.neg_mul]

/-- A sum over all keys is the sum over the keys the kernel visits, if the others give zero. -/
theorem sum_visible (N : ℕ) (hN : N ≤ 2048) (f : ℕ → EReal) (hf : ∀ s, N ≤ s → f s = 0) :
    ∑ s : Fin 2048, f s = ∑ s ∈ Finset.range N, f s := by
  rw [Fin.sum_univ_eq_sum_range f 2048]
  exact (Finset.sum_subset (Finset.range_mono hN) fun s _ hs => hf s (by simpa using hs)).symm

theorem ll_eq (t h : ℕ) (ht : t < 2048) (hh : h < 4) :
    ll X K (t / 128) (128 * h + t % 128) = ((256 : ℝ) : EReal) * rL X K t h := by
  unfold ll rL
  rw [sum_visible (128 * (t / 128 + 1)) (by omega) (fun s => rP X K t h s) (fun s hs => rP_zero t h s (by omega)),
    coe_mul_sum _ _ (by norm_num)]
  exact Finset.sum_congr rfl fun s _ => pp_eq t h s ht hh

theorem pc_eq (t h s : ℕ) (ht : t < 2048) (hh : h < 4) : pc X K (t / 128) s (128 * h + t % 128) = rC X K t h s := by
  unfold pc rC
  rw [pp_eq t h s ht hh, c_256, mul_comm]

theorem rC_zero (t h s : ℕ) (hs : t < s) : rC X K t h s = 0 := by
  unfold rC
  rw [rP_zero t h s hs, zero_mul]
  refine min_eq_left ?_
  simp [Ideal.ofBits, Ideal.ieee]
  positivity

theorem pa_eq (t h d : ℕ) (ht : t < 2048) (hh : h < 4) :
    pa X K V (t / 128) d (128 * h + t % 128) = ∑ s : Fin 2048, VC V s d * rC X K t h s := by
  unfold pa
  rw [sum_visible (128 * (t / 128 + 1)) (by omega) (fun s => VC V s d * rC X K t h s)
    (fun s hs => by rw [rC_zero t h s (by omega), mul_zero])]
  exact Finset.sum_congr rfl fun s _ => by rw [pc_eq t h s ht hh]

theorem oo_eq (t h d : ℕ) (ht : t < 2048) (hh : h < 4) (hd : d < 128) : oo X K V t (128 * h + d) = rO X K V t h d := by
  unfold oo rO
  have h1 : (128 * h + d) / 128 = h := by omega
  have h2 : (128 * h + d) % 128 = d := by omega
  simp only [h1, h2]
  rw [pa_eq t h d ht hh, ll_eq t h ht hh, div_256, c_i256, show Ideal.ofBits .f32 0x3F800000#32 = 1 from c_one]
  ac_rfl

end Cert.Attn

end
-- ==== Proof.RefScore.lean ====
module

public import proofs.«01_k».proof.Proof.RefK
public import proofs.«01_k».proof.Proof.RefSoft

/-! # The reference's scores -/

@[expose] public section

set_option maxRecDepth 16384

noncomputable section

namespace Cert.Attn.Ref

open Idealize.ShloMosaic Idealize.ShloMosaic.TcCoe
open Cert.ReferenceIdeal Cert.ReferenceIdeal.Gen

variable (m : (ℓ : Loc nD τ sig) → Buf (Elt Ideal) ℓ) (c : Dev nD)

/-- The queries and the keys of a batch and key head. -/
abbrev qX (b : Fin 8) (n : Fin 2) : ℕ → ℕ → EReal := XX (rx m c) b.val n.val
abbrev qK (b : Fin 8) (n : Fin 2) : ℕ → ℕ → EReal := KK (rk m c) b.val n.val

theorem s_v107 (b : Fin 8) (t : Fin 2048) (n : Fin 2) (h : Fin 4) (d : Fin 128) :
    w_v107 m c (ix5 b t n h d) = QC (qX m c b n) t.val h.val d.val := by
  have e : w_v107 m c (ix5 b t n h d) = w_v34 m c (ix5 b ⟨t.val / 128, by omega⟩ ⟨t.val % 128, by omega⟩ ⟨4 * n.val + h.val, by omega⟩ d) := by
    rw [w_v107_eq]
    generalize w_v34 m c = w
    pointwise []
    try simp only [mul_comm]
  rw [e, q_code]
  simp only []
  rw [show (4 * n.val + h.val) / 4 = n.val by omega, show (4 * n.val + h.val) % 4 = h.val by omega, show 128 * (t.val / 128) + t.val % 128 = t.val by omega]

theorem s_v108 (b : Fin 8) (t : Fin 2048) (n : Fin 2) (h : Fin 4) :
    w_v108 m c (ix4 b t n h) = QS (qX m c b n) t.val h.val := by
  have e : w_v108 m c (ix4 b t n h) = w_v37 m c (ix5 b ⟨t.val / 128, by omega⟩ ⟨t.val % 128, by omega⟩ ⟨4 * n.val + h.val, by omega⟩ 0) := by
    rw [w_v108_eq]
    generalize w_v37 m c = w
    pointwise []
    try simp only [mul_comm]
  rw [e, q_scale]
  simp only []
  rw [show (4 * n.val + h.val) / 4 = n.val by omega, show (4 * n.val + h.val) % 4 = h.val by omega, show 128 * (t.val / 128) + t.val % 128 = t.val by omega]

theorem s_v109 (b : Fin 8) (s : Fin 2048) (n : Fin 2) (d : Fin 128) :
    w_v109 m c (ix4 b s n d) = KC (qK m c b n) s.val d.val := by
  have e : w_v109 m c (ix4 b s n d) = w_v73 m c (ix5 b ⟨s.val / 64, by omega⟩ ⟨s.val % 64, by omega⟩ n d) := by
    rw [w_v109_eq]
    generalize w_v73 m c = w
    pointwise []
  rw [e, k_code]
  simp only []
  rw [show 64 * (s.val / 64) + s.val % 64 = s.val by omega]

theorem s_v113 (b : Fin 8) (g : Fin 16) (n : Fin 2) (h : Fin 4) (d : Fin 128) :
    w_v113 m c (ix5 b g n h d) = qM (qX m c b n) g.val h.val d.val := by
  have e : w_v113 m c (ix5 b g n h d) = w_v4 m c (ix4 b g ⟨4 * n.val + h.val, by omega⟩ d) := by
    rw [w_v113_eq, w_v112_eq, w_v5_eq]
    generalize w_v4 m c = w
    pointwise []
    try simp only [mul_comm]
  rw [e, q_mean]
  simp only []
  rw [show (4 * n.val + h.val) / 4 = n.val by omega, show (4 * n.val + h.val) % 4 = h.val by omega]

theorem s_v111 (b : Fin 8) (n : Fin 2) (h : Fin 4) (t s : Fin 2048) :
    w_v111 m c (ix5 b n h t s) = ∑ d : Fin 128, w_v109 m c (ix4 b s n d) * w_v107 m c (ix5 b t n h d) := by
  rw [w_v111_eq, w_v110_eq]
  generalize w_v109 m c = w
  generalize w_v107 m c = w'
  pointwise []

theorem s_v115 (b : Fin 8) (n : Fin 2) (h : Fin 4) (g : Fin 16) (s : Fin 2048) :
    w_v115 m c (ix5 b n h g s) = ∑ d : Fin 128, w_v109 m c (ix4 b s n d) * w_v113 m c (ix5 b g n h d) := by
  rw [w_v115_eq, w_v114_eq]
  generalize w_v109 m c = w
  generalize w_v113 m c = w'
  pointwise []

theorem s_v119 (b : Fin 8) (n : Fin 2) (h : Fin 4) (t s : Fin 2048) :
    w_v119 m c (ix5 b n h t s) = w_v108 m c (ix4 b t n h) * w_v111 m c (ix5 b n h t s) := by
  have e : w_v118 m c (ix5 b n h t s) = w_v108 m c (ix4 b t n h) := by
    rw [w_v118_eq, w_v117_eq, w_v116_eq]
    generalize w_v108 m c = w
    pointwise []
  rw [w_v119_eq, ← e]
  exact mulf_apply _ _ _

theorem s_v120 (b : Fin 8) (n : Fin 2) (h : Fin 4) (g : Fin 16) (a : Fin 128) (s : Fin 2048) :
    w_v120 m c (ix6 b n h g a s) = w_v119 m c (ix5 b n h ⟨128 * g.val + a.val, by omega⟩ s) := by
  rw [w_v120_eq]
  generalize w_v119 m c = w
  pointwise []
  try simp only [mul_comm]

theorem s_v122 (b : Fin 8) (n : Fin 2) (h : Fin 4) (g : Fin 16) (a : Fin 128) (s : Fin 2048) :
    w_v122 m c (ix6 b n h g a s) = w_v115 m c (ix5 b n h g s) := by
  rw [w_v122_eq, w_v121_eq]
  generalize w_v115 m c = w
  pointwise []

theorem s_v129 (b : Fin 8) (n : Fin 2) (h : Fin 4) (t s : Fin 2048) :
    w_v129 m c (ix5 b n h t s) = w_v123 m c (ix6 b n h ⟨t.val / 128, by omega⟩ ⟨t.val % 128, by omega⟩ s) := by
  rw [w_v129_eq]
  generalize w_v123 m c = w
  pointwise []

theorem s_v129' (b : Fin 8) (n : Fin 2) (h : Fin 4) (t s : Fin 2048) :
    w_v129 m c (ix5 b n h t s) = w_v119 m c (ix5 b n h t s) + w_v115 m c (ix5 b n h ⟨t.val / 128, by omega⟩ s) := by
  have e : (⟨128 * (t.val / 128) + t.val % 128, by omega⟩ : Fin 2048) = t := Fin.ext (by simp only []; omega)
  rw [s_v129, w_v123_eq]
  refine (addf_apply _ _ _).trans ?_
  rw [s_v120, s_v122]
  simp only [e]
  rfl

theorem s_v130 (b : Fin 8) (n : Fin 2) (h : Fin 4) (t s : Fin 2048) :
    w_v130 m c (ix5 b n h t s) = KS (qK m c b n) (s.val / 64) := by
  have e : w_v130 m c (ix5 b n h t s) = w_v76 m c (ix5 b ⟨s.val / 64, by omega⟩ 0 n 0) := by
    rw [w_v130_eq, w_v128_eq, w_v127_eq, w_v126_eq, w_v125_eq, w_v124_eq]
    generalize w_v76 m c = w
    pointwise []
  rw [e, k_scale]

theorem s_v131 (b : Fin 8) (n : Fin 2) (h : Fin 4) (t s : Fin 2048) :
    w_v131 m c (ix5 b n h t s) = rs (qX m c b n) (qK m c b n) t.val h.val s.val := by
  rw [w_v131_eq]
  refine (mulf_apply _ _ _).trans ?_
  rw [s_v130, s_v129', s_v119, s_v108, s_v111, s_v115]
  simp only [s_v109, s_v107, s_v113]
  rfl

theorem s_v133 (j : S8x2x4x2048x2048.Idx) : w_v133 m c j = Ideal.sqrt (Ideal.ofBits .f32 0x43000000#32) := by
  rw [w_v133_eq, w_v132_eq, w_cst_30_eq]; rfl

theorem s_v134 (b : Fin 8) (n : Fin 2) (h : Fin 4) (t s : Fin 2048) :
    w_v134 m c (ix5 b n h t s)
      = Ideal.div (rs (qX m c b n) (qK m c b n) t.val h.val s.val) (Ideal.sqrt (Ideal.ofBits .f32 0x43000000#32)) := by
  rw [w_v134_eq, ← s_v131, ← s_v133 m c (ix5 b n h t s)]
  rfl

theorem s_v141 (t s : Fin 2048) : w_v141 m c (ix2 t s) = IntOp.cmpi .sle (BitVec.ofNat 32 s.val) (BitVec.ofNat 32 t.val) := by
  rw [w_v141_eq, w_v139_eq, w_v140_eq, w_v136_eq, w_v138_eq, w_v135_eq, w_v137_eq]
  pointwise []

end Cert.Attn.Ref

end
-- ==== Proof.RefOut.lean ====
module

public import proofs.«01_k».proof.Proof.RefScore

/-! # The reference's attention result -/

@[expose] public section

set_option maxRecDepth 16384

noncomputable section

namespace Cert.Attn.Ref

open Idealize.ShloMosaic Idealize.ShloMosaic.TcCoe
open Cert.ReferenceIdeal Cert.ReferenceIdeal.Gen

variable (m : (ℓ : Loc nD τ sig) → Buf (Elt Ideal) ℓ) (c : Dev nD)

/-- The values of a batch and key head. -/
abbrev qV (b : Fin 8) (n : Fin 2) : ℕ → ℕ → EReal := KK (rv m c) b.val n.val

theorem select_le (s t : ℕ) (hs : s < 2048) (ht : t < 2048) (x y : EReal) :
    Scalar.select (IntOp.cmpi .sle (BitVec.ofNat 32 s) (BitVec.ofNat 32 t)) x y = if s ≤ t then x else y := by
  have e : ∀ n : ℕ, n < 2 ^ 20 → (BitVec.ofNat 32 n).toInt = n := fun n hn => by
    have : (BitVec.ofNat 32 n).toNat = n := by rw [BitVec.toNat_ofNat]; exact Nat.mod_eq_of_lt (by omega)
    rw [BitVec.toInt_eq_toNat_of_lt (by omega), this]
  have : BitVec.sle (BitVec.ofNat 32 s) (BitVec.ofNat 32 t) = decide (s ≤ t) := by
    rw [BitVec.sle, e _ (by omega), e _ (by omega)]
    congr 1
    exact propext (by omega)
  unfold IntOp.cmpi
  simp only [this]
  by_cases h : s ≤ t <;> simp [h, Scalar.select]

theorem o_mask (b : Fin 8) (n : Fin 2) (h : Fin 4) (t s : Fin 2048) :
    w_call6_v1 m c (ix5 b n h t s) = w_v141 m c (ix2 t s) := by
  rw [w_call6_v1_eq]
  generalize w_v141 m c = w
  pointwise []

theorem o_bot (j : S8x2x4x2048x2048.Idx) : w_call6_v2 m c j = ⊥ := by
  rw [w_call6_v2_eq, w_call6_v0_eq, w_cst_31_eq, ← c_bot]; rfl

theorem select_vec {S : Shape} (p : IVec S 1) (x y : FVec Ideal S .f32) (j : S.Idx) :
    select p x y j = Scalar.select (p j) (x j) (y j) := rfl

theorem o_v142 (b : Fin 8) (n : Fin 2) (h : Fin 4) (t s : Fin 2048) :
    w_v142 m c (ix5 b n h t s) = rz (qX m c b n) (qK m c b n) t.val h.val s.val := by
  rw [w_v142_eq, select_vec, o_mask, o_bot, s_v141, select_le _ _ s.isLt t.isLt, s_v134]
  rfl

theorem o_v143 (b : Fin 8) (n : Fin 2) (h : Fin 4) (t : Fin 2048) :
    w_v143 m c (ix4 b n h t) = rM (qX m c b n) (qK m c b n) t.val h.val := by
  have e : w_v143 m c (ix4 b n h t) = ⨆ s : Fin 2048, w_v142 m c (ix5 b n h t s) := by
    rw [w_v143_eq, w_cst_32_eq]
    generalize w_v142 m c = w
    pointwise []
    rw [fold_max]
  rw [e]
  unfold rM
  exact iSup_congr fun s => o_v142 m c b n h t s

theorem o_v145 (b : Fin 8) (n : Fin 2) (h : Fin 4) (t s : Fin 2048) :
    w_v145 m c (ix5 b n h t s) = w_v143 m c (ix4 b n h t) := by
  rw [w_v145_eq, w_v144_eq]
  generalize w_v143 m c = w
  pointwise []

theorem exp_sub_vec {S : Shape} (x y : FVec Ideal S .f32) (j : S.Idx) : Host.exp (subf x y) j = Ideal.exp (x j - y j) := rfl

theorem o_v147 (b : Fin 8) (n : Fin 2) (h : Fin 4) (t s : Fin 2048) :
    w_v147 m c (ix5 b n h t s) = rP (qX m c b n) (qK m c b n) t.val h.val s.val := by
  rw [w_v147_eq, w_v146_eq, exp_sub_vec, o_v145, o_v143, o_v142]
  rfl

theorem o_v148 (b : Fin 8) (n : Fin 2) (h : Fin 4) (t : Fin 2048) :
    w_v148 m c (ix4 b n h t) = rL (qX m c b n) (qK m c b n) t.val h.val := by
  have e : w_v148 m c (ix4 b n h t) = ∑ s : Fin 2048, w_v147 m c (ix5 b n h t s) := by
    rw [w_v148_eq, w_cst_33_eq]
    generalize w_v147 m c = w
    pointwise []
  rw [e]
  unfold rL
  exact Finset.sum_congr rfl fun s _ => o_v147 m c b n h t s

theorem min_mul_vec {S : Shape} (x y z : FVec Ideal S .f32) (j : S.Idx) : minimumf (mulf x y) z j = min (x j * y j) (z j) := rfl

theorem o_v149 (j : S8x2x4x2048x2048.Idx) : w_v149 m c j = Ideal.ofBits .f32 0x43800000#32 := by
  rw [w_v149_eq, w_cst_34_eq]; rfl
theorem o_v151 (j : S8x2x4x2048x2048.Idx) : w_v151 m c j = Ideal.ofBits .f32 0x43E00000#32 := by
  rw [w_v151_eq, w_cst_35_eq]; rfl

theorem o_v152 (b : Fin 8) (n : Fin 2) (h : Fin 4) (t s : Fin 2048) :
    w_v152 m c (ix5 b n h t s) = rC (qX m c b n) (qK m c b n) t.val h.val s.val := by
  rw [w_v152_eq, w_v150_eq, min_mul_vec, o_v149, o_v151, o_v147]
  rfl

theorem o_v154 (b : Fin 8) (t : Fin 2048) (n : Fin 2) (h : Fin 4) (d : Fin 128) :
    w_v154 m c (ix5 b t n h d) = ∑ s : Fin 2048, VC (qV m c b n) s.val d.val * rC (qX m c b n) (qK m c b n) t.val h.val s.val := by
  have e : w_v154 m c (ix5 b t n h d) = ∑ s : Fin 2048, w_v103 m c (ix4 b s n d) * w_v152 m c (ix5 b n h t s) := by
    rw [w_v154_eq, w_v153_eq]
    generalize w_v103 m c = w
    generalize w_v152 m c = w'
    pointwise []
  rw [e]
  exact Finset.sum_congr rfl fun s _ => by rw [v_code, o_v152]

theorem o_v155 (j : S8x2048x2x4x128.Idx) : w_v155 m c j = Ideal.ofBits .f32 0x3B800000#32 := by
  rw [w_v155_eq, w_cst_36_eq]; rfl
theorem o_v160 (j : S8x2x4x2048.Idx) : w_v160 m c j = Ideal.ofBits .f32 0x3F800000#32 := by
  rw [w_v160_eq, w_cst_37_eq]; rfl

theorem o_v158 (b : Fin 8) (t : Fin 2048) (n : Fin 2) (h : Fin 4) (d : Fin 128) :
    w_v158 m c (ix5 b t n h d) = VS (qV m c b n) d.val := by
  have e : w_v158 m c (ix5 b t n h d) = w_v106 m c (ix4 b 0 n d) := by
    rw [w_v158_eq, w_v157_eq]
    generalize w_v106 m c = w
    pointwise []
  rw [e, v_scale]

theorem div_vec {S : Shape} (x y : FVec Ideal S .f32) (j : S.Idx) : Host.divf x y j = Ideal.div (x j) (y j) := rfl

theorem o_v164 (b : Fin 8) (t : Fin 2048) (n : Fin 2) (h : Fin 4) (d : Fin 128) :
    w_v164 m c (ix5 b t n h d) = Ideal.div (Ideal.ofBits .f32 0x3F800000#32) (rL (qX m c b n) (qK m c b n) t.val h.val) := by
  have e : w_v164 m c (ix5 b t n h d) = w_v161 m c (ix4 b n h t) := by
    rw [w_v164_eq, w_v163_eq, w_v162_eq]
    generalize w_v161 m c = w
    pointwise []
  rw [e, w_v161_eq, div_vec, o_v160, o_v148]

theorem mul3_vec {S : Shape} (x y z u : FVec Ideal S .f32) (j : S.Idx) : mulf (mulf (mulf x y) z) u j = x j * y j * z j * u j := rfl

theorem o_v165 (b : Fin 8) (t : Fin 2048) (n : Fin 2) (h : Fin 4) (d : Fin 128) :
    w_v165 m c (ix5 b t n h d) = rO (qX m c b n) (qK m c b n) (qV m c b n) t.val h.val d.val := by
  rw [w_v165_eq, w_v159_eq, w_v156_eq, mul3_vec, o_v154, o_v155, o_v158, o_v164]
  rfl

end Cert.Attn.Ref

end
-- ==== Proof.RefArrays.lean ====
module

public import proofs.«01_k».proof.Proof.RefOut
public import proofs.«01_k».proof.Proof.Gen.ReferenceIdeal.Value
public import Idealize.ShloMosaic.Lib.Pipeline.ValueKit.Geometry

/-! # The reference's nine results, as the kernel's functions of the arguments -/

@[expose] public section

set_option maxRecDepth 16384

noncomputable section

namespace Cert.Attn.Ref

open Idealize.ShloMosaic Idealize.ShloMosaic.TcCoe
open Idealize.SL Idealize.SL.Sem
open Idealize.ShloMosaic.Pipeline
open Cert.ReferenceIdeal Cert.ReferenceIdeal.Gen

variable (m : (ℓ : Loc nD τ sig) → Buf (Elt Ideal) ℓ) (c : Dev nD)

/-! ## The host arrays -/

theorem val_o : w_v167 m c = oA (rx m c) (rk m c) (rv m c) := by
  funext i
  obtain ⟨b, t, e, rfl⟩ : ∃ b t e, i = ix3 b t e := ⟨i 0, i 1, i 2, eq_ix3 i⟩
  have e1 : w_v167 m c (ix3 b t e) = w_v165 m c (ix5 b t ⟨e.val / 512, by omega⟩ ⟨e.val / 128 % 4, by omega⟩ ⟨e.val % 128, by omega⟩) := by
    rw [w_v167_eq, w_v166_eq]
    generalize w_v165 m c = w
    pointwise []
  rw [e1, o_v165]
  refine (oo_eq t.val (e.val / 128 % 4) (e.val % 128) t.isLt (by omega) (by omega)).symm.trans ?_
  rw [show 128 * (e.val / 128 % 4) + e.val % 128 = e.val % 512 by omega]
  rfl

theorem val_qc : w_v174 m c = qcA (rx m c) := by
  funext i
  obtain ⟨b, t, e, rfl⟩ : ∃ b t e, i = ix3 b t e := ⟨i 0, i 1, i 2, eq_ix3 i⟩
  have e1 : w_v174 m c (ix3 b t e)
      = w_v34 m c (ix5 b ⟨t.val / 128, by omega⟩ ⟨t.val % 128, by omega⟩ ⟨e.val / 128, by omega⟩ ⟨e.val % 128, by omega⟩) := by
    rw [w_v174_eq]
    generalize w_v34 m c = w
    pointwise []
  rw [e1, q_code]
  simp only []
  rw [show 128 * (t.val / 128) + t.val % 128 = t.val by omega, show e.val / 128 / 4 = e.val / 512 by omega,
    show e.val / 128 % 4 = e.val % 512 / 128 by omega, show e.val % 128 = e.val % 512 % 128 by omega]
  rfl

theorem val_qs : w_v169 m c = qsA (rx m c) := by
  funext i
  obtain ⟨b, h, t, rfl⟩ : ∃ b h t, i = ix3 b h t := ⟨i 0, i 1, i 2, eq_ix3 i⟩
  have e1 : w_v169 m c (ix3 b h t) = w_v37 m c (ix5 b ⟨t.val / 128, by omega⟩ ⟨t.val % 128, by omega⟩ h 0) := by
    rw [w_v169_eq, w_v168_eq]
    generalize w_v37 m c = w
    pointwise []
  rw [e1, q_scale]
  simp only []
  rw [show 128 * (t.val / 128) + t.val % 128 = t.val by omega]
  rfl

theorem val_mq : w_v170 m c = mqA (rx m c) := by
  funext i
  obtain ⟨b, h, g, d, rfl⟩ : ∃ b h g d, i = ix4 b h g d := ⟨i 0, i 1, i 2, i 3, eq_ix4 i⟩
  have e1 : w_v170 m c (ix4 b h g d) = w_v4 m c (ix4 b g h d) := by
    rw [w_v170_eq, w_v5_eq]
    generalize w_v4 m c = w
    pointwise []
  rw [e1, q_mean]
  rfl

theorem val_kc : w_v175 m c = kcA (rk m c) := by
  funext i
  obtain ⟨b, n, s, d, rfl⟩ : ∃ b n s d, i = ix4 b n s d := ⟨i 0, i 1, i 2, i 3, eq_ix4 i⟩
  have e1 : w_v175 m c (ix4 b n s d) = w_v109 m c (ix4 b s n d) := by
    rw [w_v175_eq]
    generalize w_v109 m c = w
    pointwise []
  rw [e1, s_v109]
  rfl

theorem val_ks : w_v172 m c = ksA (rk m c) := by
  funext i
  obtain ⟨b, n, g, rfl⟩ : ∃ b n g, i = ix3 b n g := ⟨i 0, i 1, i 2, eq_ix3 i⟩
  have e1 : w_v172 m c (ix3 b n g) = w_v76 m c (ix5 b g 0 n 0) := by
    rw [w_v172_eq, w_v171_eq]
    generalize w_v76 m c = w
    pointwise []
  rw [e1, k_scale]
  rfl

theorem val_mk : w_v43 m c = mkA (rk m c) := by
  funext i
  obtain ⟨b, n, d, rfl⟩ : ∃ b n d, i = ix3 b n d := ⟨i 0, i 1, i 2, eq_ix3 i⟩
  have e1 : w_v43 m c (ix3 b n d) = w_v42 m c (ix3 b n d) := by
    rw [w_v43_eq]
    generalize w_v42 m c = w
    pointwise []
  rw [e1, k_mean]
  rfl

theorem val_vc : w_v176 m c = vcA (rv m c) := by
  funext i
  obtain ⟨b, n, s, d, rfl⟩ : ∃ b n s d, i = ix4 b n s d := ⟨i 0, i 1, i 2, i 3, eq_ix4 i⟩
  have e1 : w_v176 m c (ix4 b n s d) = w_v103 m c (ix4 b s n d) := by
    rw [w_v176_eq]
    generalize w_v103 m c = w
    pointwise []
  rw [e1, v_code]
  rfl

theorem val_vs : w_v173 m c = vsA (rv m c) := by
  funext i
  obtain ⟨b, n, d, rfl⟩ : ∃ b n d, i = ix3 b n d := ⟨i 0, i 1, i 2, eq_ix3 i⟩
  have e1 : w_v173 m c (ix3 b n d) = w_v106 m c (ix4 b 0 n d) := by
    rw [w_v173_eq]
    generalize w_v106 m c = w
    pointwise []
  rw [e1, v_scale]
  rfl

/-! ## The region's three arrays: its body changes only the format, so over the reals each output is its input -/

theorem in_ix0 : ∀ t : Fin cfg0.N, win0_0.index t = ![0, 0, 0] := (by decide +kernel : ∀ t : Fin grid0.N, _)
theorem out_ix3 : ∀ t : Fin cfg0.N, win0_3.index t = ![0, 0, 0] := (by decide +kernel : ∀ t : Fin grid0.N, _)

theorem in_emb0 (t : Fin cfg0.N) (y : (win0_0.xblock (grid0.coords t)).Idx) : ∀ a, ((win0_0.blk t).view.emb y a).val = (y a).val := by
  intro a
  fin_cases a <;> blk_simp [in_ix0]

theorem out_emb3 (t : Fin cfg0.N) (y : (win0_3.xblock (grid0.coords t)).Idx) : ∀ a, ((win0_3.blk t).view.emb y a).val = (y a).val := by
  intro a
  fin_cases a <;> blk_simp [out_ix3]

theorem out_eq3 (x0 : Vec Ideal S8x2048x1024 .f32) (x1 : Vec Ideal S8x2x2048x128 .f32) (x2 : Vec Ideal S8x2x2048x128 .f32) :
    out0_3 x0 x1 x2 = x0 := by
  funext y
  unfold out0_3
  refine (Cert.ReferenceIdeal.Value.canon3_eq _ _).trans ?_
  show View.ld x0 r0_0 (Cert.ReferenceIdeal.Value.ix3_0 y) = x0 y
  refine (congrFun (View.ld_unit_lit _ x0 (by decide)) _).trans (congrArg x0 ?_)
  funext a
  fin_cases a <;> rfl

theorem in_blk0 (t : Fin cfg0.N) : iblk m c 0 t = w_v174 m c := by
  funext y
  show V m c main_v174 ((win0_0.blk t).view.emb y) = V m c main_v174 y
  refine congrArg (V m c main_v174) ?_
  funext a
  exact Fin.ext (in_emb0 t y a)

theorem arr3 : (dats m 0 c).arrAt 3 cfg0.N = w_v174 m c := by
  refine Dat.arrAt_eq_of_covers _ 3 _ (by decide +kernel) fun t hf y => ?_
  rw [after0_3, out_eq3, in_blk0]
  generalize w_v174 m c = w
  refine (cast_eq _ _).trans (congrArg w ?_)
  funext a
  exact Fin.ext (out_emb3 t y a).symm

theorem in_ix1 : ∀ t : Fin cfg0.N, win0_1.index t = ![0, 0, 0, 0] := (by decide +kernel : ∀ t : Fin grid0.N, _)
theorem out_ix4 : ∀ t : Fin cfg0.N, win0_4.index t = ![0, 0, 0, 0] := (by decide +kernel : ∀ t : Fin grid0.N, _)

theorem in_emb1 (t : Fin cfg0.N) (y : (win0_1.xblock (grid0.coords t)).Idx) : ∀ a, ((win0_1.blk t).view.emb y a).val = (y a).val := by
  intro a
  fin_cases a <;> blk_simp [in_ix1]

theorem out_emb4 (t : Fin cfg0.N) (y : (win0_4.xblock (grid0.coords t)).Idx) : ∀ a, ((win0_4.blk t).view.emb y a).val = (y a).val := by
  intro a
  fin_cases a <;> blk_simp [out_ix4]

theorem out_eq4 (x0 : Vec Ideal S8x2048x1024 .f32) (x1 : Vec Ideal S8x2x2048x128 .f32) (x2 : Vec Ideal S8x2x2048x128 .f32) :
    out0_4 x0 x1 x2 = x1 := by
  funext y
  unfold out0_4
  refine (Cert.ReferenceIdeal.Value.canon4_eq _ _).trans ?_
  show View.ld x1 r0_1 (Cert.ReferenceIdeal.Value.ix4_0 y) = x1 y
  refine (congrFun (View.ld_unit_lit _ x1 (by decide)) _).trans (congrArg x1 ?_)
  funext a
  fin_cases a <;> rfl

theorem in_blk1 (t : Fin cfg0.N) : iblk m c 1 t = w_v175 m c := by
  funext y
  show V m c main_v175 ((win0_1.blk t).view.emb y) = V m c main_v175 y
  refine congrArg (V m c main_v175) ?_
  funext a
  exact Fin.ext (in_emb1 t y a)

theorem arr4 : (dats m 0 c).arrAt 4 cfg0.N = w_v175 m c := by
  refine Dat.arrAt_eq_of_covers _ 4 _ (by decide +kernel) fun t hf y => ?_
  rw [after0_4, out_eq4, in_blk1]
  generalize w_v175 m c = w
  refine (cast_eq _ _).trans (congrArg w ?_)
  funext a
  exact Fin.ext (out_emb4 t y a).symm

theorem in_ix2 : ∀ t : Fin cfg0.N, win0_2.index t = ![0, 0, 0, 0] := (by decide +kernel : ∀ t : Fin grid0.N, _)
theorem out_ix5 : ∀ t : Fin cfg0.N, win0_5.index t = ![0, 0, 0, 0] := (by decide +kernel : ∀ t : Fin grid0.N, _)

theorem in_emb2 (t : Fin cfg0.N) (y : (win0_2.xblock (grid0.coords t)).Idx) : ∀ a, ((win0_2.blk t).view.emb y a).val = (y a).val := by
  intro a
  fin_cases a <;> blk_simp [in_ix2]

theorem out_emb5 (t : Fin cfg0.N) (y : (win0_5.xblock (grid0.coords t)).Idx) : ∀ a, ((win0_5.blk t).view.emb y a).val = (y a).val := by
  intro a
  fin_cases a <;> blk_simp [out_ix5]

theorem out_eq5 (x0 : Vec Ideal S8x2048x1024 .f32) (x1 : Vec Ideal S8x2x2048x128 .f32) (x2 : Vec Ideal S8x2x2048x128 .f32) :
    out0_5 x0 x1 x2 = x2 := by
  funext y
  unfold out0_5
  refine (Cert.ReferenceIdeal.Value.canon5_eq _ _).trans ?_
  show View.ld x2 r0_1 (Cert.ReferenceIdeal.Value.ix5_0 y) = x2 y
  refine (congrFun (View.ld_unit_lit _ x2 (by decide)) _).trans (congrArg x2 ?_)
  funext a
  fin_cases a <;> rfl

theorem in_blk2 (t : Fin cfg0.N) : iblk m c 2 t = w_v176 m c := by
  funext y
  show V m c main_v176 ((win0_2.blk t).view.emb y) = V m c main_v176 y
  refine congrArg (V m c main_v176) ?_
  funext a
  exact Fin.ext (in_emb2 t y a)

theorem arr5 : (dats m 0 c).arrAt 5 cfg0.N = w_v176 m c := by
  refine Dat.arrAt_eq_of_covers _ 5 _ (by decide +kernel) fun t hf y => ?_
  rw [after0_5, out_eq5, in_blk2]
  generalize w_v176 m c = w
  refine (cast_eq _ _).trans (congrArg w ?_)
  funext a
  exact Fin.ext (out_emb5 t y a).symm

/-! ## The run -/

variable (ρ : Dev nD → PrngReg)

theorem run_values : θ_run defs (onTc (τ := τ) (main (F := Ideal))) ⟨m, fun _ => 0, ρ⟩ fun r => ∀ c : Dev nD,
      r.2.mem ((c : Thread nD τ).loc main_v167) = oA (rx m c) (rk m c) (rv m c)
      ∧ r.2.mem ((c : Thread nD τ).loc main_v177_0) = qcA (rx m c)
      ∧ r.2.mem ((c : Thread nD τ).loc main_v169) = qsA (rx m c)
      ∧ r.2.mem ((c : Thread nD τ).loc main_v170) = mqA (rx m c)
      ∧ r.2.mem ((c : Thread nD τ).loc main_v177_1) = kcA (rk m c)
      ∧ r.2.mem ((c : Thread nD τ).loc main_v172) = ksA (rk m c)
      ∧ r.2.mem ((c : Thread nD τ).loc main_v43) = mkA (rk m c)
      ∧ r.2.mem ((c : Thread nD τ).loc main_v177_2) = vcA (rv m c)
      ∧ r.2.mem ((c : Thread nD τ).loc main_v173) = vsA (rv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v167 (Pipeline.mem_restRefs_of main_v167 (by decide) (by decide))).trans (val_o m c),
      (Cert.ReferenceIdeal.Value.post3 m r h c).trans ((arr3 m c).trans (val_qc m c)),
      ((h c).2 main_v169 (Pipeline.mem_restRefs_of main_v169 (by decide) (by decide))).trans (val_qs m c),
      ((h c).2 main_v170 (Pipeline.mem_restRefs_of main_v170 (by decide) (by decide))).trans (val_mq m c),
      (Cert.ReferenceIdeal.Value.post4 m r h c).trans ((arr4 m c).trans (val_kc m c)),
      ((h c).2 main_v172 (Pipeline.mem_restRefs_of main_v172 (by decide) (by decide))).trans (val_ks m c),
      ((h c).2 main_v43 (Pipeline.mem_restRefs_of main_v43 (by decide) (by decide))).trans (val_mk m c),
      (Cert.ReferenceIdeal.Value.post5 m r h c).trans ((arr5 m c).trans (val_vc m c)),
      ((h c).2 main_v173 (Pipeline.mem_restRefs_of main_v173 (by decide) (by decide))).trans (val_vs m c),
      Cert.ReferenceIdeal.Value.kept_main_arg0 m r h c,
      Cert.ReferenceIdeal.Value.kept_main_arg1 m r h c,
      Cert.ReferenceIdeal.Value.kept_main_arg2 m r h c⟩)
    (run_main m ρ)

end Cert.Attn.Ref

end
-- ==== Proof.lean ====
module

public import proofs.«01_k».proof.Defs
public import proofs.«01_k».proof.Proof.PipeIdeal
public import proofs.«01_k».proof.Proof.PipeBits
public import proofs.«01_k».proof.Proof.Gen.ReferenceIdeal.Value
public import proofs.«01_k».proof.Proof.RefArrays

@[expose] public section

noncomputable section

namespace Cert.Proof

open Idealize.ShloMosaic Idealize.SL.Sem

theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "score_log2" .f32 0x3E0293EE#32
      (((Real.sqrt 128)⁻¹ * (Real.log 2)⁻¹ : ℝ) : EReal) rfl⟩

/-- Kernel and reference leave the same nine arrays: each is a function of the three arguments alone. -/
theorem algebraic : Cert.algebraic_KernelIdeal_ReferenceIdeal := by
  intro m g m' g' _ h
  refine ⟨fun c => Cert.Attn.oA (Cert.Attn.ax m c) (Cert.Attn.ak m c) (Cert.Attn.av m c), fun c => Cert.Attn.qcA (Cert.Attn.ax m c),
    fun c => Cert.Attn.qsA (Cert.Attn.ax m c), fun c => Cert.Attn.mqA (Cert.Attn.ax m c), fun c => Cert.Attn.kcA (Cert.Attn.ak m c),
    fun c => Cert.Attn.ksA (Cert.Attn.ak m c), fun c => Cert.Attn.mkA (Cert.Attn.ak m c), fun c => Cert.Attn.vcA (Cert.Attn.av m c),
    fun c => Cert.Attn.vsA (Cert.Attn.av m c), Cert.Attn.run_values m g, ?_⟩
  refine (θ_run Cert.ReferenceIdeal.defs _ _).mono (fun r H c => ?_) (Cert.Attn.Ref.run_values m' g')
  have hx : Cert.Attn.Ref.rx m' c = Cert.Attn.ax m c := (h c).1
  have hk : Cert.Attn.Ref.rk m' c = Cert.Attn.ak m c := (h c).2.1
  have hv : Cert.Attn.Ref.rv m' c = Cert.Attn.av m c := (h c).2.2
  have H' := H c
  rw [hx, hk, hv] at H'
  exact H'

theorem claim : Cert.Claim :=
  ⟨Cert.Kernel.Gen.facts, Cert.KernelIdeal.Gen.facts, Cert.ReferenceIdeal.Gen.facts,
    fun m ρ _ => Cert.Attn.Bits.frame m ρ, fun m ρ _ => Cert.Attn.Ideal.frame m ρ,
    fun m ρ _ => Cert.ReferenceIdeal.Gen.frame m ρ, preserves, algebraic⟩

end Cert.Proof

end
